-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_routed_weighted [hPre_routed_weighted : Cert.Pre_routed_weighted.Facts] (m : (ℓ : Loc Cert.KernelIdeal.nD Cert.KernelIdeal.τ Cert.KernelIdeal.sig) → Buf (Elt Ideal) ℓ) : Prop :=
  ∀ c : Dev Cert.KernelIdeal.nD,
    (Cert.Pre_routed_weighted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_routed_weighted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_routed_weighted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_weighted [hPre_routed_weighted : Cert.Pre_routed_weighted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_weighted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_routed_weighted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_routed_weighted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_InProjection (m : (ℓ : Loc Cert.InProjection.nD Cert.InProjection.τ Cert.InProjection.sig) → Buf (Elt Bits) ℓ) : Prop :=
  True

def Pre_InProjectionIdeal (m : (ℓ : Loc Cert.InProjectionIdeal.nD Cert.InProjectionIdeal.τ Cert.InProjectionIdeal.sig) → Buf (Elt Ideal) ℓ) : Prop :=
  True

def Pre_InProjectionReferenceIdeal (m : (ℓ : Loc Cert.InProjectionReferenceIdeal.nD Cert.InProjectionReferenceIdeal.τ Cert.InProjectionReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutProjection (m : (ℓ : Loc Cert.OutProjection.nD Cert.OutProjection.τ Cert.OutProjection.sig) → Buf (Elt Bits) ℓ) : Prop :=
  True

def Pre_OutProjectionIdeal (m : (ℓ : Loc Cert.OutProjectionIdeal.nD Cert.OutProjectionIdeal.τ Cert.OutProjectionIdeal.sig) → Buf (Elt Ideal) ℓ) : Prop :=
  True

def Pre_OutProjectionReferenceIdeal (m : (ℓ : Loc Cert.OutProjectionReferenceIdeal.nD Cert.OutProjectionReferenceIdeal.τ Cert.OutProjectionReferenceIdeal.sig) → Buf (Elt Ideal) ℓ) : Prop :=
  True

def Pre_Collect [hPre_placed : Cert.Pre_placed.Facts] (m : (ℓ : Loc Cert.Collect.nD Cert.Collect.τ Cert.Collect.sig) → Buf (Elt Bits) ℓ) : Prop :=
  ∀ c : Dev Cert.Collect.nD,
    (Cert.Pre_placed.fn (F := Bits) (m ((c.tc : Thread Cert.Collect.nD Cert.Collect.τ).loc Cert.Collect.main_arg0)) (m ((c.tc : Thread Cert.Collect.nD Cert.Collect.τ).loc Cert.Collect.main_arg1)) (m ((c.tc : Thread Cert.Collect.nD Cert.Collect.τ).loc Cert.Collect.main_arg2))) = (fun _ => 1#1)

def Pre_CollectIdeal [hPre_placed : Cert.Pre_placed.Facts] (m : (ℓ : Loc Cert.CollectIdeal.nD Cert.CollectIdeal.τ Cert.CollectIdeal.sig) → Buf (Elt Ideal) ℓ) : Prop :=
  ∀ c : Dev Cert.CollectIdeal.nD,
    (Cert.Pre_placed.fn (F := Ideal) (m ((c.tc : Thread Cert.CollectIdeal.nD Cert.CollectIdeal.τ).loc Cert.CollectIdeal.main_arg0)) (m ((c.tc : Thread Cert.CollectIdeal.nD Cert.CollectIdeal.τ).loc Cert.CollectIdeal.main_arg1)) (m ((c.tc : Thread Cert.CollectIdeal.nD Cert.CollectIdeal.τ).loc Cert.CollectIdeal.main_arg2))) = (fun _ => 1#1)

def Pre_CollectReferenceIdeal (m : (ℓ : Loc Cert.CollectReferenceIdeal.nD Cert.CollectReferenceIdeal.τ Cert.CollectReferenceIdeal.sig) → Buf (Elt Ideal) ℓ) : Prop :=
  True

def Pre_CollectReferenceIdeal_placed [hPre_placed : Cert.Pre_placed.Facts] (m : (ℓ : Loc Cert.CollectReferenceIdeal.nD Cert.CollectReferenceIdeal.τ Cert.CollectReferenceIdeal.sig) → Buf (Elt Ideal) ℓ) : Prop :=
  ∀ c : Dev Cert.CollectReferenceIdeal.nD,
    (Cert.Pre_placed.fn (F := Ideal) (m ((c.tc : Thread Cert.CollectReferenceIdeal.nD Cert.CollectReferenceIdeal.τ).loc Cert.CollectReferenceIdeal.main_arg0)) (m ((c.tc : Thread Cert.CollectReferenceIdeal.nD Cert.CollectReferenceIdeal.τ).loc Cert.CollectReferenceIdeal.main_arg1)) (m ((c.tc : Thread Cert.CollectReferenceIdeal.nD Cert.CollectReferenceIdeal.τ).loc Cert.CollectReferenceIdeal.main_arg2))) = (fun _ => 1#1)

def Pre_CollectReference (m : (ℓ : Loc Cert.CollectReference.nD Cert.CollectReference.τ Cert.CollectReference.sig) → Buf (Elt Bits) ℓ) : Prop :=
  True

def Pre_CollectReference_placed [hPre_placed : Cert.Pre_placed.Facts] (m : (ℓ : Loc Cert.CollectReference.nD Cert.CollectReference.τ Cert.CollectReference.sig) → Buf (Elt Bits) ℓ) : Prop :=
  ∀ c : Dev Cert.CollectReference.nD,
    (Cert.Pre_placed.fn (F := Bits) (m ((c.tc : Thread Cert.CollectReference.nD Cert.CollectReference.τ).loc Cert.CollectReference.main_arg0)) (m ((c.tc : Thread Cert.CollectReference.nD Cert.CollectReference.τ).loc Cert.CollectReference.main_arg1)) (m ((c.tc : Thread Cert.CollectReference.nD Cert.CollectReference.τ).loc Cert.CollectReference.main_arg2))) = (fun _ => 1#1)

def Pre_Dispatch [hPre_inside : Cert.Pre_inside.Facts] (m : (ℓ : Loc Cert.Dispatch.nD Cert.Dispatch.τ Cert.Dispatch.sig) → Buf (Elt Bits) ℓ) : Prop :=
  ∀ c : Dev Cert.Dispatch.nD,
    (Cert.Pre_inside.fn (F := Bits) (m ((c.tc : Thread Cert.Dispatch.nD Cert.Dispatch.τ).loc Cert.Dispatch.main_arg0)) (m ((c.tc : Thread Cert.Dispatch.nD Cert.Dispatch.τ).loc Cert.Dispatch.main_arg1))) = (fun _ => 1#1)

def Pre_Dispatch_apart [hPre_apart : Cert.Pre_apart.Facts] (m : (ℓ : Loc Cert.Dispatch.nD Cert.Dispatch.τ Cert.Dispatch.sig) → Buf (Elt Bits) ℓ) : Prop :=
  ∀ c : Dev Cert.Dispatch.nD,
    (Cert.Pre_apart.fn (F := Bits) (m ((c.tc : Thread Cert.Dispatch.nD Cert.Dispatch.τ).loc Cert.Dispatch.main_arg0)) (m ((c.tc : Thread Cert.Dispatch.nD Cert.Dispatch.τ).loc Cert.Dispatch.main_arg1))) = (fun _ => 1#1)

def Pre_DispatchIdeal [hPre_inside : Cert.Pre_inside.Facts] (m : (ℓ : Loc Cert.DispatchIdeal.nD Cert.DispatchIdeal.τ Cert.DispatchIdeal.sig) → Buf (Elt Ideal) ℓ) : Prop :=
  ∀ c : Dev Cert.DispatchIdeal.nD,
    (Cert.Pre_inside.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1))) = (fun _ => 1#1)

def Pre_DispatchIdeal_apart [hPre_apart : Cert.Pre_apart.Facts] (m : (ℓ : Loc Cert.DispatchIdeal.nD Cert.DispatchIdeal.τ Cert.DispatchIdeal.sig) → Buf (Elt Ideal) ℓ) : Prop :=
  ∀ c : Dev Cert.DispatchIdeal.nD,
    (Cert.Pre_apart.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1))) = (fun _ => 1#1)

def Pre_DispatchReferenceIdeal (m : (ℓ : Loc Cert.DispatchReferenceIdeal.nD Cert.DispatchReferenceIdeal.τ Cert.DispatchReferenceIdeal.sig) → Buf (Elt Ideal) ℓ) : Prop :=
  True

def Pre_DispatchReferenceIdeal_apart [hPre_apart : Cert.Pre_apart.Facts] (m : (ℓ : Loc Cert.DispatchReferenceIdeal.nD Cert.DispatchReferenceIdeal.τ Cert.DispatchReferenceIdeal.sig) → Buf (Elt Ideal) ℓ) : Prop :=
  ∀ c : Dev Cert.DispatchReferenceIdeal.nD,
    (Cert.Pre_apart.fn (F := Ideal) (m ((c.tc : Thread Cert.DispatchReferenceIdeal.nD Cert.DispatchReferenceIdeal.τ).loc Cert.DispatchReferenceIdeal.main_arg0)) (m ((c.tc : Thread Cert.DispatchReferenceIdeal.nD Cert.DispatchReferenceIdeal.τ).loc Cert.DispatchReferenceIdeal.main_arg1))) = (fun _ => 1#1)

def Pre_DispatchReference (m : (ℓ : Loc Cert.DispatchReference.nD Cert.DispatchReference.τ Cert.DispatchReference.sig) → Buf (Elt Bits) ℓ) : Prop :=
  True

def Pre_DispatchReference_apart [hPre_apart : Cert.Pre_apart.Facts] (m : (ℓ : Loc Cert.DispatchReference.nD Cert.DispatchReference.τ Cert.DispatchReference.sig) → Buf (Elt Bits) ℓ) : Prop :=
  ∀ c : Dev Cert.DispatchReference.nD,
    (Cert.Pre_apart.fn (F := Bits) (m ((c.tc : Thread Cert.DispatchReference.nD Cert.DispatchReference.τ).loc Cert.DispatchReference.main_arg0)) (m ((c.tc : Thread Cert.DispatchReference.nD Cert.DispatchReference.τ).loc Cert.DispatchReference.main_arg1))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_routed_weighted [hKernelIdeal : Cert.KernelIdeal.Facts] [hPre_routed_weighted : Cert.Pre_routed_weighted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_weighted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_routed_weighted [hReferenceIdeal : Cert.ReferenceIdeal.Facts] [hPre_routed_weighted : Cert.Pre_routed_weighted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_weighted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InProjection [hInProjection : Cert.InProjection.Facts] : Prop :=
  ∀ (m : (ℓ : Loc Cert.InProjection.nD Cert.InProjection.τ Cert.InProjection.sig) → Buf (Elt Bits) ℓ) (g : Dev Cert.InProjection.nD → PrngReg), Pre_InProjection m →
    θ_run (Cert.InProjection.defs (F := Bits)) (onTc (τ := Cert.InProjection.τ) (Cert.InProjection.main (F := Bits))) ⟨m, fun _ => 0, g⟩ (fun r => (∀ c : Dev Cert.InProjection.nD,
      r.2.mem ((c.tc : Thread Cert.InProjection.nD Cert.InProjection.τ).loc Cert.InProjection.main_arg0) = m ((c.tc : Thread Cert.InProjection.nD Cert.InProjection.τ).loc Cert.InProjection.main_arg0)
      ∧ r.2.mem ((c.tc : Thread Cert.InProjection.nD Cert.InProjection.τ).loc Cert.InProjection.main_arg1) = m ((c.tc : Thread Cert.InProjection.nD Cert.InProjection.τ).loc Cert.InProjection.main_arg1)
      ∧ r.2.mem ((c.tc : Thread Cert.InProjection.nD Cert.InProjection.τ).loc Cert.InProjection.main_arg2) = m ((c.tc : Thread Cert.InProjection.nD Cert.InProjection.τ).loc Cert.InProjection.main_arg2))
      ∧ r.2.sem = fun _ => 0)

def quiescent_InProjectionIdeal [hInProjectionIdeal : Cert.InProjectionIdeal.Facts] : Prop :=
  ∀ (m : (ℓ : Loc Cert.InProjectionIdeal.nD Cert.InProjectionIdeal.τ Cert.InProjectionIdeal.sig) → Buf (Elt Ideal) ℓ) (g : Dev Cert.InProjectionIdeal.nD → PrngReg), Pre_InProjectionIdeal m →
    θ_run (Cert.InProjectionIdeal.defs (F := Ideal)) (onTc (τ := Cert.InProjectionIdeal.τ) (Cert.InProjectionIdeal.main (F := Ideal))) ⟨m, fun _ => 0, g⟩ (fun r => (∀ c : Dev Cert.InProjectionIdeal.nD,
      r.2.mem ((c.tc : Thread Cert.InProjectionIdeal.nD Cert.InProjectionIdeal.τ).loc Cert.InProjectionIdeal.main_arg0) = m ((c.tc : Thread Cert.InProjectionIdeal.nD Cert.InProjectionIdeal.τ).loc Cert.InProjectionIdeal.main_arg0)
      ∧ r.2.mem ((c.tc : Thread Cert.InProjectionIdeal.nD Cert.InProjectionIdeal.τ).loc Cert.InProjectionIdeal.main_arg1) = m ((c.tc : Thread Cert.InProjectionIdeal.nD Cert.InProjectionIdeal.τ).loc Cert.InProjectionIdeal.main_arg1)
      ∧ r.2.mem ((c.tc : Thread Cert.InProjectionIdeal.nD Cert.InProjectionIdeal.τ).loc Cert.InProjectionIdeal.main_arg2) = m ((c.tc : Thread Cert.InProjectionIdeal.nD Cert.InProjectionIdeal.τ).loc Cert.InProjectionIdeal.main_arg2))
      ∧ r.2.sem = fun _ => 0)

def quiescent_InProjectionReferenceIdeal [hInProjectionReferenceIdeal : Cert.InProjectionReferenceIdeal.Facts] : Prop :=
  ∀ (m : (ℓ : Loc Cert.InProjectionReferenceIdeal.nD Cert.InProjectionReferenceIdeal.τ Cert.InProjectionReferenceIdeal.sig) → Buf (Elt Ideal) ℓ) (g : Dev Cert.InProjectionReferenceIdeal.nD → PrngReg), Pre_InProjectionReferenceIdeal m →
    θ_run (Cert.InProjectionReferenceIdeal.defs (F := Ideal)) (onTc (τ := Cert.InProjectionReferenceIdeal.τ) (Cert.InProjectionReferenceIdeal.main (F := Ideal))) ⟨m, fun _ => 0, g⟩ (fun r => (∀ c : Dev Cert.InProjectionReferenceIdeal.nD,
      r.2.mem ((c.tc : Thread Cert.InProjectionReferenceIdeal.nD Cert.InProjectionReferenceIdeal.τ).loc Cert.InProjectionReferenceIdeal.main_arg0) = m ((c.tc : Thread Cert.InProjectionReferenceIdeal.nD Cert.InProjectionReferenceIdeal.τ).loc Cert.InProjectionReferenceIdeal.main_arg0)
      ∧ r.2.mem ((c.tc : Thread Cert.InProjectionReferenceIdeal.nD Cert.InProjectionReferenceIdeal.τ).loc Cert.InProjectionReferenceIdeal.main_arg1) = m ((c.tc : Thread Cert.InProjectionReferenceIdeal.nD Cert.InProjectionReferenceIdeal.τ).loc Cert.InProjectionReferenceIdeal.main_arg1)
      ∧ r.2.mem ((c.tc : Thread Cert.InProjectionReferenceIdeal.nD Cert.InProjectionReferenceIdeal.τ).loc Cert.InProjectionReferenceIdeal.main_arg2) = m ((c.tc : Thread Cert.InProjectionReferenceIdeal.nD Cert.InProjectionReferenceIdeal.τ).loc Cert.InProjectionReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_OutProjection [hOutProjection : Cert.OutProjection.Facts] : Prop :=
  ∀ (m : (ℓ : Loc Cert.OutProjection.nD Cert.OutProjection.τ Cert.OutProjection.sig) → Buf (Elt Bits) ℓ) (g : Dev Cert.OutProjection.nD → PrngReg), Pre_OutProjection m →
    θ_run (Cert.OutProjection.defs (F := Bits)) (onTc (τ := Cert.OutProjection.τ) (Cert.OutProjection.main (F := Bits))) ⟨m, fun _ => 0, g⟩ (fun r => (∀ c : Dev Cert.OutProjection.nD,
      r.2.mem ((c.tc : Thread Cert.OutProjection.nD Cert.OutProjection.τ).loc Cert.OutProjection.main_arg0) = m ((c.tc : Thread Cert.OutProjection.nD Cert.OutProjection.τ).loc Cert.OutProjection.main_arg0)
      ∧ r.2.mem ((c.tc : Thread Cert.OutProjection.nD Cert.OutProjection.τ).loc Cert.OutProjection.main_arg1) = m ((c.tc : Thread Cert.OutProjection.nD Cert.OutProjection.τ).loc Cert.OutProjection.main_arg1)
      ∧ r.2.mem ((c.tc : Thread Cert.OutProjection.nD Cert.OutProjection.τ).loc Cert.OutProjection.main_arg2) = m ((c.tc : Thread Cert.OutProjection.nD Cert.OutProjection.τ).loc Cert.OutProjection.main_arg2))
      ∧ r.2.sem = fun _ => 0)

def quiescent_OutProjectionIdeal [hOutProjectionIdeal : Cert.OutProjectionIdeal.Facts] : Prop :=
  ∀ (m : (ℓ : Loc Cert.OutProjectionIdeal.nD Cert.OutProjectionIdeal.τ Cert.OutProjectionIdeal.sig) → Buf (Elt Ideal) ℓ) (g : Dev Cert.OutProjectionIdeal.nD → PrngReg), Pre_OutProjectionIdeal m →
    θ_run (Cert.OutProjectionIdeal.defs (F := Ideal)) (onTc (τ := Cert.OutProjectionIdeal.τ) (Cert.OutProjectionIdeal.main (F := Ideal))) ⟨m, fun _ => 0, g⟩ (fun r => (∀ c : Dev Cert.OutProjectionIdeal.nD,
      r.2.mem ((c.tc : Thread Cert.OutProjectionIdeal.nD Cert.OutProjectionIdeal.τ).loc Cert.OutProjectionIdeal.main_arg0) = m ((c.tc : Thread Cert.OutProjectionIdeal.nD Cert.OutProjectionIdeal.τ).loc Cert.OutProjectionIdeal.main_arg0)
      ∧ r.2.mem ((c.tc : Thread Cert.OutProjectionIdeal.nD Cert.OutProjectionIdeal.τ).loc Cert.OutProjectionIdeal.main_arg1) = m ((c.tc : Thread Cert.OutProjectionIdeal.nD Cert.OutProjectionIdeal.τ).loc Cert.OutProjectionIdeal.main_arg1)
      ∧ r.2.mem ((c.tc : Thread Cert.OutProjectionIdeal.nD Cert.OutProjectionIdeal.τ).loc Cert.OutProjectionIdeal.main_arg2) = m ((c.tc : Thread Cert.OutProjectionIdeal.nD Cert.OutProjectionIdeal.τ).loc Cert.OutProjectionIdeal.main_arg2))
      ∧ r.2.sem = fun _ => 0)

def quiescent_OutProjectionReferenceIdeal [hOutProjectionReferenceIdeal : Cert.OutProjectionReferenceIdeal.Facts] : Prop :=
  ∀ (m : (ℓ : Loc Cert.OutProjectionReferenceIdeal.nD Cert.OutProjectionReferenceIdeal.τ Cert.OutProjectionReferenceIdeal.sig) → Buf (Elt Ideal) ℓ) (g : Dev Cert.OutProjectionReferenceIdeal.nD → PrngReg), Pre_OutProjectionReferenceIdeal m →
    θ_run (Cert.OutProjectionReferenceIdeal.defs (F := Ideal)) (onTc (τ := Cert.OutProjectionReferenceIdeal.τ) (Cert.OutProjectionReferenceIdeal.main (F := Ideal))) ⟨m, fun _ => 0, g⟩ (fun r => (∀ c : Dev Cert.OutProjectionReferenceIdeal.nD,
      r.2.mem ((c.tc : Thread Cert.OutProjectionReferenceIdeal.nD Cert.OutProjectionReferenceIdeal.τ).loc Cert.OutProjectionReferenceIdeal.main_arg0) = m ((c.tc : Thread Cert.OutProjectionReferenceIdeal.nD Cert.OutProjectionReferenceIdeal.τ).loc Cert.OutProjectionReferenceIdeal.main_arg0)
      ∧ r.2.mem ((c.tc : Thread Cert.OutProjectionReferenceIdeal.nD Cert.OutProjectionReferenceIdeal.τ).loc Cert.OutProjectionReferenceIdeal.main_arg1) = m ((c.tc : Thread Cert.OutProjectionReferenceIdeal.nD Cert.OutProjectionReferenceIdeal.τ).loc Cert.OutProjectionReferenceIdeal.main_arg1)
      ∧ r.2.mem ((c.tc : Thread Cert.OutProjectionReferenceIdeal.nD Cert.OutProjectionReferenceIdeal.τ).loc Cert.OutProjectionReferenceIdeal.main_arg2) = m ((c.tc : Thread Cert.OutProjectionReferenceIdeal.nD Cert.OutProjectionReferenceIdeal.τ).loc Cert.OutProjectionReferenceIdeal.main_arg2))
      ∧ r.2.sem = fun _ => 0)

def quiescent_Collect [hCollect : Cert.Collect.Facts] [hPre_placed : Cert.Pre_placed.Facts] : Prop :=
  ∀ (m : (ℓ : Loc Cert.Collect.nD Cert.Collect.τ Cert.Collect.sig) → Buf (Elt Bits) ℓ) (g : Dev Cert.Collect.nD → PrngReg), Pre_Collect m →
    θ_run (Cert.Collect.defs (F := Bits)) (onTc (τ := Cert.Collect.τ) (Cert.Collect.main (F := Bits))) ⟨m, fun _ => 0, g⟩ (fun r => (∀ c : Dev Cert.Collect.nD,
      r.2.mem ((c.tc : Thread Cert.Collect.nD Cert.Collect.τ).loc Cert.Collect.main_arg0) = m ((c.tc : Thread Cert.Collect.nD Cert.Collect.τ).loc Cert.Collect.main_arg0)
      ∧ r.2.mem ((c.tc : Thread Cert.Collect.nD Cert.Collect.τ).loc Cert.Collect.main_arg1) = m ((c.tc : Thread Cert.Collect.nD Cert.Collect.τ).loc Cert.Collect.main_arg1)
      ∧ r.2.mem ((c.tc : Thread Cert.Collect.nD Cert.Collect.τ).loc Cert.Collect.main_arg2) = m ((c.tc : Thread Cert.Collect.nD Cert.Collect.τ).loc Cert.Collect.main_arg2))
      ∧ r.2.sem = fun _ => 0)

def quiescent_CollectIdeal [hCollectIdeal : Cert.CollectIdeal.Facts] [hPre_placed : Cert.Pre_placed.Facts] : Prop :=
  ∀ (m : (ℓ : Loc Cert.CollectIdeal.nD Cert.CollectIdeal.τ Cert.CollectIdeal.sig) → Buf (Elt Ideal) ℓ) (g : Dev Cert.CollectIdeal.nD → PrngReg), Pre_CollectIdeal m →
    θ_run (Cert.CollectIdeal.defs (F := Ideal)) (onTc (τ := Cert.CollectIdeal.τ) (Cert.CollectIdeal.main (F := Ideal))) ⟨m, fun _ => 0, g⟩ (fun r => (∀ c : Dev Cert.CollectIdeal.nD,
      r.2.mem ((c.tc : Thread Cert.CollectIdeal.nD Cert.CollectIdeal.τ).loc Cert.CollectIdeal.main_arg0) = m ((c.tc : Thread Cert.CollectIdeal.nD Cert.CollectIdeal.τ).loc Cert.CollectIdeal.main_arg0)
      ∧ r.2.mem ((c.tc : Thread Cert.CollectIdeal.nD Cert.CollectIdeal.τ).loc Cert.CollectIdeal.main_arg1) = m ((c.tc : Thread Cert.CollectIdeal.nD Cert.CollectIdeal.τ).loc Cert.CollectIdeal.main_arg1)
      ∧ r.2.mem ((c.tc : Thread Cert.CollectIdeal.nD Cert.CollectIdeal.τ).loc Cert.CollectIdeal.main_arg2) = m ((c.tc : Thread Cert.CollectIdeal.nD Cert.CollectIdeal.τ).loc Cert.CollectIdeal.main_arg2))
      ∧ r.2.sem = fun _ => 0)

def quiescent_CollectReferenceIdeal [hCollectReferenceIdeal : Cert.CollectReferenceIdeal.Facts] : Prop :=
  ∀ (m : (ℓ : Loc Cert.CollectReferenceIdeal.nD Cert.CollectReferenceIdeal.τ Cert.CollectReferenceIdeal.sig) → Buf (Elt Ideal) ℓ) (g : Dev Cert.CollectReferenceIdeal.nD → PrngReg), Pre_CollectReferenceIdeal m →
    θ_run (Cert.CollectReferenceIdeal.defs (F := Ideal)) (onTc (τ := Cert.CollectReferenceIdeal.τ) (Cert.CollectReferenceIdeal.main (F := Ideal))) ⟨m, fun _ => 0, g⟩ (fun r => (∀ c : Dev Cert.CollectReferenceIdeal.nD,
      r.2.mem ((c.tc : Thread Cert.CollectReferenceIdeal.nD Cert.CollectReferenceIdeal.τ).loc Cert.CollectReferenceIdeal.main_arg0) = m ((c.tc : Thread Cert.CollectReferenceIdeal.nD Cert.CollectReferenceIdeal.τ).loc Cert.CollectReferenceIdeal.main_arg0)
      ∧ r.2.mem ((c.tc : Thread Cert.CollectReferenceIdeal.nD Cert.CollectReferenceIdeal.τ).loc Cert.CollectReferenceIdeal.main_arg1) = m ((c.tc : Thread Cert.CollectReferenceIdeal.nD Cert.CollectReferenceIdeal.τ).loc Cert.CollectReferenceIdeal.main_arg1)
      ∧ r.2.mem ((c.tc : Thread Cert.CollectReferenceIdeal.nD Cert.CollectReferenceIdeal.τ).loc Cert.CollectReferenceIdeal.main_arg2) = m ((c.tc : Thread Cert.CollectReferenceIdeal.nD Cert.CollectReferenceIdeal.τ).loc Cert.CollectReferenceIdeal.main_arg2))
      ∧ r.2.sem = fun _ => 0)

def quiescent_CollectReferenceIdeal_pre_placed [hCollectReferenceIdeal : Cert.CollectReferenceIdeal.Facts] [hPre_placed : Cert.Pre_placed.Facts] : Prop :=
  ∀ (m : (ℓ : Loc Cert.CollectReferenceIdeal.nD Cert.CollectReferenceIdeal.τ Cert.CollectReferenceIdeal.sig) → Buf (Elt Ideal) ℓ) (g : Dev Cert.CollectReferenceIdeal.nD → PrngReg), Pre_CollectReferenceIdeal_placed m →
    θ_run (Cert.CollectReferenceIdeal.defs (F := Ideal)) (onTc (τ := Cert.CollectReferenceIdeal.τ) (Cert.CollectReferenceIdeal.main (F := Ideal))) ⟨m, fun _ => 0, g⟩ (fun r => (∀ c : Dev Cert.CollectReferenceIdeal.nD,
      r.2.mem ((c.tc : Thread Cert.CollectReferenceIdeal.nD Cert.CollectReferenceIdeal.τ).loc Cert.CollectReferenceIdeal.main_arg0) = m ((c.tc : Thread Cert.CollectReferenceIdeal.nD Cert.CollectReferenceIdeal.τ).loc Cert.CollectReferenceIdeal.main_arg0)
      ∧ r.2.mem ((c.tc : Thread Cert.CollectReferenceIdeal.nD Cert.CollectReferenceIdeal.τ).loc Cert.CollectReferenceIdeal.main_arg1) = m ((c.tc : Thread Cert.CollectReferenceIdeal.nD Cert.CollectReferenceIdeal.τ).loc Cert.CollectReferenceIdeal.main_arg1)
      ∧ r.2.mem ((c.tc : Thread Cert.CollectReferenceIdeal.nD Cert.CollectReferenceIdeal.τ).loc Cert.CollectReferenceIdeal.main_arg2) = m ((c.tc : Thread Cert.CollectReferenceIdeal.nD Cert.CollectReferenceIdeal.τ).loc Cert.CollectReferenceIdeal.main_arg2))
      ∧ r.2.sem = fun _ => 0)

def quiescent_CollectReference [hCollectReference : Cert.CollectReference.Facts] : Prop :=
  ∀ (m : (ℓ : Loc Cert.CollectReference.nD Cert.CollectReference.τ Cert.CollectReference.sig) → Buf (Elt Bits) ℓ) (g : Dev Cert.CollectReference.nD → PrngReg), Pre_CollectReference m →
    θ_run (Cert.CollectReference.defs (F := Bits)) (onTc (τ := Cert.CollectReference.τ) (Cert.CollectReference.main (F := Bits))) ⟨m, fun _ => 0, g⟩ (fun r => (∀ c : Dev Cert.CollectReference.nD,
      r.2.mem ((c.tc : Thread Cert.CollectReference.nD Cert.CollectReference.τ).loc Cert.CollectReference.main_arg0) = m ((c.tc : Thread Cert.CollectReference.nD Cert.CollectReference.τ).loc Cert.CollectReference.main_arg0)
      ∧ r.2.mem ((c.tc : Thread Cert.CollectReference.nD Cert.CollectReference.τ).loc Cert.CollectReference.main_arg1) = m ((c.tc : Thread Cert.CollectReference.nD Cert.CollectReference.τ).loc Cert.CollectReference.main_arg1)
      ∧ r.2.mem ((c.tc : Thread Cert.CollectReference.nD Cert.CollectReference.τ).loc Cert.CollectReference.main_arg2) = m ((c.tc : Thread Cert.CollectReference.nD Cert.CollectReference.τ).loc Cert.CollectReference.main_arg2))
      ∧ r.2.sem = fun _ => 0)

def quiescent_CollectReference_pre_placed [hCollectReference : Cert.CollectReference.Facts] [hPre_placed : Cert.Pre_placed.Facts] : Prop :=
  ∀ (m : (ℓ : Loc Cert.CollectReference.nD Cert.CollectReference.τ Cert.CollectReference.sig) → Buf (Elt Bits) ℓ) (g : Dev Cert.CollectReference.nD → PrngReg), Pre_CollectReference_placed m →
    θ_run (Cert.CollectReference.defs (F := Bits)) (onTc (τ := Cert.CollectReference.τ) (Cert.CollectReference.main (F := Bits))) ⟨m, fun _ => 0, g⟩ (fun r => (∀ c : Dev Cert.CollectReference.nD,
      r.2.mem ((c.tc : Thread Cert.CollectReference.nD Cert.CollectReference.τ).loc Cert.CollectReference.main_arg0) = m ((c.tc : Thread Cert.CollectReference.nD Cert.CollectReference.τ).loc Cert.CollectReference.main_arg0)
      ∧ r.2.mem ((c.tc : Thread Cert.CollectReference.nD Cert.CollectReference.τ).loc Cert.CollectReference.main_arg1) = m ((c.tc : Thread Cert.CollectReference.nD Cert.CollectReference.τ).loc Cert.CollectReference.main_arg1)
      ∧ r.2.mem ((c.tc : Thread Cert.CollectReference.nD Cert.CollectReference.τ).loc Cert.CollectReference.main_arg2) = m ((c.tc : Thread Cert.CollectReference.nD Cert.CollectReference.τ).loc Cert.CollectReference.main_arg2))
      ∧ r.2.sem = fun _ => 0)

def quiescent_Dispatch [hDispatch : Cert.Dispatch.Facts] [hPre_inside : Cert.Pre_inside.Facts] : Prop :=
  ∀ (m : (ℓ : Loc Cert.Dispatch.nD Cert.Dispatch.τ Cert.Dispatch.sig) → Buf (Elt Bits) ℓ) (g : Dev Cert.Dispatch.nD → PrngReg), Pre_Dispatch m →
    θ_run (Cert.Dispatch.defs (F := Bits)) (onTc (τ := Cert.Dispatch.τ) (Cert.Dispatch.main (F := Bits))) ⟨m, fun _ => 0, g⟩ (fun r => (∀ c : Dev Cert.Dispatch.nD,
      r.2.mem ((c.tc : Thread Cert.Dispatch.nD Cert.Dispatch.τ).loc Cert.Dispatch.main_arg0) = m ((c.tc : Thread Cert.Dispatch.nD Cert.Dispatch.τ).loc Cert.Dispatch.main_arg0)
      ∧ r.2.mem ((c.tc : Thread Cert.Dispatch.nD Cert.Dispatch.τ).loc Cert.Dispatch.main_arg1) = m ((c.tc : Thread Cert.Dispatch.nD Cert.Dispatch.τ).loc Cert.Dispatch.main_arg1))
      ∧ r.2.sem = fun _ => 0)

def quiescent_Dispatch_pre_apart [hDispatch : Cert.Dispatch.Facts] [hPre_apart : Cert.Pre_apart.Facts] : Prop :=
  ∀ (m : (ℓ : Loc Cert.Dispatch.nD Cert.Dispatch.τ Cert.Dispatch.sig) → Buf (Elt Bits) ℓ) (g : Dev Cert.Dispatch.nD → PrngReg), Pre_Dispatch_apart m →
    θ_run (Cert.Dispatch.defs (F := Bits)) (onTc (τ := Cert.Dispatch.τ) (Cert.Dispatch.main (F := Bits))) ⟨m, fun _ => 0, g⟩ (fun r => (∀ c : Dev Cert.Dispatch.nD,
      r.2.mem ((c.tc : Thread Cert.Dispatch.nD Cert.Dispatch.τ).loc Cert.Dispatch.main_arg0) = m ((c.tc : Thread Cert.Dispatch.nD Cert.Dispatch.τ).loc Cert.Dispatch.main_arg0)
      ∧ r.2.mem ((c.tc : Thread Cert.Dispatch.nD Cert.Dispatch.τ).loc Cert.Dispatch.main_arg1) = m ((c.tc : Thread Cert.Dispatch.nD Cert.Dispatch.τ).loc Cert.Dispatch.main_arg1))
      ∧ r.2.sem = fun _ => 0)

def quiescent_DispatchIdeal [hDispatchIdeal : Cert.DispatchIdeal.Facts] [hPre_inside : Cert.Pre_inside.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ r.2.sem = fun _ => 0)

def quiescent_DispatchIdeal_pre_apart [hDispatchIdeal : Cert.DispatchIdeal.Facts] [hPre_apart : Cert.Pre_apart.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal_apart m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ r.2.sem = fun _ => 0)

def quiescent_DispatchReferenceIdeal [hDispatchReferenceIdeal : Cert.DispatchReferenceIdeal.Facts] : Prop :=
  ∀ (m : (ℓ : Loc Cert.DispatchReferenceIdeal.nD Cert.DispatchReferenceIdeal.τ Cert.DispatchReferenceIdeal.sig) → Buf (Elt Ideal) ℓ) (g : Dev Cert.DispatchReferenceIdeal.nD → PrngReg), Pre_DispatchReferenceIdeal m →
    θ_run (Cert.DispatchReferenceIdeal.defs (F := Ideal)) (onTc (τ := Cert.DispatchReferenceIdeal.τ) (Cert.DispatchReferenceIdeal.main (F := Ideal))) ⟨m, fun _ => 0, g⟩ (fun r => (∀ c : Dev Cert.DispatchReferenceIdeal.nD,
      r.2.mem ((c.tc : Thread Cert.DispatchReferenceIdeal.nD Cert.DispatchReferenceIdeal.τ).loc Cert.DispatchReferenceIdeal.main_arg0) = m ((c.tc : Thread Cert.DispatchReferenceIdeal.nD Cert.DispatchReferenceIdeal.τ).loc Cert.DispatchReferenceIdeal.main_arg0)
      ∧ r.2.mem ((c.tc : Thread Cert.DispatchReferenceIdeal.nD Cert.DispatchReferenceIdeal.τ).loc Cert.DispatchReferenceIdeal.main_arg1) = m ((c.tc : Thread Cert.DispatchReferenceIdeal.nD Cert.DispatchReferenceIdeal.τ).loc Cert.DispatchReferenceIdeal.main_arg1))
      ∧ r.2.sem = fun _ => 0)

def quiescent_DispatchReferenceIdeal_pre_apart [hDispatchReferenceIdeal : Cert.DispatchReferenceIdeal.Facts] [hPre_apart : Cert.Pre_apart.Facts] : Prop :=
  ∀ (m : (ℓ : Loc Cert.DispatchReferenceIdeal.nD Cert.DispatchReferenceIdeal.τ Cert.DispatchReferenceIdeal.sig) → Buf (Elt Ideal) ℓ) (g : Dev Cert.DispatchReferenceIdeal.nD → PrngReg), Pre_DispatchReferenceIdeal_apart m →
    θ_run (Cert.DispatchReferenceIdeal.defs (F := Ideal)) (onTc (τ := Cert.DispatchReferenceIdeal.τ) (Cert.DispatchReferenceIdeal.main (F := Ideal))) ⟨m, fun _ => 0, g⟩ (fun r => (∀ c : Dev Cert.DispatchReferenceIdeal.nD,
      r.2.mem ((c.tc : Thread Cert.DispatchReferenceIdeal.nD Cert.DispatchReferenceIdeal.τ).loc Cert.DispatchReferenceIdeal.main_arg0) = m ((c.tc : Thread Cert.DispatchReferenceIdeal.nD Cert.DispatchReferenceIdeal.τ).loc Cert.DispatchReferenceIdeal.main_arg0)
      ∧ r.2.mem ((c.tc : Thread Cert.DispatchReferenceIdeal.nD Cert.DispatchReferenceIdeal.τ).loc Cert.DispatchReferenceIdeal.main_arg1) = m ((c.tc : Thread Cert.DispatchReferenceIdeal.nD Cert.DispatchReferenceIdeal.τ).loc Cert.DispatchReferenceIdeal.main_arg1))
      ∧ r.2.sem = fun _ => 0)

def quiescent_DispatchReference [hDispatchReference : Cert.DispatchReference.Facts] : Prop :=
  ∀ (m : (ℓ : Loc Cert.DispatchReference.nD Cert.DispatchReference.τ Cert.DispatchReference.sig) → Buf (Elt Bits) ℓ) (g : Dev Cert.DispatchReference.nD → PrngReg), Pre_DispatchReference m →
    θ_run (Cert.DispatchReference.defs (F := Bits)) (onTc (τ := Cert.DispatchReference.τ) (Cert.DispatchReference.main (F := Bits))) ⟨m, fun _ => 0, g⟩ (fun r => (∀ c : Dev Cert.DispatchReference.nD,
      r.2.mem ((c.tc : Thread Cert.DispatchReference.nD Cert.DispatchReference.τ).loc Cert.DispatchReference.main_arg0) = m ((c.tc : Thread Cert.DispatchReference.nD Cert.DispatchReference.τ).loc Cert.DispatchReference.main_arg0)
      ∧ r.2.mem ((c.tc : Thread Cert.DispatchReference.nD Cert.DispatchReference.τ).loc Cert.DispatchReference.main_arg1) = m ((c.tc : Thread Cert.DispatchReference.nD Cert.DispatchReference.τ).loc Cert.DispatchReference.main_arg1))
      ∧ r.2.sem = fun _ => 0)

def quiescent_DispatchReference_pre_apart [hDispatchReference : Cert.DispatchReference.Facts] [hPre_apart : Cert.Pre_apart.Facts] : Prop :=
  ∀ (m : (ℓ : Loc Cert.DispatchReference.nD Cert.DispatchReference.τ Cert.DispatchReference.sig) → Buf (Elt Bits) ℓ) (g : Dev Cert.DispatchReference.nD → PrngReg), Pre_DispatchReference_apart m →
    θ_run (Cert.DispatchReference.defs (F := Bits)) (onTc (τ := Cert.DispatchReference.τ) (Cert.DispatchReference.main (F := Bits))) ⟨m, fun _ => 0, g⟩ (fun r => (∀ c : Dev Cert.DispatchReference.nD,
      r.2.mem ((c.tc : Thread Cert.DispatchReference.nD Cert.DispatchReference.τ).loc Cert.DispatchReference.main_arg0) = m ((c.tc : Thread Cert.DispatchReference.nD Cert.DispatchReference.τ).loc Cert.DispatchReference.main_arg0)
      ∧ r.2.mem ((c.tc : Thread Cert.DispatchReference.nD Cert.DispatchReference.τ).loc Cert.DispatchReference.main_arg1) = m ((c.tc : Thread Cert.DispatchReference.nD Cert.DispatchReference.τ).loc Cert.DispatchReference.main_arg1))
      ∧ r.2.sem = fun _ => 0)

def preserves_Kernel_KernelIdeal : Prop :=
  True

def algebraic_KernelIdeal_ReferenceIdeal_pre_routed_weighted [hKernelIdeal : Cert.KernelIdeal.Facts] [hReferenceIdeal : Cert.ReferenceIdeal.Facts] [hPre_routed_weighted : Cert.Pre_routed_weighted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_weighted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InProjection_InProjectionIdeal : Prop :=
  True

def algebraic_InProjectionIdeal_InProjectionReferenceIdeal [hInProjectionIdeal : Cert.InProjectionIdeal.Facts] [hInProjectionReferenceIdeal : Cert.InProjectionReferenceIdeal.Facts] : Prop :=
  ∀ (m : (ℓ : Loc Cert.InProjectionIdeal.nD Cert.InProjectionIdeal.τ Cert.InProjectionIdeal.sig) → Buf (Elt Ideal) ℓ) (g : Dev Cert.InProjectionIdeal.nD → PrngReg)
    (m' : (ℓ : Loc Cert.InProjectionReferenceIdeal.nD Cert.InProjectionReferenceIdeal.τ Cert.InProjectionReferenceIdeal.sig) → Buf (Elt Ideal) ℓ) (g' : Dev Cert.InProjectionReferenceIdeal.nD → PrngReg), Pre_InProjectionIdeal m →
    (∀ c : Dev Cert.InProjectionIdeal.nD,
      m' ((c.tc : Thread Cert.InProjectionReferenceIdeal.nD Cert.InProjectionReferenceIdeal.τ).loc Cert.InProjectionReferenceIdeal.main_arg0) = m ((c.tc : Thread Cert.InProjectionIdeal.nD Cert.InProjectionIdeal.τ).loc Cert.InProjectionIdeal.main_arg0)
      ∧ m' ((c.tc : Thread Cert.InProjectionReferenceIdeal.nD Cert.InProjectionReferenceIdeal.τ).loc Cert.InProjectionReferenceIdeal.main_arg1) = m ((c.tc : Thread Cert.InProjectionIdeal.nD Cert.InProjectionIdeal.τ).loc Cert.InProjectionIdeal.main_arg1)
      ∧ m' ((c.tc : Thread Cert.InProjectionReferenceIdeal.nD Cert.InProjectionReferenceIdeal.τ).loc Cert.InProjectionReferenceIdeal.main_arg2) = m ((c.tc : Thread Cert.InProjectionIdeal.nD Cert.InProjectionIdeal.τ).loc Cert.InProjectionIdeal.main_arg2)) →
    ∃ (v0 : (c : Dev Cert.InProjectionIdeal.nD) → Buf (Elt Ideal) ((c.tc : Thread Cert.InProjectionIdeal.nD Cert.InProjectionIdeal.τ).loc Cert.InProjectionIdeal.main_v3)),
      θ_run (Cert.InProjectionIdeal.defs (F := Ideal)) (onTc (τ := Cert.InProjectionIdeal.τ) (Cert.InProjectionIdeal.main (F := Ideal))) ⟨m, fun _ => 0, g⟩ (fun r => ∀ c : Dev Cert.InProjectionIdeal.nD,
          r.2.mem ((c.tc : Thread Cert.InProjectionIdeal.nD Cert.InProjectionIdeal.τ).loc Cert.InProjectionIdeal.main_v3) = v0 c
          ∧ r.2.mem ((c.tc : Thread Cert.InProjectionIdeal.nD Cert.InProjectionIdeal.τ).loc Cert.InProjectionIdeal.main_arg0) = m ((c.tc : Thread Cert.InProjectionIdeal.nD Cert.InProjectionIdeal.τ).loc Cert.InProjectionIdeal.main_arg0)
          ∧ r.2.mem ((c.tc : Thread Cert.InProjectionIdeal.nD Cert.InProjectionIdeal.τ).loc Cert.InProjectionIdeal.main_arg1) = m ((c.tc : Thread Cert.InProjectionIdeal.nD Cert.InProjectionIdeal.τ).loc Cert.InProjectionIdeal.main_arg1)
          ∧ r.2.mem ((c.tc : Thread Cert.InProjectionIdeal.nD Cert.InProjectionIdeal.τ).loc Cert.InProjectionIdeal.main_arg2) = m ((c.tc : Thread Cert.InProjectionIdeal.nD Cert.InProjectionIdeal.τ).loc Cert.InProjectionIdeal.main_arg2))
      ∧ θ_run (Cert.InProjectionReferenceIdeal.defs (F := Ideal)) (onTc (τ := Cert.InProjectionReferenceIdeal.τ) (Cert.InProjectionReferenceIdeal.main (F := Ideal))) ⟨m', fun _ => 0, g'⟩ (fun r => ∀ c : Dev Cert.InProjectionReferenceIdeal.nD,
          r.2.mem ((c.tc : Thread Cert.InProjectionReferenceIdeal.nD Cert.InProjectionReferenceIdeal.τ).loc Cert.InProjectionReferenceIdeal.main_v15) = v0 c
          ∧ r.2.mem ((c.tc : Thread Cert.InProjectionReferenceIdeal.nD Cert.InProjectionReferenceIdeal.τ).loc Cert.InProjectionReferenceIdeal.main_arg0) = m' ((c.tc : Thread Cert.InProjectionReferenceIdeal.nD Cert.InProjectionReferenceIdeal.τ).loc Cert.InProjectionReferenceIdeal.main_arg0)
          ∧ r.2.mem ((c.tc : Thread Cert.InProjectionReferenceIdeal.nD Cert.InProjectionReferenceIdeal.τ).loc Cert.InProjectionReferenceIdeal.main_arg1) = m' ((c.tc : Thread Cert.InProjectionReferenceIdeal.nD Cert.InProjectionReferenceIdeal.τ).loc Cert.InProjectionReferenceIdeal.main_arg1)
          ∧ r.2.mem ((c.tc : Thread Cert.InProjectionReferenceIdeal.nD Cert.InProjectionReferenceIdeal.τ).loc Cert.InProjectionReferenceIdeal.main_arg2) = m' ((c.tc : Thread Cert.InProjectionReferenceIdeal.nD Cert.InProjectionReferenceIdeal.τ).loc Cert.InProjectionReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v30) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def preserves_OutProjection_OutProjectionIdeal : Prop :=
  True

def algebraic_OutProjectionIdeal_OutProjectionReferenceIdeal [hOutProjectionIdeal : Cert.OutProjectionIdeal.Facts] [hOutProjectionReferenceIdeal : Cert.OutProjectionReferenceIdeal.Facts] : Prop :=
  ∀ (m : (ℓ : Loc Cert.OutProjectionIdeal.nD Cert.OutProjectionIdeal.τ Cert.OutProjectionIdeal.sig) → Buf (Elt Ideal) ℓ) (g : Dev Cert.OutProjectionIdeal.nD → PrngReg)
    (m' : (ℓ : Loc Cert.OutProjectionReferenceIdeal.nD Cert.OutProjectionReferenceIdeal.τ Cert.OutProjectionReferenceIdeal.sig) → Buf (Elt Ideal) ℓ) (g' : Dev Cert.OutProjectionReferenceIdeal.nD → PrngReg), Pre_OutProjectionIdeal m →
    (∀ c : Dev Cert.OutProjectionIdeal.nD,
      m' ((c.tc : Thread Cert.OutProjectionReferenceIdeal.nD Cert.OutProjectionReferenceIdeal.τ).loc Cert.OutProjectionReferenceIdeal.main_arg0) = m ((c.tc : Thread Cert.OutProjectionIdeal.nD Cert.OutProjectionIdeal.τ).loc Cert.OutProjectionIdeal.main_arg0)
      ∧ m' ((c.tc : Thread Cert.OutProjectionReferenceIdeal.nD Cert.OutProjectionReferenceIdeal.τ).loc Cert.OutProjectionReferenceIdeal.main_arg1) = m ((c.tc : Thread Cert.OutProjectionIdeal.nD Cert.OutProjectionIdeal.τ).loc Cert.OutProjectionIdeal.main_arg1)
      ∧ m' ((c.tc : Thread Cert.OutProjectionReferenceIdeal.nD Cert.OutProjectionReferenceIdeal.τ).loc Cert.OutProjectionReferenceIdeal.main_arg2) = m ((c.tc : Thread Cert.OutProjectionIdeal.nD Cert.OutProjectionIdeal.τ).loc Cert.OutProjectionIdeal.main_arg2)) →
    ∃ (v0 : (c : Dev Cert.OutProjectionIdeal.nD) → Buf (Elt Ideal) ((c.tc : Thread Cert.OutProjectionIdeal.nD Cert.OutProjectionIdeal.τ).loc Cert.OutProjectionIdeal.main_v2)),
      θ_run (Cert.OutProjectionIdeal.defs (F := Ideal)) (onTc (τ := Cert.OutProjectionIdeal.τ) (Cert.OutProjectionIdeal.main (F := Ideal))) ⟨m, fun _ => 0, g⟩ (fun r => ∀ c : Dev Cert.OutProjectionIdeal.nD,
          r.2.mem ((c.tc : Thread Cert.OutProjectionIdeal.nD Cert.OutProjectionIdeal.τ).loc Cert.OutProjectionIdeal.main_v2) = v0 c
          ∧ r.2.mem ((c.tc : Thread Cert.OutProjectionIdeal.nD Cert.OutProjectionIdeal.τ).loc Cert.OutProjectionIdeal.main_arg0) = m ((c.tc : Thread Cert.OutProjectionIdeal.nD Cert.OutProjectionIdeal.τ).loc Cert.OutProjectionIdeal.main_arg0)
          ∧ r.2.mem ((c.tc : Thread Cert.OutProjectionIdeal.nD Cert.OutProjectionIdeal.τ).loc Cert.OutProjectionIdeal.main_arg1) = m ((c.tc : Thread Cert.OutProjectionIdeal.nD Cert.OutProjectionIdeal.τ).loc Cert.OutProjectionIdeal.main_arg1)
          ∧ r.2.mem ((c.tc : Thread Cert.OutProjectionIdeal.nD Cert.OutProjectionIdeal.τ).loc Cert.OutProjectionIdeal.main_arg2) = m ((c.tc : Thread Cert.OutProjectionIdeal.nD Cert.OutProjectionIdeal.τ).loc Cert.OutProjectionIdeal.main_arg2))
      ∧ θ_run (Cert.OutProjectionReferenceIdeal.defs (F := Ideal)) (onTc (τ := Cert.OutProjectionReferenceIdeal.τ) (Cert.OutProjectionReferenceIdeal.main (F := Ideal))) ⟨m', fun _ => 0, g'⟩ (fun r => ∀ c : Dev Cert.OutProjectionReferenceIdeal.nD,
          r.2.mem ((c.tc : Thread Cert.OutProjectionReferenceIdeal.nD Cert.OutProjectionReferenceIdeal.τ).loc Cert.OutProjectionReferenceIdeal.main_v3) = v0 c
          ∧ r.2.mem ((c.tc : Thread Cert.OutProjectionReferenceIdeal.nD Cert.OutProjectionReferenceIdeal.τ).loc Cert.OutProjectionReferenceIdeal.main_arg0) = m' ((c.tc : Thread Cert.OutProjectionReferenceIdeal.nD Cert.OutProjectionReferenceIdeal.τ).loc Cert.OutProjectionReferenceIdeal.main_arg0)
          ∧ r.2.mem ((c.tc : Thread Cert.OutProjectionReferenceIdeal.nD Cert.OutProjectionReferenceIdeal.τ).loc Cert.OutProjectionReferenceIdeal.main_arg1) = m' ((c.tc : Thread Cert.OutProjectionReferenceIdeal.nD Cert.OutProjectionReferenceIdeal.τ).loc Cert.OutProjectionReferenceIdeal.main_arg1)
          ∧ r.2.mem ((c.tc : Thread Cert.OutProjectionReferenceIdeal.nD Cert.OutProjectionReferenceIdeal.τ).loc Cert.OutProjectionReferenceIdeal.main_arg2) = m' ((c.tc : Thread Cert.OutProjectionReferenceIdeal.nD Cert.OutProjectionReferenceIdeal.τ).loc Cert.OutProjectionReferenceIdeal.main_arg2))

def preserves_Collect_CollectIdeal : Prop :=
  True

def algebraic_CollectIdeal_CollectReferenceIdeal [hCollectIdeal : Cert.CollectIdeal.Facts] [hCollectReferenceIdeal : Cert.CollectReferenceIdeal.Facts] [hPre_placed : Cert.Pre_placed.Facts] : Prop :=
  ∀ (m : (ℓ : Loc Cert.CollectIdeal.nD Cert.CollectIdeal.τ Cert.CollectIdeal.sig) → Buf (Elt Ideal) ℓ) (g : Dev Cert.CollectIdeal.nD → PrngReg)
    (m' : (ℓ : Loc Cert.CollectReferenceIdeal.nD Cert.CollectReferenceIdeal.τ Cert.CollectReferenceIdeal.sig) → Buf (Elt Ideal) ℓ) (g' : Dev Cert.CollectReferenceIdeal.nD → PrngReg), Pre_CollectIdeal m →
    (∀ c : Dev Cert.CollectIdeal.nD,
      m' ((c.tc : Thread Cert.CollectReferenceIdeal.nD Cert.CollectReferenceIdeal.τ).loc Cert.CollectReferenceIdeal.main_arg0) = m ((c.tc : Thread Cert.CollectIdeal.nD Cert.CollectIdeal.τ).loc Cert.CollectIdeal.main_arg0)
      ∧ m' ((c.tc : Thread Cert.CollectReferenceIdeal.nD Cert.CollectReferenceIdeal.τ).loc Cert.CollectReferenceIdeal.main_arg1) = m ((c.tc : Thread Cert.CollectIdeal.nD Cert.CollectIdeal.τ).loc Cert.CollectIdeal.main_arg1)
      ∧ m' ((c.tc : Thread Cert.CollectReferenceIdeal.nD Cert.CollectReferenceIdeal.τ).loc Cert.CollectReferenceIdeal.main_arg2) = m ((c.tc : Thread Cert.CollectIdeal.nD Cert.CollectIdeal.τ).loc Cert.CollectIdeal.main_arg2)) →
    ∃ (v0 : (c : Dev Cert.CollectIdeal.nD) → Buf (Elt Ideal) ((c.tc : Thread Cert.CollectIdeal.nD Cert.CollectIdeal.τ).loc Cert.CollectIdeal.main_v1)),
      θ_run (Cert.CollectIdeal.defs (F := Ideal)) (onTc (τ := Cert.CollectIdeal.τ) (Cert.CollectIdeal.main (F := Ideal))) ⟨m, fun _ => 0, g⟩ (fun r => ∀ c : Dev Cert.CollectIdeal.nD,
          r.2.mem ((c.tc : Thread Cert.CollectIdeal.nD Cert.CollectIdeal.τ).loc Cert.CollectIdeal.main_v1) = v0 c
          ∧ r.2.mem ((c.tc : Thread Cert.CollectIdeal.nD Cert.CollectIdeal.τ).loc Cert.CollectIdeal.main_arg0) = m ((c.tc : Thread Cert.CollectIdeal.nD Cert.CollectIdeal.τ).loc Cert.CollectIdeal.main_arg0)
          ∧ r.2.mem ((c.tc : Thread Cert.CollectIdeal.nD Cert.CollectIdeal.τ).loc Cert.CollectIdeal.main_arg1) = m ((c.tc : Thread Cert.CollectIdeal.nD Cert.CollectIdeal.τ).loc Cert.CollectIdeal.main_arg1)
          ∧ r.2.mem ((c.tc : Thread Cert.CollectIdeal.nD Cert.CollectIdeal.τ).loc Cert.CollectIdeal.main_arg2) = m ((c.tc : Thread Cert.CollectIdeal.nD Cert.CollectIdeal.τ).loc Cert.CollectIdeal.main_arg2))
      ∧ θ_run (Cert.CollectReferenceIdeal.defs (F := Ideal)) (onTc (τ := Cert.CollectReferenceIdeal.τ) (Cert.CollectReferenceIdeal.main (F := Ideal))) ⟨m', fun _ => 0, g'⟩ (fun r => ∀ c : Dev Cert.CollectReferenceIdeal.nD,
          r.2.mem ((c.tc : Thread Cert.CollectReferenceIdeal.nD Cert.CollectReferenceIdeal.τ).loc Cert.CollectReferenceIdeal.main_v8) = v0 c
          ∧ r.2.mem ((c.tc : Thread Cert.CollectReferenceIdeal.nD Cert.CollectReferenceIdeal.τ).loc Cert.CollectReferenceIdeal.main_arg0) = m' ((c.tc : Thread Cert.CollectReferenceIdeal.nD Cert.CollectReferenceIdeal.τ).loc Cert.CollectReferenceIdeal.main_arg0)
          ∧ r.2.mem ((c.tc : Thread Cert.CollectReferenceIdeal.nD Cert.CollectReferenceIdeal.τ).loc Cert.CollectReferenceIdeal.main_arg1) = m' ((c.tc : Thread Cert.CollectReferenceIdeal.nD Cert.CollectReferenceIdeal.τ).loc Cert.CollectReferenceIdeal.main_arg1)
          ∧ r.2.mem ((c.tc : Thread Cert.CollectReferenceIdeal.nD Cert.CollectReferenceIdeal.τ).loc Cert.CollectReferenceIdeal.main_arg2) = m' ((c.tc : Thread Cert.CollectReferenceIdeal.nD Cert.CollectReferenceIdeal.τ).loc Cert.CollectReferenceIdeal.main_arg2))

def bitexact_Collect_CollectReference [hCollect : Cert.Collect.Facts] [hCollectReference : Cert.CollectReference.Facts] [hPre_placed : Cert.Pre_placed.Facts] : Prop :=
  ∀ (m : (ℓ : Loc Cert.Collect.nD Cert.Collect.τ Cert.Collect.sig) → Buf (Elt Bits) ℓ) (g : Dev Cert.Collect.nD → PrngReg)
    (m' : (ℓ : Loc Cert.CollectReference.nD Cert.CollectReference.τ Cert.CollectReference.sig) → Buf (Elt Bits) ℓ) (g' : Dev Cert.CollectReference.nD → PrngReg), Pre_Collect m →
    (∀ c : Dev Cert.Collect.nD,
      m' ((c.tc : Thread Cert.CollectReference.nD Cert.CollectReference.τ).loc Cert.CollectReference.main_arg0) = m ((c.tc : Thread Cert.Collect.nD Cert.Collect.τ).loc Cert.Collect.main_arg0)
      ∧ m' ((c.tc : Thread Cert.CollectReference.nD Cert.CollectReference.τ).loc Cert.CollectReference.main_arg1) = m ((c.tc : Thread Cert.Collect.nD Cert.Collect.τ).loc Cert.Collect.main_arg1)
      ∧ m' ((c.tc : Thread Cert.CollectReference.nD Cert.CollectReference.τ).loc Cert.CollectReference.main_arg2) = m ((c.tc : Thread Cert.Collect.nD Cert.Collect.τ).loc Cert.Collect.main_arg2)) →
    ∃ (v0 : (c : Dev Cert.Collect.nD) → Buf (Elt Bits) ((c.tc : Thread Cert.Collect.nD Cert.Collect.τ).loc Cert.Collect.main_v1)),
      θ_run (Cert.Collect.defs (F := Bits)) (onTc (τ := Cert.Collect.τ) (Cert.Collect.main (F := Bits))) ⟨m, fun _ => 0, g⟩ (fun r => ∀ c : Dev Cert.Collect.nD,
          r.2.mem ((c.tc : Thread Cert.Collect.nD Cert.Collect.τ).loc Cert.Collect.main_v1) = v0 c
          ∧ r.2.mem ((c.tc : Thread Cert.Collect.nD Cert.Collect.τ).loc Cert.Collect.main_arg0) = m ((c.tc : Thread Cert.Collect.nD Cert.Collect.τ).loc Cert.Collect.main_arg0)
          ∧ r.2.mem ((c.tc : Thread Cert.Collect.nD Cert.Collect.τ).loc Cert.Collect.main_arg1) = m ((c.tc : Thread Cert.Collect.nD Cert.Collect.τ).loc Cert.Collect.main_arg1)
          ∧ r.2.mem ((c.tc : Thread Cert.Collect.nD Cert.Collect.τ).loc Cert.Collect.main_arg2) = m ((c.tc : Thread Cert.Collect.nD Cert.Collect.τ).loc Cert.Collect.main_arg2))
      ∧ θ_run (Cert.CollectReference.defs (F := Bits)) (onTc (τ := Cert.CollectReference.τ) (Cert.CollectReference.main (F := Bits))) ⟨m', fun _ => 0, g'⟩ (fun r => ∀ c : Dev Cert.CollectReference.nD,
          r.2.mem ((c.tc : Thread Cert.CollectReference.nD Cert.CollectReference.τ).loc Cert.CollectReference.main_v8) = v0 c
          ∧ r.2.mem ((c.tc : Thread Cert.CollectReference.nD Cert.CollectReference.τ).loc Cert.CollectReference.main_arg0) = m' ((c.tc : Thread Cert.CollectReference.nD Cert.CollectReference.τ).loc Cert.CollectReference.main_arg0)
          ∧ r.2.mem ((c.tc : Thread Cert.CollectReference.nD Cert.CollectReference.τ).loc Cert.CollectReference.main_arg1) = m' ((c.tc : Thread Cert.CollectReference.nD Cert.CollectReference.τ).loc Cert.CollectReference.main_arg1)
          ∧ r.2.mem ((c.tc : Thread Cert.CollectReference.nD Cert.CollectReference.τ).loc Cert.CollectReference.main_arg2) = m' ((c.tc : Thread Cert.CollectReference.nD Cert.CollectReference.τ).loc Cert.CollectReference.main_arg2))

def preserves_Dispatch_DispatchIdeal : Prop :=
  True

def algebraic_DispatchIdeal_DispatchReferenceIdeal_pre_apart [hDispatchIdeal : Cert.DispatchIdeal.Facts] [hDispatchReferenceIdeal : Cert.DispatchReferenceIdeal.Facts] [hPre_apart : Cert.Pre_apart.Facts] : Prop :=
  ∀ (m : (ℓ : Loc Cert.DispatchIdeal.nD Cert.DispatchIdeal.τ Cert.DispatchIdeal.sig) → Buf (Elt Ideal) ℓ) (g : Dev Cert.DispatchIdeal.nD → PrngReg)
    (m' : (ℓ : Loc Cert.DispatchReferenceIdeal.nD Cert.DispatchReferenceIdeal.τ Cert.DispatchReferenceIdeal.sig) → Buf (Elt Ideal) ℓ) (g' : Dev Cert.DispatchReferenceIdeal.nD → PrngReg), Pre_DispatchIdeal_apart m →
    (∀ c : Dev Cert.DispatchIdeal.nD,
      m' ((c.tc : Thread Cert.DispatchReferenceIdeal.nD Cert.DispatchReferenceIdeal.τ).loc Cert.DispatchReferenceIdeal.main_arg0) = m ((c.tc : Thread Cert.DispatchIdeal.nD Cert.DispatchIdeal.τ).loc Cert.DispatchIdeal.main_arg0)
      ∧ m' ((c.tc : Thread Cert.DispatchReferenceIdeal.nD Cert.DispatchReferenceIdeal.τ).loc Cert.DispatchReferenceIdeal.main_arg1) = m ((c.tc : Thread Cert.DispatchIdeal.nD Cert.DispatchIdeal.τ).loc Cert.DispatchIdeal.main_arg1)) →
    ∃ (v0 : (c : Dev Cert.DispatchIdeal.nD) → Buf (Elt Ideal) ((c.tc : Thread Cert.DispatchIdeal.nD Cert.DispatchIdeal.τ).loc Cert.DispatchIdeal.main_v1)),
      θ_run (Cert.DispatchIdeal.defs (F := Ideal)) (onTc (τ := Cert.DispatchIdeal.τ) (Cert.DispatchIdeal.main (F := Ideal))) ⟨m, fun _ => 0, g⟩ (fun r => ∀ c : Dev Cert.DispatchIdeal.nD,
          r.2.mem ((c.tc : Thread Cert.DispatchIdeal.nD Cert.DispatchIdeal.τ).loc Cert.DispatchIdeal.main_v1) = v0 c
          ∧ r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
          ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ θ_run (Cert.DispatchReferenceIdeal.defs (F := Ideal)) (onTc (τ := Cert.DispatchReferenceIdeal.τ) (Cert.DispatchReferenceIdeal.main (F := Ideal))) ⟨m', fun _ => 0, g'⟩ (fun r => ∀ c : Dev Cert.DispatchReferenceIdeal.nD,
          r.2.mem ((c.tc : Thread Cert.DispatchReferenceIdeal.nD Cert.DispatchReferenceIdeal.τ).loc Cert.DispatchReferenceIdeal.main_v7) = v0 c
          ∧ r.2.mem ((c.tc : Thread Cert.DispatchReferenceIdeal.nD Cert.DispatchReferenceIdeal.τ).loc Cert.DispatchReferenceIdeal.main_arg0) = m' ((c.tc : Thread Cert.DispatchReferenceIdeal.nD Cert.DispatchReferenceIdeal.τ).loc Cert.DispatchReferenceIdeal.main_arg0)
          ∧ r.2.mem ((c.tc : Thread Cert.DispatchReferenceIdeal.nD Cert.DispatchReferenceIdeal.τ).loc Cert.DispatchReferenceIdeal.main_arg1) = m' ((c.tc : Thread Cert.DispatchReferenceIdeal.nD Cert.DispatchReferenceIdeal.τ).loc Cert.DispatchReferenceIdeal.main_arg1))

def bitexact_Dispatch_DispatchReference_pre_apart [hDispatch : Cert.Dispatch.Facts] [hDispatchReference : Cert.DispatchReference.Facts] [hPre_apart : Cert.Pre_apart.Facts] : Prop :=
  ∀ (m : (ℓ : Loc Cert.Dispatch.nD Cert.Dispatch.τ Cert.Dispatch.sig) → Buf (Elt Bits) ℓ) (g : Dev Cert.Dispatch.nD → PrngReg)
    (m' : (ℓ : Loc Cert.DispatchReference.nD Cert.DispatchReference.τ Cert.DispatchReference.sig) → Buf (Elt Bits) ℓ) (g' : Dev Cert.DispatchReference.nD → PrngReg), Pre_Dispatch_apart m →
    (∀ c : Dev Cert.Dispatch.nD,
      m' ((c.tc : Thread Cert.DispatchReference.nD Cert.DispatchReference.τ).loc Cert.DispatchReference.main_arg0) = m ((c.tc : Thread Cert.Dispatch.nD Cert.Dispatch.τ).loc Cert.Dispatch.main_arg0)
      ∧ m' ((c.tc : Thread Cert.DispatchReference.nD Cert.DispatchReference.τ).loc Cert.DispatchReference.main_arg1) = m ((c.tc : Thread Cert.Dispatch.nD Cert.Dispatch.τ).loc Cert.Dispatch.main_arg1)) →
    ∃ (v0 : (c : Dev Cert.Dispatch.nD) → Buf (Elt Bits) ((c.tc : Thread Cert.Dispatch.nD Cert.Dispatch.τ).loc Cert.Dispatch.main_v1)),
      θ_run (Cert.Dispatch.defs (F := Bits)) (onTc (τ := Cert.Dispatch.τ) (Cert.Dispatch.main (F := Bits))) ⟨m, fun _ => 0, g⟩ (fun r => ∀ c : Dev Cert.Dispatch.nD,
          r.2.mem ((c.tc : Thread Cert.Dispatch.nD Cert.Dispatch.τ).loc Cert.Dispatch.main_v1) = v0 c
          ∧ r.2.mem ((c.tc : Thread Cert.Dispatch.nD Cert.Dispatch.τ).loc Cert.Dispatch.main_arg0) = m ((c.tc : Thread Cert.Dispatch.nD Cert.Dispatch.τ).loc Cert.Dispatch.main_arg0)
          ∧ r.2.mem ((c.tc : Thread Cert.Dispatch.nD Cert.Dispatch.τ).loc Cert.Dispatch.main_arg1) = m ((c.tc : Thread Cert.Dispatch.nD Cert.Dispatch.τ).loc Cert.Dispatch.main_arg1))
      ∧ θ_run (Cert.DispatchReference.defs (F := Bits)) (onTc (τ := Cert.DispatchReference.τ) (Cert.DispatchReference.main (F := Bits))) ⟨m', fun _ => 0, g'⟩ (fun r => ∀ c : Dev Cert.DispatchReference.nD,
          r.2.mem ((c.tc : Thread Cert.DispatchReference.nD Cert.DispatchReference.τ).loc Cert.DispatchReference.main_v7) = v0 c
          ∧ r.2.mem ((c.tc : Thread Cert.DispatchReference.nD Cert.DispatchReference.τ).loc Cert.DispatchReference.main_arg0) = m' ((c.tc : Thread Cert.DispatchReference.nD Cert.DispatchReference.τ).loc Cert.DispatchReference.main_arg0)
          ∧ r.2.mem ((c.tc : Thread Cert.DispatchReference.nD Cert.DispatchReference.τ).loc Cert.DispatchReference.main_arg1) = m' ((c.tc : Thread Cert.DispatchReference.nD Cert.DispatchReference.τ).loc Cert.DispatchReference.main_arg1))

def Claim : Prop :=
  ∃ (hKernel : Cert.Kernel.Facts) (hKernelIdeal : Cert.KernelIdeal.Facts) (hReferenceIdeal : Cert.ReferenceIdeal.Facts) (hInProjection : Cert.InProjection.Facts) (hInProjectionIdeal : Cert.InProjectionIdeal.Facts) (hInProjectionReferenceIdeal : Cert.InProjectionReferenceIdeal.Facts) (hMerge : Cert.Merge.Facts) (hMergeIdeal : Cert.MergeIdeal.Facts) (hMergeReferenceIdeal : Cert.MergeReferenceIdeal.Facts) (hOutProjection : Cert.OutProjection.Facts) (hOutProjectionIdeal : Cert.OutProjectionIdeal.Facts) (hOutProjectionReferenceIdeal : Cert.OutProjectionReferenceIdeal.Facts) (hCollect : Cert.Collect.Facts) (hCollectIdeal : Cert.CollectIdeal.Facts) (hCollectReferenceIdeal : Cert.CollectReferenceIdeal.Facts) (hCollectReference : Cert.CollectReference.Facts) (hDispatch : Cert.Dispatch.Facts) (hDispatchIdeal : Cert.DispatchIdeal.Facts) (hDispatchReferenceIdeal : Cert.DispatchReferenceIdeal.Facts) (hDispatchReference : Cert.DispatchReference.Facts) (hPre_routed : Cert.Pre_routed.Facts) (hPre_routed_weighted : Cert.Pre_routed_weighted.Facts) (hPre_placed : Cert.Pre_placed.Facts) (hPre_inside : Cert.Pre_inside.Facts) (hPre_apart : Cert.Pre_apart.Facts),
    quiescent_Kernel (hKernel := hKernel) (hPre_routed := hPre_routed)
    ∧ quiescent_KernelIdeal (hKernelIdeal := hKernelIdeal) (hPre_routed := hPre_routed)
    ∧ quiescent_KernelIdeal_pre_routed_weighted (hKernelIdeal := hKernelIdeal) (hPre_routed_weighted := hPre_routed_weighted)
    ∧ quiescent_ReferenceIdeal (hReferenceIdeal := hReferenceIdeal)
    ∧ quiescent_ReferenceIdeal_pre_routed_weighted (hReferenceIdeal := hReferenceIdeal) (hPre_routed_weighted := hPre_routed_weighted)
    ∧ quiescent_InProjection (hInProjection := hInProjection)
    ∧ quiescent_InProjectionIdeal (hInProjectionIdeal := hInProjectionIdeal)
    ∧ quiescent_InProjectionReferenceIdeal (hInProjectionReferenceIdeal := hInProjectionReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_OutProjection (hOutProjection := hOutProjection)
    ∧ quiescent_OutProjectionIdeal (hOutProjectionIdeal := hOutProjectionIdeal)
    ∧ quiescent_OutProjectionReferenceIdeal (hOutProjectionReferenceIdeal := hOutProjectionReferenceIdeal)
    ∧ quiescent_Collect (hCollect := hCollect) (hPre_placed := hPre_placed)
    ∧ quiescent_CollectIdeal (hCollectIdeal := hCollectIdeal) (hPre_placed := hPre_placed)
    ∧ quiescent_CollectReferenceIdeal (hCollectReferenceIdeal := hCollectReferenceIdeal)
    ∧ quiescent_CollectReferenceIdeal_pre_placed (hCollectReferenceIdeal := hCollectReferenceIdeal) (hPre_placed := hPre_placed)
    ∧ quiescent_CollectReference (hCollectReference := hCollectReference)
    ∧ quiescent_CollectReference_pre_placed (hCollectReference := hCollectReference) (hPre_placed := hPre_placed)
    ∧ quiescent_Dispatch (hDispatch := hDispatch) (hPre_inside := hPre_inside)
    ∧ quiescent_Dispatch_pre_apart (hDispatch := hDispatch) (hPre_apart := hPre_apart)
    ∧ quiescent_DispatchIdeal (hDispatchIdeal := hDispatchIdeal) (hPre_inside := hPre_inside)
    ∧ quiescent_DispatchIdeal_pre_apart (hDispatchIdeal := hDispatchIdeal) (hPre_apart := hPre_apart)
    ∧ quiescent_DispatchReferenceIdeal (hDispatchReferenceIdeal := hDispatchReferenceIdeal)
    ∧ quiescent_DispatchReferenceIdeal_pre_apart (hDispatchReferenceIdeal := hDispatchReferenceIdeal) (hPre_apart := hPre_apart)
    ∧ quiescent_DispatchReference (hDispatchReference := hDispatchReference)
    ∧ quiescent_DispatchReference_pre_apart (hDispatchReference := hDispatchReference) (hPre_apart := hPre_apart)
    ∧ preserves_Kernel_KernelIdeal
    ∧ algebraic_KernelIdeal_ReferenceIdeal_pre_routed_weighted (hKernelIdeal := hKernelIdeal) (hReferenceIdeal := hReferenceIdeal) (hPre_routed_weighted := hPre_routed_weighted)
    ∧ preserves_InProjection_InProjectionIdeal
    ∧ algebraic_InProjectionIdeal_InProjectionReferenceIdeal (hInProjectionIdeal := hInProjectionIdeal) (hInProjectionReferenceIdeal := hInProjectionReferenceIdeal)
    ∧ preserves_Merge_MergeIdeal
    ∧ algebraic_MergeIdeal_MergeReferenceIdeal (hMergeIdeal := hMergeIdeal) (hMergeReferenceIdeal := hMergeReferenceIdeal)
    ∧ preserves_OutProjection_OutProjectionIdeal
    ∧ algebraic_OutProjectionIdeal_OutProjectionReferenceIdeal (hOutProjectionIdeal := hOutProjectionIdeal) (hOutProjectionReferenceIdeal := hOutProjectionReferenceIdeal)
    ∧ preserves_Collect_CollectIdeal
    ∧ algebraic_CollectIdeal_CollectReferenceIdeal (hCollectIdeal := hCollectIdeal) (hCollectReferenceIdeal := hCollectReferenceIdeal) (hPre_placed := hPre_placed)
    ∧ bitexact_Collect_CollectReference (hCollect := hCollect) (hCollectReference := hCollectReference) (hPre_placed := hPre_placed)
    ∧ preserves_Dispatch_DispatchIdeal
    ∧ algebraic_DispatchIdeal_DispatchReferenceIdeal_pre_apart (hDispatchIdeal := hDispatchIdeal) (hDispatchReferenceIdeal := hDispatchReferenceIdeal) (hPre_apart := hPre_apart)
    ∧ bitexact_Dispatch_DispatchReference_pre_apart (hDispatch := hDispatch) (hDispatchReference := hDispatchReference) (hPre_apart := hPre_apart)
-- ==== Pre_apart.lean ====
abbrev S32768 : Shape := ⟨1, ![32768]⟩
abbrev S32768x2304 : Shape := ⟨2, ![32768, 2304]⟩
abbrev S_ : Shape := ⟨0, ![]⟩
abbrev S45056 : Shape := ⟨1, ![45056]⟩
abbrev S32768x1 : Shape := ⟨2, ![32768, 1]⟩

class Facts : Prop where
  bcast_S_S45056 : S_.BroadcastsInDim S45056 (![] : Fin 0 → Fin S45056.rank)
  bcast_S_S32768 : S_.BroadcastsInDim S32768 (![] : Fin 0 → Fin S32768.rank)
  bcast_S32768_S32768x1_0 : S32768.BroadcastsInDim S32768x1 (![0] : Fin 1 → Fin S32768x1.rank)
  scatter_S45056_S32768x1_S32768_n_0_0_1_wf : ScatterDims.WF S45056 S32768x1 S32768 [] [0] [0] 1
  gather_S45056_S32768x1_S32768_n_0_n_n_0_1_1_wf : GatherDims.WF S45056 S32768x1 S32768 [] [0] [] [0] [] 1 ![1]

variable [Facts]

def scatter_S45056_S32768x1_S32768_n_0_0_1 : ScatterDims S45056 S32768x1 S32768 where
  updateWindowDims := []
  insertedWindowDims := [0]
  scatterDimsToOperandDims := [0]
  indexVectorDim := 1
  wf := scatter_S45056_S32768x1_S32768_n_0_0_1_wf
def gather_S45056_S32768x1_S32768_n_0_n_n_0_1_1 : GatherDims S45056 S32768x1 S32768 where
  offsetDims := []
  collapsedSliceDims := [0]
  operandBatchingDims := []
  startIndicesBatchingDims := []
  startIndexMap := [0]
  indexVectorDim := 1
  sliceSizes := ![1]
  wf := gather_S45056_S32768x1_S32768_n_0_n_n_0_1_1_wf
def fn_part1 {F : FTy → Type} [FloatOps F] (main_arg0 : IVec S32768 32) (main_v0 : IVec S32768 32) (main_v8 : IVec S45056 32) (main_v13 : IVec S32768 1) (main_v15 : IVec S32768 1) (main_v16 : IVec S32768 32) : IVec S32768 1 :=
  let main_v17 : IVec S32768 32 := addi main_arg0 main_v16
  let main_v18 : IVec S32768 32 := select main_v15 main_v17 main_arg0
  let main_v19 : IVec S32768x1 32 := broadcastInDim S32768x1 ![0] bcast_S32768_S32768x1_0 main_v18
  let main_v20 : IVec S32768 32 := (fun x i => Host.gather gather_S45056_S32768x1_S32768_n_0_n_n_0_1_1 x i) main_v8 main_v19
  let main_v21 : IVec S32768 1 := cmpi .eq main_v20 main_v0
  let main_v22 : IVec S32768 1 := andi main_v13 main_v21
  main_v22

def fn {F : FTy → Type} [FloatOps F] (main_arg0 : IVec S32768 32) (main_arg1 : FVec F S32768x2304 .f32) : IVec S32768 1 :=
  let main_v0 : IVec S32768 32 := iotaInDim S32768 32 0
  let main_c : IVec S_ 32 := constantI S_ 32 0#32
  let main_v1 : IVec S45056 32 := broadcastInDim S45056 ![] bcast_S_S45056 main_c
  let main_c_0 : IVec S_ 32 := constantI S_ 32 0#32
  let main_v2 : IVec S32768 32 := broadcastInDim S32768 ![] bcast_S_S32768 main_c_0
  let main_v3 : IVec S32768 1 := cmpi .slt main_arg0 main_v2
  let main_c_1 : IVec S_ 32 := constantI S_ 32 45056#32
  let main_v4 : IVec S32768 32 := broadcastInDim S32768 ![] bcast_S_S32768 main_c_1
  let main_v5 : IVec S32768 32 := addi main_arg0 main_v4
  let main_v6 : IVec S32768 32 := select main_v3 main_v5 main_arg0
  let main_v7 : IVec S32768x1 32 := broadcastInDim S32768x1 ![0] bcast_S32768_S32768x1_0 main_v6
  let main_v8 : IVec S45056 32 := (fun x i u => Host.scatter scatter_S45056_S32768x1_S32768_n_0_0_1 (fun _ b => b) x i u) main_v1 main_v7 main_v0
  let main_c_2 : IVec S_ 32 := constantI S_ 32 0#32
  let main_v9 : IVec S32768 32 := broadcastInDim S32768 ![] bcast_S_S32768 main_c_2
  let main_v10 : IVec S32768 1 := cmpi .sge main_arg0 main_v9
  let main_c_3 : IVec S_ 32 := constantI S_ 32 45056#32
  let main_v11 : IVec S32768 32 := broadcastInDim S32768 ![] bcast_S_S32768 main_c_3
  let main_v12 : IVec S32768 1 := cmpi .slt main_arg0 main_v11
  let main_v13 : IVec S32768 1 := andi main_v10 main_v12
  let main_c_4 : IVec S_ 32 := constantI S_ 32 0#32
  let main_v14 : IVec S32768 32 := broadcastInDim S32768 ![] bcast_S_S32768 main_c_4
  let main_v15 : IVec S32768 1 := cmpi .slt main_arg0 main_v14
  let main_c_5 : IVec S_ 32 := constantI S_ 32 45056#32
  let main_v16 : IVec S32768 32 := broadcastInDim S32768 ![] bcast_S_S32768 main_c_5
  fn_part1 (F := F) main_arg0 main_v0 main_v8 main_v13 main_v15 main_v16
-- ==== Pre_inside.lean ====
abbrev S32768 : Shape := ⟨1, ![32768]⟩
abbrev S32768x2304 : Shape := ⟨2, ![32768, 2304]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : IVec S32768 32) (main_arg1 : FVec F S32768x2304 .f32) : IVec S32768 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 32 := constantI S_ 32 45056#32
  let main_v2 : IVec S32768 32 := broadcastInDim S32768 ![] bcast_S_S32768 main_c_0
  let main_v3 : IVec S32768 1 := cmpi .slt main_arg0 main_v2
  let main_v4 : IVec S32768 1 := andi main_v1 main_v3
  main_v4
-- ==== Pre_placed.lean ====
abbrev S32768 : Shape := ⟨1, ![32768]⟩
abbrev S45056x2048 : Shape := ⟨2, ![45056, 2048]⟩
abbrev S8x4096x2048 : Shape := ⟨3, ![8, 4096, 2048]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : IVec S32768 32) (main_arg1 : FVec F S45056x2048 .f32) (main_arg2 : FVec F S8x4096x2048 .f32) : IVec S32768 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 32 := constantI S_ 32 45056#32
  let main_v2 : IVec S32768 32 := broadcastInDim S32768 ![] bcast_S_S32768 main_c_0
  let main_v3 : IVec S32768 1 := cmpi .slt main_arg0 main_v2
  let main_v4 : IVec S32768 1 := andi main_v1 main_v3
  main_v4
-- ==== Pre_routed.lean ====
abbrev S176 : Shape := ⟨1, ![176]⟩
abbrev S88 : Shape := ⟨1, ![88]⟩
abbrev S45056x2304 : Shape := ⟨2, ![45056, 2304]⟩
abbrev S2x16x2048x1024 : Shape := ⟨4, ![2, 16, 2048, 1024]⟩
abbrev S2x16x1024x2048 : Shape := ⟨4, ![2, 16, 1024, 2048]⟩
abbrev S_ : Shape := ⟨0, ![]⟩

class Facts : Prop where
  bcast_S_S176 : S_.BroadcastsInDim S176 (![] : Fin 0 → Fin S176.rank)

variable [Facts]

def fn {F : FTy → Type} [FloatOps F] (main_arg0 : IVec S176 32) (main_arg1 : IVec S88 32) (main_arg2 : FVec F S45056x2304 .f32) (main_arg3 : FVec F S2x16x2048x1024 .f32) (main_arg4 : FVec F S2x16x2048x1024 .f32) (main_arg5 : FVec F S2x16x1024x2048 .f32) : IVec S176 1 :=
  let main_c : IVec S_ 32 := constantI S_ 32 0#32
  let main_v0 : IVec S176 32 := broadcastInDim S176 ![] bcast_S_S176 main_c
  let main_v1 : IVec S176 1 := cmpi .sge main_arg0 main_v0
  let main_c_0 : IVec S_ 32 := constantI S_ 32 16#32
  let main_v2 : IVec S176 32 := broadcastInDim S176 ![] bcast_S_S176 main_c_0
  let main_v3 : IVec S176 1 := cmpi .slt main_arg0 main_v2
  let main_v4 : IVec S176 1 := andi main_v1 main_v3
  main_v4
-- ==== Pre_routed_weighted.lean ====
abbrev S176 : Shape := ⟨1, ![176]⟩
abbrev S88 : Shape := ⟨1, ![88]⟩
abbrev S45056x2304 : Shape := ⟨2, ![45056, 2304]⟩
abbrev S2x16x2048x1024 : Shape := ⟨4, ![2, 16, 2048, 1024]⟩
abbrev S2x16x1024x2048 : Shape := ⟨4, ![2, 16, 1024, 2048]⟩
abbrev S45056x1 : Shape := ⟨2, ![45056, 1]⟩
abbrev S_ : Shape := ⟨0, ![]⟩

class Facts : Prop where
  slices_S45056x2304_S45056x1_0_2048 : S45056x2304.Slices ![0, 2048] S45056x1
  slices_S45056x2304_S45056x1_0_2176 : S45056x2304.Slices ![0, 2176] S45056x1
  bcast_S_S176 : S_.BroadcastsInDim S176 (![] : Fin 0 → Fin S176.rank)
  bcast_S_S45056x1 : S_.BroadcastsInDim S45056x1 (![] : Fin 0 → Fin S45056x1.rank)

variable [Facts]

def fn {F : FTy → Type} [FloatOps F] (main_arg0 : IVec S176 32) (main_arg1 : IVec S88 32) (main_arg2 : FVec F S45056x2304 .f32) (main_arg3 : FVec F S2x16x2048x1024 .f32) (main_arg4 : FVec F S2x16x2048x1024 .f32) (main_arg5 : FVec F S2x16x1024x2048 .f32) : IVec S176 1 × IVec S45056x1 1 × IVec S45056x1 1 :=
  let main_v0 : FVec F S45056x1 .f32 := (extractStridedSlice S45056x1 ![0, 2048] · slices_S45056x2304_S45056x1_0_2048) main_arg2
  let main_v1 : FVec F S45056x1 .f32 := (extractStridedSlice S45056x1 ![0, 2176] · slices_S45056x2304_S45056x1_0_2176) main_arg2
  let main_c : IVec S_ 32 := constantI S_ 32 0#32
  let main_v2 : IVec S176 32 := broadcastInDim S176 ![] bcast_S_S176 main_c
  let main_v3 : IVec S176 1 := cmpi .sge main_arg0 main_v2
  let main_c_0 : IVec S_ 32 := constantI S_ 32 16#32
  let main_v4 : IVec S176 32 := broadcastInDim S176 ![] bcast_S_S176 main_c_0
  let main_v5 : IVec S176 1 := cmpi .slt main_arg0 main_v4
  let main_v6 : IVec S176 1 := andi main_v3 main_v5
  let main_cst : FVec F S_ .f32 := constant S_ .f32 0x00000000#32
  let main_v7 : FVec F S45056x1 .f32 := broadcastInDim S45056x1 ![] bcast_S_S45056x1 main_cst
  let main_v8 : IVec S45056x1 1 := cmpf .oge main_v0 main_v7
  let main_cst_1 : FVec F S_ .f32 := constant S_ .f32 0x7F800000#32
  let main_v9 : FVec F S45056x1 .f32 := broadcastInDim S45056x1 ![] bcast_S_S45056x1 main_cst_1
  let main_v10 : IVec S45056x1 1 := cmpf .olt main_v0 main_v9
  let main_v11 : IVec S45056x1 1 := andi main_v8 main_v10
  let main_cst_2 : FVec F S_ .f32 := constant S_ .f32 0x00000000#32
  let main_v12 : FVec F S45056x1 .f32 := broadcastInDim S45056x1 ![] bcast_S_S45056x1 main_cst_2
  let main_v13 : IVec S45056x1 1 := cmpf .oge main_v1 main_v12
  let main_cst_3 : FVec F S_ .f32 := constant S_ .f32 0x7F800000#32
  let main_v14 : FVec F S45056x1 .f32 := broadcastInDim S45056x1 ![] bcast_S_S45056x1 main_cst_3
  let main_v15 : IVec S45056x1 1 := cmpf .olt main_v1 main_v14
  let main_v16 : IVec S45056x1 1 := andi main_v13 main_v15
  (main_v6, main_v11, main_v16)
-- ==== Kernel.lean ====
abbrev S176 : Shape := ⟨1, ![176]⟩
abbrev S88 : Shape := ⟨1, ![88]⟩
abbrev S45056x2304 : Shape := ⟨2, ![45056, 2304]⟩
abbrev S2x16x2048x1024 : Shape := ⟨4, ![2, 16, 2048, 1024]⟩
abbrev S2x16x1024x2048 : Shape := ⟨4, ![2, 16, 1024, 2048]⟩
abbrev S32x2048x1024 : Shape := ⟨3, ![32, 2048, 1024]⟩
abbrev S32x1024x2048 : Shape := ⟨3, ![32, 1024, 2048]⟩
abbrev S_ : Shape := ⟨0, ![]⟩
abbrev S45056x2048 : Shape := ⟨2, ![45056, 2048]⟩
abbrev S512x2304 : Shape := ⟨2, ![512, 2304]⟩
abbrev S1x2048x512 : Shape := ⟨3, ![1, 2048, 512]⟩
abbrev S1 : Shape := ⟨1, ![1]⟩
abbrev S1x512x2048 : Shape := ⟨3, ![1, 512, 2048]⟩
abbrev S512x2048 : Shape := ⟨2, ![512, 2048]⟩
abbrev S2048x512 : Shape := ⟨2, ![2048, 512]⟩
abbrev S512x512 : Shape := ⟨2, ![512, 512]⟩
abbrev S512x1 : Shape := ⟨2, ![512, 1]⟩

abbrev nBuf : Space → Nat
  | .hbm => 14
  | .vmem => 11
  | .smem => 2
  | _ => 0

abbrev bufTy : (tb : Table) → Fin (tcTables nBuf tb) → BufTy
  | .hbm, ⟨0, _⟩ => ⟨S176, .i32⟩
  | .hbm, ⟨1, _⟩ => ⟨S45056x2304, .f32⟩
  | .hbm, ⟨2, _⟩ => ⟨S2x16x2048x1024, .f32⟩
  | .hbm, ⟨3, _⟩ => ⟨S2x16x2048x1024, .f32⟩
  | .hbm, ⟨4, _⟩ => ⟨S2x16x1024x2048, .f32⟩
  | .hbm, ⟨5, _⟩ => ⟨S2x16x2048x1024, .bf16⟩
  | .hbm, ⟨6, _⟩ => ⟨S32x2048x1024, .bf16⟩
  | .hbm, ⟨7, _⟩ => ⟨S2x16x2048x1024, .bf16⟩
  | .hbm, ⟨8, _⟩ => ⟨S32x2048x1024, .bf16⟩
  | .hbm, ⟨9, _⟩ => ⟨S2x16x1024x2048, .bf16⟩
  | .hbm, ⟨10, _⟩ => ⟨S32x1024x2048, .bf16⟩
  | .hbm, ⟨11, _⟩ => ⟨S_, .i32⟩
  | .hbm, ⟨12, _⟩ => ⟨S176, .i32⟩
  | .hbm, ⟨13, _⟩ => ⟨S45056x2048, .f32⟩
  | .local _ .vmem, ⟨0, _⟩ => ⟨S512x2304, .f32⟩
  | .local _ .vmem, ⟨1, _⟩ => ⟨S512x2304, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .smem, ⟨0, _⟩ => ⟨S176, .i32⟩
  | .local _ .smem, ⟨1, _⟩ => ⟨S88, .i32⟩
  | _, _ => ⟨S176, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v8 : Ref sig .tc := ⟨.hbm, 13, rfl⟩
abbrev main_v7 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![88, 2, 2], ![false, false, false]⟩

abbrev pre0 : Pipeline.Prefetch sig := ⟨2, ![main_v7.idx, main_arg1.idx], fun | 0 => main_v7.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let c2_i32 : BitVec 32 := 2#32
  let arg0 : BitVec 32 := BitVec.ofNat 32 (i 0).val
  let v0 : BitVec 32 := Scalar.muli c2_i32 arg0
  let arg1 : BitVec 32 := BitVec.ofNat 32 (i 1).val
  let v1 : BitVec 32 := Scalar.addi v0 arg1
  let v2 : Index := Scalar.indexCast v1
  ![v2.toNat]
def k0_off2 (i : grid0.Coords) : Fin 1 → Nat :=
  let arg0 : BitVec 32 := BitVec.ofNat 32 (i 0).val
  let v5 : Index := Scalar.indexCast arg0
  ![v5.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (v6 : BitVec 32) : BitVec 1 :=
  let c0_i32_2 : BitVec 32 := 0#32
  let v7 : BitVec 1 := Scalar.cmpi .ne v6 c0_i32_2
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S176.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let v2 : Index := Scalar.indexCast v1
  let v3 : BitVec 32 := pf.at 0 (Rect.unit (s := S176) ![v2.toNat] S1.size (k0_off1_inb i)) numel1_S1
  let c0_i32 : BitVec 32 := 0#32
  let c0_i32_0 : BitVec 32 := 0#32
  ![v3.toNat, c0_i32.toNat, arg2.toNat]

def cc0_transform_2 (k0_off1_inb : ∀ i : grid0.Coords, ∀ a, (k0_off1 i) a + S1.size a ≤ S176.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let v2 : Index := Scalar.indexCast v1
  let v3 : BitVec 32 := pf.at 0 (Rect.unit (s := S176) ![v2.toNat] S1.size (k0_off1_inb i)) numel1_S1
  let c0_i32 : BitVec 32 := 0#32
  let c0_i32_0 : BitVec 32 := 0#32
  ![v3.toNat, c0_i32.toNat, arg2.toNat]

def cc0_transform_3 (k0_off1_inb : ∀ i : grid0.Coords, ∀ a, (k0_off1 i) a + S1.size a ≤ S176.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let v2 : Index := Scalar.indexCast v1
  let v3 : BitVec 32 := pf.at 0 (Rect.unit (s := S176) ![v2.toNat] S1.size (k0_off1_inb i)) numel1_S1
  let c0_i32 : BitVec 32 := 0#32
  let c0_i32_0 : BitVec 32 := 0#32
  ![v3.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== ReferenceIdeal.lean ====
abbrev S176 : Shape := ⟨1, ![176]⟩
abbrev S88 : Shape := ⟨1, ![88]⟩
abbrev S45056x2304 : Shape := ⟨2, ![45056, 2304]⟩
abbrev S2x16x2048x1024 : Shape := ⟨4, ![2, 16, 2048, 1024]⟩
abbrev S2x16x1024x2048 : Shape := ⟨4, ![2, 16, 1024, 2048]⟩
abbrev S45056x2048 : Shape := ⟨2, ![45056, 2048]⟩
abbrev S88x2 : Shape := ⟨2, ![88, 2]⟩
abbrev S88x512x2 : Shape := ⟨3, ![88, 512, 2]⟩
abbrev S45056x2 : Shape := ⟨2, ![45056, 2]⟩
abbrev S88x512 : Shape := ⟨2, ![88, 512]⟩
abbrev S45056 : Shape := ⟨1, ![45056]⟩
abbrev S45056x1 : Shape := ⟨2, ![45056, 1]⟩
abbrev S_ : Shape := ⟨0, ![]⟩
abbrev S45056x2x1 : Shape := ⟨3, ![45056, 2, 1]⟩
abbrev S1x1x16 : Shape := ⟨3, ![1, 1, 16]⟩
abbrev S45056x2x16 : Shape := ⟨3, ![45056, 2, 16]⟩
abbrev S45056x16 : Shape := ⟨2, ![45056, 16]⟩
abbrev S1x1x2048x1024 : Shape := ⟨4, ![1, 1, 2048, 1024]⟩
abbrev S2048x1024 : Shape := ⟨2, ![2048, 1024]⟩
abbrev S45056x1024 : Shape := ⟨2, ![45056, 1024]⟩
abbrev S1x1x1024x2048 : Shape := ⟨4, ![1, 1, 1024, 2048]⟩
abbrev S1024x2048 : Shape := ⟨2, ![1024, 2048]⟩

abbrev nBuf : Space → Nat
  | .hbm => 409
  | .vmem => 0
  | .smem => 0
  | _ => 0

abbrev hbmTy0_0 (i : Nat) : BufTy := match i % 128 with
  | 0 => ⟨S176, .i32⟩
  | 1 => ⟨S88, .i32⟩
  | 2 => ⟨S45056x2304, .f32⟩
  | 3 => ⟨S2x16x2048x1024, .f32⟩
  | 4 => ⟨S2x16x2048x1024, .f32⟩
  | 5 => ⟨S2x16x1024x2048, .f32⟩
  | 6 => ⟨S45056x2048, .f32⟩
  | 7 => ⟨S88x2, .i32⟩
  | 8 => ⟨S88x512x2, .i32⟩
  | 9 => ⟨S45056x2, .i32⟩
  | 10 => ⟨S88x512, .i32⟩
  | 11 => ⟨S45056, .i32⟩
  | 12 => ⟨S45056x1, .f32⟩
  | 13 => ⟨S45056, .f32⟩
  | 14 => ⟨S45056x1, .f32⟩
  | 15 => ⟨S45056, .f32⟩
  | 16 => ⟨S45056x1, .f32⟩
  | 17 => ⟨S45056x1, .f32⟩
  | 18 => ⟨S45056x2, .f32⟩
  | 19 => ⟨S_, .i32⟩
  | 20 => ⟨S45056, .i32⟩
  | 21 => ⟨S45056, .i1⟩
  | 22 => ⟨S45056x1, .i1⟩
  | 23 => ⟨S_, .f32⟩
  | 24 => ⟨S_, .f32⟩
  | 25 => ⟨S45056x2, .i1⟩
  | 26 => ⟨S45056x2, .f32⟩
  | 27 => ⟨S45056x2, .f32⟩
  | 28 => ⟨S45056x2x1, .i32⟩
  | 29 => ⟨S1x1x16, .i32⟩
  | 30 => ⟨S45056x2x16, .i32⟩
  | 31 => ⟨S45056x2x16, .i32⟩
  | 32 => ⟨S45056x2x16, .i1⟩
  | 33 => ⟨S45056x2x16, .f32⟩
  | 34 => ⟨S45056x2x1, .f32⟩
  | 35 => ⟨S45056x2x16, .f32⟩
  | 36 => ⟨S45056x2x16, .f32⟩
  | 37 => ⟨S_, .f32⟩
  | 38 => ⟨S45056x16, .f32⟩
  | 39 => ⟨S_, .f32⟩
  | 40 => ⟨S45056x2048, .f32⟩
  | 41 => ⟨S1x1x2048x1024, .f32⟩
  | 42 => ⟨S2048x1024, .f32⟩
  | 43 => ⟨S45056x1024, .f32⟩
  | 44 => ⟨S45056x1024, .f32⟩
  | 45 => ⟨S45056x1024, .f32⟩
  | 46 => ⟨S_, .f32⟩
  | 47 => ⟨S45056x1024, .f32⟩
  | 48 => ⟨S45056x1024, .f32⟩
  | 49 => ⟨S_, .f32⟩
  | 50 => ⟨S45056x1024, .f32⟩
  | 51 => ⟨S45056x1024, .f32⟩
  | 52 => ⟨S45056x1024, .f32⟩
  | 53 => ⟨S1x1x2048x1024, .f32⟩
  | 54 => ⟨S2048x1024, .f32⟩
  | 55 => ⟨S45056x1024, .f32⟩
  | 56 => ⟨S45056x1024, .f32⟩
  | 57 => ⟨S45056x1, .f32⟩
  | 58 => ⟨S1x1x1024x2048, .f32⟩
  | 59 => ⟨S1024x2048, .f32⟩
  | 60 => ⟨S45056x2048, .f32⟩
  | 61 => ⟨S45056x2048, .f32⟩
  | 62 => ⟨S45056x2048, .f32⟩
  | 63 => ⟨S45056x2048, .f32⟩
  | 64 => ⟨S1x1x2048x1024, .f32⟩
  | 65 => ⟨S2048x1024, .f32⟩
  | 66 => ⟨S45056x1024, .f32⟩
  | 67 => ⟨S45056x1024, .f32⟩
  | 68 => ⟨S45056x1024, .f32⟩
  | 69 => ⟨S_, .f32⟩
  | 70 => ⟨S45056x1024, .f32⟩
  | 71 => ⟨S45056x1024, .f32⟩
  | 72 => ⟨S_, .f32⟩
  | 73 => ⟨S45056x1024, .f32⟩
  | 74 => ⟨S45056x1024, .f32⟩
  | 75 => ⟨S45056x1024, .f32⟩
  | 76 => ⟨S1x1x2048x1024, .f32⟩
  | 77 => ⟨S2048x1024, .f32⟩
  | 78 => ⟨S45056x1024, .f32⟩
  | 79 => ⟨S45056x1024, .f32⟩
  | 80 => ⟨S45056x1, .f32⟩
  | 81 => ⟨S1x1x1024x2048, .f32⟩
  | 82 => ⟨S1024x2048, .f32⟩
  | 83 => ⟨S45056x2048, .f32⟩
  | 84 => ⟨S45056x2048, .f32⟩
  | 85 => ⟨S45056x2048, .f32⟩
  | 86 => ⟨S45056x2048, .f32⟩
  | 87 => ⟨S1x1x2048x1024, .f32⟩
  | 88 => ⟨S2048x1024, .f32⟩
  | 89 => ⟨S45056x1024, .f32⟩
  | 90 => ⟨S45056x1024, .f32⟩
  | 91 => ⟨S45056x1024, .f32⟩
  | 92 => ⟨S_, .f32⟩
  | 93 => ⟨S45056x1024, .f32⟩
  | 94 => ⟨S45056x1024, .f32⟩
  | 95 => ⟨S_, .f32⟩
  | 96 => ⟨S45056x1024, .f32⟩
  | 97 => ⟨S45056x1024, .f32⟩
  | 98 => ⟨S45056x1024, .f32⟩
  | 99 => ⟨S1x1x2048x1024, .f32⟩
  | 100 => ⟨S2048x1024, .f32⟩
  | 101 => ⟨S45056x1024, .f32⟩
  | 102 => ⟨S45056x1024, .f32⟩
  | 103 => ⟨S45056x1, .f32⟩
  | 104 => ⟨S1x1x1024x2048, .f32⟩
  | 105 => ⟨S1024x2048, .f32⟩
  | 106 => ⟨S45056x2048, .f32⟩
  | 107 => ⟨S45056x2048, .f32⟩
  | 108 => ⟨S45056x2048, .f32⟩
  | 109 => ⟨S45056x2048, .f32⟩
  | 110 => ⟨S1x1x2048x1024, .f32⟩
  | 111 => ⟨S2048x1024, .f32⟩
  | 112 => ⟨S45056x1024, .f32⟩
  | 113 => ⟨S45056x1024, .f32⟩
  | 114 => ⟨S45056x1024, .f32⟩
  | 115 => ⟨S_, .f32⟩
  | 116 => ⟨S45056x1024, .f32⟩
  | 117 => ⟨S45056x1024, .f32⟩
  | 118 => ⟨S_, .f32⟩
  | 119 => ⟨S45056x1024, .f32⟩
  | 120 => ⟨S45056x1024, .f32⟩
  | 121 => ⟨S45056x1024, .f32⟩
  | 122 => ⟨S1x1x2048x1024, .f32⟩
  | 123 => ⟨S2048x1024, .f32⟩
  | 124 => ⟨S45056x1024, .f32⟩
  | 125 => ⟨S45056x1024, .f32⟩
  | 126 => ⟨S45056x1, .f32⟩
  | 127 => ⟨S1x1x1024x2048, .f32⟩
  | _ => ⟨S176, .i32⟩

abbrev hbmTy0_1 (i : Nat) : BufTy := match i % 128 with
  | 0 => ⟨S1024x2048, .f32⟩
  | 1 => ⟨S45056x2048, .f32⟩
  | 2 => ⟨S45056x2048, .f32⟩
  | 3 => ⟨S45056x2048, .f32⟩
  | 4 => ⟨S45056x2048, .f32⟩
  | 5 => ⟨S1x1x2048x1024, .f32⟩
  | 6 => ⟨S2048x1024, .f32⟩
  | 7 => ⟨S45056x1024, .f32⟩
  | 8 => ⟨S45056x1024, .f32⟩
  | 9 => ⟨S45056x1024, .f32⟩
  | 10 => ⟨S_, .f32⟩
  | 11 => ⟨S45056x1024, .f32⟩
  | 12 => ⟨S45056x1024, .f32⟩
  | 13 => ⟨S_, .f32⟩
  | 14 => ⟨S45056x1024, .f32⟩
  | 15 => ⟨S45056x1024, .f32⟩
  | 16 => ⟨S45056x1024, .f32⟩
  | 17 => ⟨S1x1x2048x1024, .f32⟩
  | 18 => ⟨S2048x1024, .f32⟩
  | 19 => ⟨S45056x1024, .f32⟩
  | 20 => ⟨S45056x1024, .f32⟩
  | 21 => ⟨S45056x1, .f32⟩
  | 22 => ⟨S1x1x1024x2048, .f32⟩
  | 23 => ⟨S1024x2048, .f32⟩
  | 24 => ⟨S45056x2048, .f32⟩
  | 25 => ⟨S45056x2048, .f32⟩
  | 26 => ⟨S45056x2048, .f32⟩
  | 27 => ⟨S45056x2048, .f32⟩
  | 28 => ⟨S1x1x2048x1024, .f32⟩
  | 29 => ⟨S2048x1024, .f32⟩
  | 30 => ⟨S45056x1024, .f32⟩
  | 31 => ⟨S45056x1024, .f32⟩
  | 32 => ⟨S45056x1024, .f32⟩
  | 33 => ⟨S_, .f32⟩
  | 34 => ⟨S45056x1024, .f32⟩
  | 35 => ⟨S45056x1024, .f32⟩
  | 36 => ⟨S_, .f32⟩
  | 37 => ⟨S45056x1024, .f32⟩
  | 38 => ⟨S45056x1024, .f32⟩
  | 39 => ⟨S45056x1024, .f32⟩
  | 40 => ⟨S1x1x2048x1024, .f32⟩
  | 41 => ⟨S2048x1024, .f32⟩
  | 42 => ⟨S45056x1024, .f32⟩
  | 43 => ⟨S45056x1024, .f32⟩
  | 44 => ⟨S45056x1, .f32⟩
  | 45 => ⟨S1x1x1024x2048, .f32⟩
  | 46 => ⟨S1024x2048, .f32⟩
  | 47 => ⟨S45056x2048, .f32⟩
  | 48 => ⟨S45056x2048, .f32⟩
  | 49 => ⟨S45056x2048, .f32⟩
  | 50 => ⟨S45056x2048, .f32⟩
  | 51 => ⟨S1x1x2048x1024, .f32⟩
  | 52 => ⟨S2048x1024, .f32⟩
  | 53 => ⟨S45056x1024, .f32⟩
  | 54 => ⟨S45056x1024, .f32⟩
  | 55 => ⟨S45056x1024, .f32⟩
  | 56 => ⟨S_, .f32⟩
  | 57 => ⟨S45056x1024, .f32⟩
  | 58 => ⟨S45056x1024, .f32⟩
  | 59 => ⟨S_, .f32⟩
  | 60 => ⟨S45056x1024, .f32⟩
  | 61 => ⟨S45056x1024, .f32⟩
  | 62 => ⟨S45056x1024, .f32⟩
  | 63 => ⟨S1x1x2048x1024, .f32⟩
  | 64 => ⟨S2048x1024, .f32⟩
  | 65 => ⟨S45056x1024, .f32⟩
  | 66 => ⟨S45056x1024, .f32⟩
  | 67 => ⟨S45056x1, .f32⟩
  | 68 => ⟨S1x1x1024x2048, .f32⟩
  | 69 => ⟨S1024x2048, .f32⟩
  | 70 => ⟨S45056x2048, .f32⟩
  | 71 => ⟨S45056x2048, .f32⟩
  | 72 => ⟨S45056x2048, .f32⟩
  | 73 => ⟨S45056x2048, .f32⟩
  | 74 => ⟨S1x1x2048x1024, .f32⟩
  | 75 => ⟨S2048x1024, .f32⟩
  | 76 => ⟨S45056x1024, .f32⟩
  | 77 => ⟨S45056x1024, .f32⟩
  | 78 => ⟨S45056x1024, .f32⟩
  | 79 => ⟨S_, .f32⟩
  | 80 => ⟨S45056x1024, .f32⟩
  | 81 => ⟨S45056x1024, .f32⟩
  | 82 => ⟨S_, .f32⟩
  | 83 => ⟨S45056x1024, .f32⟩
  | 84 => ⟨S45056x1024, .f32⟩
  | 85 => ⟨S45056x1024, .f32⟩
  | 86 => ⟨S1x1x2048x1024, .f32⟩
  | 87 => ⟨S2048x1024, .f32⟩
  | 88 => ⟨S45056x1024, .f32⟩
  | 89 => ⟨S45056x1024, .f32⟩
  | 90 => ⟨S45056x1, .f32⟩
  | 91 => ⟨S1x1x1024x2048, .f32⟩
  | 92 => ⟨S1024x2048, .f32⟩
  | 93 => ⟨S45056x2048, .f32⟩
  | 94 => ⟨S45056x2048, .f32⟩
  | 95 => ⟨S45056x2048, .f32⟩
  | 96 => ⟨S45056x2048, .f32⟩
  | 97 => ⟨S1x1x2048x1024, .f32⟩
  | 98 => ⟨S2048x1024, .f32⟩
  | 99 => ⟨S45056x1024, .f32⟩
  | 100 => ⟨S45056x1024, .f32⟩
  | 101 => ⟨S45056x1024, .f32⟩
  | 102 => ⟨S_, .f32⟩
  | 103 => ⟨S45056x1024, .f32⟩
  | 104 => ⟨S45056x1024, .f32⟩
  | 105 => ⟨S_, .f32⟩
  | 106 => ⟨S45056x1024, .f32⟩
  | 107 => ⟨S45056x1024, .f32⟩
  | 108 => ⟨S45056x1024, .f32⟩
  | 109 => ⟨S1x1x2048x1024, .f32⟩
  | 110 => ⟨S2048x1024, .f32⟩
  | 111 => ⟨S45056x1024, .f32⟩
  | 112 => ⟨S45056x1024, .f32⟩
  | 113 => ⟨S45056x1, .f32⟩
  | 114 => ⟨S1x1x1024x2048, .f32⟩
  | 115 => ⟨S1024x2048, .f32⟩
  | 116 => ⟨S45056x2048, .f32⟩
  | 117 => ⟨S45056x2048, .f32⟩
  | 118 => ⟨S45056x2048, .f32⟩
  | 119 => ⟨S45056x2048, .f32⟩
  | 120 => ⟨S1x1x2048x1024, .f32⟩
  | 121 => ⟨S2048x1024, .f32⟩
  | 122 => ⟨S45056x1024, .f32⟩
  | 123 => ⟨S45056x1024, .f32⟩
  | 124 => ⟨S45056x1024, .f32⟩
  | 125 => ⟨S_, .f32⟩
  | 126 => ⟨S45056x1024, .f32⟩
  | 127 => ⟨S45056x1024, .f32⟩
  | _ => ⟨S176, .i32⟩

abbrev hbmTy0_2 (i : Nat) : BufTy := match i % 128 with
  | 0 => ⟨S_, .f32⟩
  | 1 => ⟨S45056x1024, .f32⟩
  | 2 => ⟨S45056x1024, .f32⟩
  | 3 => ⟨S45056x1024, .f32⟩
  | 4 => ⟨S1x1x2048x1024, .f32⟩
  | 5 => ⟨S2048x1024, .f32⟩
  | 6 => ⟨S45056x1024, .f32⟩
  | 7 => ⟨S45056x1024, .f32⟩
  | 8 => ⟨S45056x1, .f32⟩
  | 9 => ⟨S1x1x1024x2048, .f32⟩
  | 10 => ⟨S1024x2048, .f32⟩
  | 11 => ⟨S45056x2048, .f32⟩
  | 12 => ⟨S45056x2048, .f32⟩
  | 13 => ⟨S45056x2048, .f32⟩
  | 14 => ⟨S45056x2048, .f32⟩
  | 15 => ⟨S1x1x2048x1024, .f32⟩
  | 16 => ⟨S2048x1024, .f32⟩
  | 17 => ⟨S45056x1024, .f32⟩
  | 18 => ⟨S45056x1024, .f32⟩
  | 19 => ⟨S45056x1024, .f32⟩
  | 20 => ⟨S_, .f32⟩
  | 21 => ⟨S45056x1024, .f32⟩
  | 22 => ⟨S45056x1024, .f32⟩
  | 23 => ⟨S_, .f32⟩
  | 24 => ⟨S45056x1024, .f32⟩
  | 25 => ⟨S45056x1024, .f32⟩
  | 26 => ⟨S45056x1024, .f32⟩
  | 27 => ⟨S1x1x2048x1024, .f32⟩
  | 28 => ⟨S2048x1024, .f32⟩
  | 29 => ⟨S45056x1024, .f32⟩
  | 30 => ⟨S45056x1024, .f32⟩
  | 31 => ⟨S45056x1, .f32⟩
  | 32 => ⟨S1x1x1024x2048, .f32⟩
  | 33 => ⟨S1024x2048, .f32⟩
  | 34 => ⟨S45056x2048, .f32⟩
  | 35 => ⟨S45056x2048, .f32⟩
  | 36 => ⟨S45056x2048, .f32⟩
  | 37 => ⟨S45056x2048, .f32⟩
  | 38 => ⟨S1x1x2048x1024, .f32⟩
  | 39 => ⟨S2048x1024, .f32⟩
  | 40 => ⟨S45056x1024, .f32⟩
  | 41 => ⟨S45056x1024, .f32⟩
  | 42 => ⟨S45056x1024, .f32⟩
  | 43 => ⟨S_, .f32⟩
  | 44 => ⟨S45056x1024, .f32⟩
  | 45 => ⟨S45056x1024, .f32⟩
  | 46 => ⟨S_, .f32⟩
  | 47 => ⟨S45056x1024, .f32⟩
  | 48 => ⟨S45056x1024, .f32⟩
  | 49 => ⟨S45056x1024, .f32⟩
  | 50 => ⟨S1x1x2048x1024, .f32⟩
  | 51 => ⟨S2048x1024, .f32⟩
  | 52 => ⟨S45056x1024, .f32⟩
  | 53 => ⟨S45056x1024, .f32⟩
  | 54 => ⟨S45056x1, .f32⟩
  | 55 => ⟨S1x1x1024x2048, .f32⟩
  | 56 => ⟨S1024x2048, .f32⟩
  | 57 => ⟨S45056x2048, .f32⟩
  | 58 => ⟨S45056x2048, .f32⟩
  | 59 => ⟨S45056x2048, .f32⟩
  | 60 => ⟨S45056x2048, .f32⟩
  | 61 => ⟨S1x1x2048x1024, .f32⟩
  | 62 => ⟨S2048x1024, .f32⟩
  | 63 => ⟨S45056x1024, .f32⟩
  | 64 => ⟨S45056x1024, .f32⟩
  | 65 => ⟨S45056x1024, .f32⟩
  | 66 => ⟨S_, .f32⟩
  | 67 => ⟨S45056x1024, .f32⟩
  | 68 => ⟨S45056x1024, .f32⟩
  | 69 => ⟨S_, .f32⟩
  | 70 => ⟨S45056x1024, .f32⟩
  | 71 => ⟨S45056x1024, .f32⟩
  | 72 => ⟨S45056x1024, .f32⟩
  | 73 => ⟨S1x1x2048x1024, .f32⟩
  | 74 => ⟨S2048x1024, .f32⟩
  | 75 => ⟨S45056x1024, .f32⟩
  | 76 => ⟨S45056x1024, .f32⟩
  | 77 => ⟨S45056x1, .f32⟩
  | 78 => ⟨S1x1x1024x2048, .f32⟩
  | 79 => ⟨S1024x2048, .f32⟩
  | 80 => ⟨S45056x2048, .f32⟩
  | 81 => ⟨S45056x2048, .f32⟩
  | 82 => ⟨S45056x2048, .f32⟩
  | 83 => ⟨S45056x2048, .f32⟩
  | 84 => ⟨S1x1x2048x1024, .f32⟩
  | 85 => ⟨S2048x1024, .f32⟩
  | 86 => ⟨S45056x1024, .f32⟩
  | 87 => ⟨S45056x1024, .f32⟩
  | 88 => ⟨S45056x1024, .f32⟩
  | 89 => ⟨S_, .f32⟩
  | 90 => ⟨S45056x1024, .f32⟩
  | 91 => ⟨S45056x1024, .f32⟩
  | 92 => ⟨S_, .f32⟩
  | 93 => ⟨S45056x1024, .f32⟩
  | 94 => ⟨S45056x1024, .f32⟩
  | 95 => ⟨S45056x1024, .f32⟩
  | 96 => ⟨S1x1x2048x1024, .f32⟩
  | 97 => ⟨S2048x1024, .f32⟩
  | 98 => ⟨S45056x1024, .f32⟩
  | 99 => ⟨S45056x1024, .f32⟩
  | 100 => ⟨S45056x1, .f32⟩
  | 101 => ⟨S1x1x1024x2048, .f32⟩
  | 102 => ⟨S1024x2048, .f32⟩
  | 103 => ⟨S45056x2048, .f32⟩
  | 104 => ⟨S45056x2048, .f32⟩
  | 105 => ⟨S45056x2048, .f32⟩
  | 106 => ⟨S45056x2048, .f32⟩
  | 107 => ⟨S1x1x2048x1024, .f32⟩
  | 108 => ⟨S2048x1024, .f32⟩
  | 109 => ⟨S45056x1024, .f32⟩
  | 110 => ⟨S45056x1024, .f32⟩
  | 111 => ⟨S45056x1024, .f32⟩
  | 112 => ⟨S_, .f32⟩
  | 113 => ⟨S45056x1024, .f32⟩
  | 114 => ⟨S45056x1024, .f32⟩
  | 115 => ⟨S_, .f32⟩
  | 116 => ⟨S45056x1024, .f32⟩
  | 117 => ⟨S45056x1024, .f32⟩
  | 118 => ⟨S45056x1024, .f32⟩
  | 119 => ⟨S1x1x2048x1024, .f32⟩
  | 120 => ⟨S2048x1024, .f32⟩
  | 121 => ⟨S45056x1024, .f32⟩
  | 122 => ⟨S45056x1024, .f32⟩
  | 123 => ⟨S45056x1, .f32⟩
  | 124 => ⟨S1x1x1024x2048, .f32⟩
  | 125 => ⟨S1024x2048, .f32⟩
  | 126 => ⟨S45056x2048, .f32⟩
  | 127 => ⟨S45056x2048, .f32⟩
  | _ => ⟨S176, .i32⟩

abbrev hbmTy0_3 (i : Nat) : BufTy := match i % 128 with
  | 0 => ⟨S45056x2048, .f32⟩
  | 1 => ⟨S45056x2048, .f32⟩
  | 2 => ⟨S1x1x2048x1024, .f32⟩
  | 3 => ⟨S2048x1024, .f32⟩
  | 4 => ⟨S45056x1024, .f32⟩
  | 5 => ⟨S45056x1024, .f32⟩
  | 6 => ⟨S45056x1024, .f32⟩
  | 7 => ⟨S_, .f32⟩
  | 8 => ⟨S45056x1024, .f32⟩
  | 9 => ⟨S45056x1024, .f32⟩
  | 10 => ⟨S_, .f32⟩
  | 11 => ⟨S45056x1024, .f32⟩
  | 12 => ⟨S45056x1024, .f32⟩
  | 13 => ⟨S45056x1024, .f32⟩
  | 14 => ⟨S1x1x2048x1024, .f32⟩
  | 15 => ⟨S2048x1024, .f32⟩
  | 16 => ⟨S45056x1024, .f32⟩
  | 17 => ⟨S45056x1024, .f32⟩
  | 18 => ⟨S45056x1, .f32⟩
  | 19 => ⟨S1x1x1024x2048, .f32⟩
  | 20 => ⟨S1024x2048, .f32⟩
  | 21 => ⟨S45056x2048, .f32⟩
  | 22 => ⟨S45056x2048, .f32⟩
  | 23 => ⟨S45056x2048, .f32⟩
  | 24 => ⟨S45056x2048, .f32⟩
  | _ => ⟨S176, .i32⟩

abbrev hbmTy (i : Nat) : BufTy := match i / 128 with
  | 0 => hbmTy0_0 i
  | 1 => hbmTy0_1 i
  | 2 => hbmTy0_2 i
  | 3 => hbmTy0_3 i
  | _ => ⟨S176, .i32⟩

abbrev bufTy : (tb : Table) → Fin (tcTables nBuf tb) → BufTy
  | .hbm, ⟨i, _⟩ => hbmTy i
  | _, _ => ⟨S176, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call3_v0 : Ref sig .tc := ⟨.hbm, 67, rfl⟩
abbrev main_call3_v1 : Ref sig .tc := ⟨.hbm, 68, rfl⟩
abbrev main_call3_cst : Ref sig .tc := ⟨.hbm, 69, rfl⟩
abbrev main_call3_v2 : Ref sig .tc := ⟨.hbm, 70, rfl⟩
abbrev main_call3_v3 : Ref sig .tc := ⟨.hbm, 71, rfl⟩
abbrev main_call3_cst_0 : Ref sig .tc := ⟨.hbm, 72, rfl⟩
abbrev main_call3_v4 : Ref sig .tc := ⟨.hbm, 73, rfl⟩
abbrev main_call3_v5 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_call4_v0 : Ref sig .tc := ⟨.hbm, 90, rfl⟩
abbrev main_call4_v1 : Ref sig .tc := ⟨.hbm, 91, rfl⟩
abbrev main_call4_cst : Ref sig .tc := ⟨.hbm, 92, rfl⟩
abbrev main_call4_v2 : Ref sig .tc := ⟨.hbm, 93, rfl⟩
abbrev main_call4_v3 : Ref sig .tc := ⟨.hbm, 94, rfl⟩
abbrev main_call4_cst_0 : Ref sig .tc := ⟨.hbm, 95, rfl⟩
abbrev main_call4_v4 : Ref sig .tc := ⟨.hbm, 96, rfl⟩
abbrev main_call4_v5 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_call5_v0 : Ref sig .tc := ⟨.hbm, 113, rfl⟩
abbrev main_call5_v1 : Ref sig .tc := ⟨.hbm, 114, rfl⟩
abbrev main_call5_cst : Ref sig .tc := ⟨.hbm, 115, rfl⟩
abbrev main_call5_v2 : Ref sig .tc := ⟨.hbm, 116, rfl⟩
abbrev main_call5_v3 : Ref sig .tc := ⟨.hbm, 117, rfl⟩
abbrev main_call5_cst_0 : Ref sig .tc := ⟨.hbm, 118, rfl⟩
abbrev main_call5_v4 : Ref sig .tc := ⟨.hbm, 119, rfl⟩
abbrev main_call5_v5 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_call6_v0 : Ref sig .tc := ⟨.hbm, 136, rfl⟩
abbrev main_call6_v1 : Ref sig .tc := ⟨.hbm, 137, rfl⟩
abbrev main_call6_cst : Ref sig .tc := ⟨.hbm, 138, rfl⟩
abbrev main_call6_v2 : Ref sig .tc := ⟨.hbm, 139, rfl⟩
abbrev main_call6_v3 : Ref sig .tc := ⟨.hbm, 140, rfl⟩
abbrev main_call6_cst_0 : Ref sig .tc := ⟨.hbm, 141, rfl⟩
abbrev main_call6_v4 : Ref sig .tc := ⟨.hbm, 142, rfl⟩
abbrev main_call6_v5 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_call7_v0 : Ref sig .tc := ⟨.hbm, 159, rfl⟩
abbrev main_call7_v1 : Ref sig .tc := ⟨.hbm, 160, rfl⟩
abbrev main_call7_cst : Ref sig .tc := ⟨.hbm, 161, rfl⟩
abbrev main_call7_v2 : Ref sig .tc := ⟨.hbm, 162, rfl⟩
abbrev main_call7_v3 : Ref sig .tc := ⟨.hbm, 163, rfl⟩
abbrev main_call7_cst_0 : Ref sig .tc := ⟨.hbm, 164, rfl⟩
abbrev main_call7_v4 : Ref sig .tc := ⟨.hbm, 165, rfl⟩
abbrev main_call7_v5 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_call8_v0 : Ref sig .tc := ⟨.hbm, 182, rfl⟩
abbrev main_call8_v1 : Ref sig .tc := ⟨.hbm, 183, rfl⟩
abbrev main_call8_cst : Ref sig .tc := ⟨.hbm, 184, rfl⟩
abbrev main_call8_v2 : Ref sig .tc := ⟨.hbm, 185, rfl⟩
abbrev main_call8_v3 : Ref sig .tc := ⟨.hbm, 186, rfl⟩
abbrev main_call8_cst_0 : Ref sig .tc := ⟨.hbm, 187, rfl⟩
abbrev main_call8_v4 : Ref sig .tc := ⟨.hbm, 188, rfl⟩
abbrev main_call8_v5 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_call9_v0 : Ref sig .tc := ⟨.hbm, 205, rfl⟩
abbrev main_call9_v1 : Ref sig .tc := ⟨.hbm, 206, rfl⟩
abbrev main_call9_cst : Ref sig .tc := ⟨.hbm, 207, rfl⟩
abbrev main_call9_v2 : Ref sig .tc := ⟨.hbm, 208, rfl⟩
abbrev main_call9_v3 : Ref sig .tc := ⟨.hbm, 209, rfl⟩
abbrev main_call9_cst_0 : Ref sig .tc := ⟨.hbm, 210, rfl⟩
abbrev main_call9_v4 : Ref sig .tc := ⟨.hbm, 211, rfl⟩
abbrev main_call9_v5 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_call10_v0 : Ref sig .tc := ⟨.hbm, 228, rfl⟩
abbrev main_call10_v1 : Ref sig .tc := ⟨.hbm, 229, rfl⟩
abbrev main_call10_cst : Ref sig .tc := ⟨.hbm, 230, rfl⟩
abbrev main_call10_v2 : Ref sig .tc := ⟨.hbm, 231, rfl⟩
abbrev main_call10_v3 : Ref sig .tc := ⟨.hbm, 232, rfl⟩
abbrev main_call10_cst_0 : Ref sig .tc := ⟨.hbm, 233, rfl⟩
abbrev main_call10_v4 : Ref sig .tc := ⟨.hbm, 234, rfl⟩
abbrev main_call10_v5 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_call11_v0 : Ref sig .tc := ⟨.hbm, 251, rfl⟩
abbrev main_call11_v1 : Ref sig .tc := ⟨.hbm, 252, rfl⟩
abbrev main_call11_cst : Ref sig .tc := ⟨.hbm, 253, rfl⟩
abbrev main_call11_v2 : Ref sig .tc := ⟨.hbm, 254, rfl⟩
abbrev main_call11_v3 : Ref sig .tc := ⟨.hbm, 255, rfl⟩
abbrev main_call11_cst_0 : Ref sig .tc := ⟨.hbm, 256, rfl⟩
abbrev main_call11_v4 : Ref sig .tc := ⟨.hbm, 257, rfl⟩
abbrev main_call11_v5 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_call12_v0 : Ref sig .tc := ⟨.hbm, 274, rfl⟩
abbrev main_call12_v1 : Ref sig .tc := ⟨.hbm, 275, rfl⟩
abbrev main_call12_cst : Ref sig .tc := ⟨.hbm, 276, rfl⟩
abbrev main_call12_v2 : Ref sig .tc := ⟨.hbm, 277, rfl⟩
abbrev main_call12_v3 : Ref sig .tc := ⟨.hbm, 278, rfl⟩
abbrev main_call12_cst_0 : Ref sig .tc := ⟨.hbm, 279, rfl⟩
abbrev main_call12_v4 : Ref sig .tc := ⟨.hbm, 280, rfl⟩
abbrev main_call12_v5 : Ref sig .tc := ⟨.hbm, 281, rfl⟩
abbrev main_v176 : Ref sig .tc := ⟨.hbm, 282, rfl⟩
abbrev main_v177 : Ref sig .tc := ⟨.hbm, 283, rfl⟩
abbrev main_v178 : Ref sig .tc := ⟨.hbm, 284, rfl⟩
abbrev main_v179 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_v183 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_call13_v0 : Ref sig .tc := ⟨.hbm, 297, rfl⟩
abbrev main_call13_v1 : Ref sig .tc := ⟨.hbm, 298, rfl⟩
abbrev main_call13_cst : Ref sig .tc := ⟨.hbm, 299, rfl⟩
abbrev main_call13_v2 : Ref sig .tc := ⟨.hbm, 300, rfl⟩
abbrev main_call13_v3 : Ref sig .tc := ⟨.hbm, 301, rfl⟩
abbrev main_call13_cst_0 : Ref sig .tc := ⟨.hbm, 302, rfl⟩
abbrev main_call13_v4 : Ref sig .tc := ⟨.hbm, 303, rfl⟩
abbrev main_call13_v5 : Ref sig .tc := ⟨.hbm, 304, rfl⟩
abbrev main_v191 : Ref sig .tc := ⟨.hbm, 305, rfl⟩
abbrev main_v192 : Ref sig .tc := ⟨.hbm, 306, rfl⟩
abbrev main_v193 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_v197 : Ref sig .tc := ⟨.hbm, 311, rfl⟩
abbrev main_v198 : Ref sig .tc := ⟨.hbm, 312, rfl⟩
abbrev main_v199 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_call14_v0 : Ref sig .tc := ⟨.hbm, 320, rfl⟩
abbrev main_call14_v1 : Ref sig .tc := ⟨.hbm, 321, rfl⟩
abbrev main_call14_cst : Ref sig .tc := ⟨.hbm, 322, rfl⟩
abbrev main_call14_v2 : Ref sig .tc := ⟨.hbm, 323, rfl⟩
abbrev main_call14_v3 : Ref sig .tc := ⟨.hbm, 324, rfl⟩
abbrev main_call14_cst_0 : Ref sig .tc := ⟨.hbm, 325, rfl⟩
abbrev main_call14_v4 : Ref sig .tc := ⟨.hbm, 326, rfl⟩
abbrev main_call14_v5 : Ref sig .tc := ⟨.hbm, 327, rfl⟩
abbrev main_v206 : Ref sig .tc := ⟨.hbm, 328, rfl⟩
abbrev main_v207 : Ref sig .tc := ⟨.hbm, 329, rfl⟩
abbrev main_v208 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_v212 : Ref sig .tc := ⟨.hbm, 334, rfl⟩
abbrev main_v213 : Ref sig .tc := ⟨.hbm, 335, rfl⟩
abbrev main_v214 : Ref sig .tc := ⟨.hbm, 336, rfl⟩
abbrev main_v215 : Ref sig .tc := ⟨.hbm, 337, rfl⟩
abbrev main_v216 : Ref sig .tc := ⟨.hbm, 338, rfl⟩
abbrev main_v217 : Ref sig .tc := ⟨.hbm, 339, rfl⟩
abbrev main_v218 : Ref sig .tc := ⟨.hbm, 340, rfl⟩
abbrev main_v219 : Ref sig .tc := ⟨.hbm, 341, rfl⟩
abbrev main_v220 : Ref sig .tc := ⟨.hbm, 342, rfl⟩
abbrev main_call15_v0 : Ref sig .tc := ⟨.hbm, 343, rfl⟩
abbrev main_call15_v1 : Ref sig .tc := ⟨.hbm, 344, rfl⟩
abbrev main_call15_cst : Ref sig .tc := ⟨.hbm, 345, rfl⟩
abbrev main_call15_v2 : Ref sig .tc := ⟨.hbm, 346, rfl⟩
abbrev main_call15_v3 : Ref sig .tc := ⟨.hbm, 347, rfl⟩
abbrev main_call15_cst_0 : Ref sig .tc := ⟨.hbm, 348, rfl⟩
abbrev main_call15_v4 : Ref sig .tc := ⟨.hbm, 349, rfl⟩
abbrev main_call15_v5 : Ref sig .tc := ⟨.hbm, 350, rfl⟩
abbrev main_v221 : Ref sig .tc := ⟨.hbm, 351, rfl⟩
abbrev main_v222 : Ref sig .tc := ⟨.hbm, 352, rfl⟩
abbrev main_v223 : Ref sig .tc := ⟨.hbm, 353, rfl⟩
abbrev main_v224 : Ref sig .tc := ⟨.hbm, 354, rfl⟩
abbrev main_v225 : Ref sig .tc := ⟨.hbm, 355, rfl⟩
abbrev main_v226 : Ref sig .tc := ⟨.hbm, 356, rfl⟩
abbrev main_v227 : Ref sig .tc := ⟨.hbm, 357, rfl⟩
abbrev main_v228 : Ref sig .tc := ⟨.hbm, 358, rfl⟩
abbrev main_v229 : Ref sig .tc := ⟨.hbm, 359, rfl⟩
abbrev main_v230 : Ref sig .tc := ⟨.hbm, 360, rfl⟩
abbrev main_v231 : Ref sig .tc := ⟨.hbm, 361, rfl⟩
abbrev main_v232 : Ref sig .tc := ⟨.hbm, 362, rfl⟩
abbrev main_v233 : Ref sig .tc := ⟨.hbm, 363, rfl⟩
abbrev main_v234 : Ref sig .tc := ⟨.hbm, 364, rfl⟩
abbrev main_v235 : Ref sig .tc := ⟨.hbm, 365, rfl⟩
abbrev main_call16_v0 : Ref sig .tc := ⟨.hbm, 366, rfl⟩
abbrev main_call16_v1 : Ref sig .tc := ⟨.hbm, 367, rfl⟩
abbrev main_call16_cst : Ref sig .tc := ⟨.hbm, 368, rfl⟩
abbrev main_call16_v2 : Ref sig .tc := ⟨.hbm, 369, rfl⟩
abbrev main_call16_v3 : Ref sig .tc := ⟨.hbm, 370, rfl⟩
abbrev main_call16_cst_0 : Ref sig .tc := ⟨.hbm, 371, rfl⟩
abbrev main_call16_v4 : Ref sig .tc := ⟨.hbm, 372, rfl⟩
abbrev main_call16_v5 : Ref sig .tc := ⟨.hbm, 373, rfl⟩
abbrev main_v236 : Ref sig .tc := ⟨.hbm, 374, rfl⟩
abbrev main_v237 : Ref sig .tc := ⟨.hbm, 375, rfl⟩
abbrev main_v238 : Ref sig .tc := ⟨.hbm, 376, rfl⟩
abbrev main_v239 : Ref sig .tc := ⟨.hbm, 377, rfl⟩
abbrev main_v240 : Ref sig .tc := ⟨.hbm, 378, rfl⟩
abbrev main_v241 : Ref sig .tc := ⟨.hbm, 379, rfl⟩
abbrev main_v242 : Ref sig .tc := ⟨.hbm, 380, rfl⟩
abbrev main_v243 : Ref sig .tc := ⟨.hbm, 381, rfl⟩
abbrev main_v244 : Ref sig .tc := ⟨.hbm, 382, rfl⟩
abbrev main_v245 : Ref sig .tc := ⟨.hbm, 383, rfl⟩
abbrev main_v246 : Ref sig .tc := ⟨.hbm, 384, rfl⟩
abbrev main_v247 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_call17_v0 : Ref sig .tc := ⟨.hbm, 389, rfl⟩
abbrev main_call17_v1 : Ref sig .tc := ⟨.hbm, 390, rfl⟩
abbrev main_call17_cst : Ref sig .tc := ⟨.hbm, 391, rfl⟩
abbrev main_call17_v2 : Ref sig .tc := ⟨.hbm, 392, rfl⟩
abbrev main_call17_v3 : Ref sig .tc := ⟨.hbm, 393, rfl⟩
abbrev main_call17_cst_0 : Ref sig .tc := ⟨.hbm, 394, rfl⟩
abbrev main_call17_v4 : Ref sig .tc := ⟨.hbm, 395, rfl⟩
abbrev main_call17_v5 : Ref sig .tc := ⟨.hbm, 396, rfl⟩
abbrev main_v251 : Ref sig .tc := ⟨.hbm, 397, rfl⟩
abbrev main_v252 : Ref sig .tc := ⟨.hbm, 398, rfl⟩
abbrev main_v253 : Ref sig .tc := ⟨.hbm, 399, rfl⟩
abbrev main_v254 : Ref sig .tc := ⟨.hbm, 400, rfl⟩
abbrev main_v255 : Ref sig .tc := ⟨.hbm, 401, rfl⟩
abbrev main_v256 : Ref sig .tc := ⟨.hbm, 402, rfl⟩
abbrev main_v257 : Ref sig .tc := ⟨.hbm, 403, rfl⟩
abbrev main_v258 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_v262 : Ref sig .tc := ⟨.hbm, 408, rfl⟩

abbrev nD : Nat := 1
abbrev τ : Topo := Topo.v7x

variable {F : FTy → Type} [FloatOps F]
-- ==== InProjection.lean ====
abbrev S8x4096x2048 : Shape := ⟨3, ![8, 4096, 2048]⟩
abbrev S2048 : Shape := ⟨1, ![2048]⟩
abbrev S2048x8192 : Shape := ⟨2, ![2048, 8192]⟩
abbrev S32768x2048 : Shape := ⟨2, ![32768, 2048]⟩
abbrev S1x2048 : Shape := ⟨2, ![1, 2048]⟩
abbrev S32768x8192 : Shape := ⟨2, ![32768, 8192]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x8192, .f32⟩
  | .hbm, ⟨3, _⟩ => ⟨S32768x2048, .f32⟩
  | .hbm, ⟨4, _⟩ => ⟨S2048x8192, .bf16⟩
  | .hbm, ⟨5, _⟩ => ⟨S1x2048, .f32⟩
  | .hbm, ⟨6, _⟩ => ⟨S32768x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjectionReferenceIdeal.lean ====
abbrev S8x4096x2048 : Shape := ⟨3, ![8, 4096, 2048]⟩
abbrev S2048 : Shape := ⟨1, ![2048]⟩
abbrev S2048x8192 : Shape := ⟨2, ![2048, 8192]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x8192 : Shape := ⟨3, ![8, 4096, 8192]⟩
abbrev S32768x8192 : Shape := ⟨2, ![32768, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x8192, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S1x1x2048, .f32⟩
  | .hbm, ⟨17, _⟩ => ⟨S8x4096x2048, .f32⟩
  | .hbm, ⟨18, _⟩ => ⟨S8x4096x2048, .f32⟩
  | .hbm, ⟨19, _⟩ => ⟨S8x4096x8192, .f32⟩
  | .hbm, ⟨20, _⟩ => ⟨S32768x8192, .f32⟩
  | .hbm, ⟨21, _⟩ => ⟨S32768x8192, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Merge.lean ====
abbrev S32768x1024 : Shape := ⟨2, ![32768, 1024]⟩
abbrev S32768x8192 : Shape := ⟨2, ![32768, 8192]⟩
abbrev S1024x1024 : Shape := ⟨2, ![1024, 1024]⟩
abbrev S1024x2048 : Shape := ⟨2, ![1024, 2048]⟩
abbrev S32768x2048 : Shape := ⟨2, ![32768, 2048]⟩
abbrev S256x1024 : Shape := ⟨2, ![256, 1024]⟩
abbrev S256x2048 : Shape := ⟨2, ![256, 2048]⟩

abbrev nBuf : Space → Nat
  | .hbm => 10
  | .vmem => 13
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x8192, .bf16⟩
  | .hbm, ⟨3, _⟩ => ⟨S1024x1024, .f32⟩
  | .hbm, ⟨4, _⟩ => ⟨S1024x2048, .f32⟩
  | .hbm, ⟨5, _⟩ => ⟨S1024x2048, .f32⟩
  | .hbm, ⟨6, _⟩ => ⟨S1024x1024, .bf16⟩
  | .hbm, ⟨7, _⟩ => ⟨S1024x2048, .bf16⟩
  | .hbm, ⟨8, _⟩ => ⟨S1024x2048, .bf16⟩
  | .hbm, ⟨9, _⟩ => ⟨S32768x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1024x1024, .bf16⟩
  | .local _ .vmem, ⟨9, _⟩ => ⟨S1024x2048, .bf16⟩
  | .local _ .vmem, ⟨10, _⟩ => ⟨S1024x2048, .bf16⟩
  | .local _ .vmem, ⟨11, _⟩ => ⟨S256x2048, .bf16⟩
  | .local _ .vmem, ⟨12, _⟩ => ⟨S256x2048, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeReferenceIdeal.lean ====
abbrev S32768x1024 : Shape := ⟨2, ![32768, 1024]⟩
abbrev S32768x8192 : Shape := ⟨2, ![32768, 8192]⟩
abbrev S1024x1024 : Shape := ⟨2, ![1024, 1024]⟩
abbrev S1024x2048 : Shape := ⟨2, ![1024, 2048]⟩
abbrev S32768x2048 : Shape := ⟨2, ![32768, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x8192, .bf16⟩
  | .hbm, ⟨3, _⟩ => ⟨S1024x1024, .f32⟩
  | .hbm, ⟨4, _⟩ => ⟨S1024x2048, .f32⟩
  | .hbm, ⟨5, _⟩ => ⟨S1024x2048, .f32⟩
  | .hbm, ⟨6, _⟩ => ⟨S32768x2048, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x2048, .f32⟩
  | .hbm, ⟨19, _⟩ => ⟨S32768x2048, .bf16⟩
  | .hbm, ⟨20, _⟩ => ⟨S32768x2048, .bf16⟩
  | .hbm, ⟨21, _⟩ => ⟨S32768x2048, .bf16⟩
  | .hbm, ⟨22, _⟩ => ⟨S_, .bf16⟩
  | .hbm, ⟨23, _⟩ => ⟨S32768x2048, .bf16⟩
  | .hbm, ⟨24, _⟩ => ⟨S32768x2048, .bf16⟩
  | .hbm, ⟨25, _⟩ => ⟨S_, .bf16⟩
  | .hbm, ⟨26, _⟩ => ⟨S32768x2048, .bf16⟩
  | .hbm, ⟨27, _⟩ => ⟨S32768x2048, .bf16⟩
  | .hbm, ⟨28, _⟩ => ⟨S32768x2048, .f32⟩
  | .hbm, ⟨29, _⟩ => ⟨S32768x2048, .f32⟩
  | .hbm, ⟨30, _⟩ => ⟨S32768x2048, .bf16⟩
  | .hbm, ⟨31, _⟩ => ⟨S32768x2048, .bf16⟩
  | .hbm, ⟨32, _⟩ => ⟨S32768x2048, .bf16⟩
  | .hbm, ⟨33, _⟩ => ⟨S_, .bf16⟩
  | .hbm, ⟨34, _⟩ => ⟨S32768x2048, .bf16⟩
  | .hbm, ⟨35, _⟩ => ⟨S32768x2048, .bf16⟩
  | .hbm, ⟨36, _⟩ => ⟨S_, .bf16⟩
  | .hbm, ⟨37, _⟩ => ⟨S32768x2048, .bf16⟩
  | .hbm, ⟨38, _⟩ => ⟨S32768x2048, .bf16⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== OutProjection.lean ====
abbrev S32768x2048 : Shape := ⟨2, ![32768, 2048]⟩
abbrev S8x4096x2048 : Shape := ⟨3, ![8, 4096, 2048]⟩
abbrev S2048x2048 : Shape := ⟨2, ![2048, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S8x4096x2048, .f32⟩
  | .hbm, ⟨2, _⟩ => ⟨S2048x2048, .f32⟩
  | .hbm, ⟨3, _⟩ => ⟨S32768x2048, .f32⟩
  | .hbm, ⟨4, _⟩ => ⟨S2048x2048, .bf16⟩
  | .hbm, ⟨5, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjectionReferenceIdeal.lean ====
abbrev S32768x2048 : Shape := ⟨2, ![32768, 2048]⟩
abbrev S8x4096x2048 : Shape := ⟨3, ![8, 4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S8x4096x2048, .f32⟩
  | .hbm, ⟨2, _⟩ => ⟨S2048x2048, .f32⟩
  | .hbm, ⟨3, _⟩ => ⟨S32768x2048, .f32⟩
  | .hbm, ⟨4, _⟩ => ⟨S8x4096x2048, .f32⟩
  | .hbm, ⟨5, _⟩ => ⟨S8x4096x2048, .f32⟩
  | .hbm, ⟨6, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Collect.lean ====
abbrev S32768 : Shape := ⟨1, ![32768]⟩
abbrev S45056x2048 : Shape := ⟨2, ![45056, 2048]⟩
abbrev S8x4096x2048 : Shape := ⟨3, ![8, 4096, 2048]⟩
abbrev S32768x2048 : Shape := ⟨2, ![32768, 2048]⟩
abbrev S512x2048 : Shape := ⟨2, ![512, 2048]⟩
abbrev S_ : Shape := ⟨0, ![]⟩
abbrev S1 : Shape := ⟨1, ![1]⟩
abbrev S1x2048 : Shape := ⟨2, ![1, 2048]⟩

abbrev nBuf : Space → Nat
  | .hbm => 4
  | .vmem => 5
  | .smem => 1
  | _ => 0

abbrev bufTy : (tb : Table) → Fin (tcTables nBuf tb) → BufTy
  | .hbm, ⟨0, _⟩ => ⟨S45056x2048, .f32⟩
  | .hbm, ⟨1, _⟩ => ⟨S8x4096x2048, .f32⟩
  | .hbm, ⟨2, _⟩ => ⟨S32768x2048, .f32⟩
  | .hbm, ⟨3, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .smem, ⟨0, _⟩ => ⟨S32768, .i32⟩
  | _, _ => ⟨S45056x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32 : BitVec 32 := 256#32
  let v1 : BitVec 32 := Scalar.addi c0_i32 c256_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c2_i32 : BitVec 32 := 2#32
  let c0_i32 : BitVec 32 := 0#32
  let c1_i32 : BitVec 32 := 1#32
  let arg7 : BitVec 32 := Scf.iv c0_i32 c1_i32 k0_t1
  let v8 : BitVec 32 := Scalar.muli c2_i32 arg7
  let c0_i32_9 : BitVec 32 := 0#32
  let v9 : BitVec 32 := Scalar.addi v8 c0_i32_9
  let v10 : BitVec 32 := Scalar.addi v0 v9
  let v11 : Index := Scalar.indexCast v10
  ![v11.toNat]
def k0_off2 (k0_t1 : Fin k0_t1_loop.trips) : Fin 2 → Nat :=
  let c2_i32 : BitVec 32 := 2#32
  let c0_i32 : BitVec 32 := 0#32
  let c1_i32 : BitVec 32 := 1#32
  let arg7 : BitVec 32 := Scf.iv c0_i32 c1_i32 k0_t1
  let v8 : BitVec 32 := Scalar.muli c2_i32 arg7
  let c0_i32_9 : BitVec 32 := 0#32
  let v9 : BitVec 32 := Scalar.addi v8 c0_i32_9
  let c0_i32_10 : BitVec 32 := 0#32
  ![v9.toNat, 0]
def k0_off3 (v12 : BitVec 32) : Fin 2 → Nat :=
  let c0_i32_11 : BitVec 32 := 0#32
  ![v12.toNat, 0]

def k0_chk1 (v12 : BitVec 32) : Prop :=
  (∀ a, (k0_off3 v12) a + S1x2048.size a ≤ S45056x2048.size a)
theorem k0_off3_inb : ∀ (v12 : BitVec 32) (k0_hw1 : k0_chk1 v12), ∀ a, (k0_off3 v12) a + S1x2048.size a ≤ S45056x2048.size a := fun v12 k0_hw1 => k0_hw1

def k0_off4 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c2_i32_12 : BitVec 32 := 2#32
  let c0_i32 : BitVec 32 := 0#32
  let c1_i32 : BitVec 32 := 1#32
  let arg7 : BitVec 32 := Scf.iv c0_i32 c1_i32 k0_t1
  let v15 : BitVec 32 := Scalar.muli c2_i32_12 arg7
  let c1_i32_13 : BitVec 32 := 1#32
  let v16 : BitVec 32 := Scalar.addi v15 c1_i32_13
  let v17 : BitVec 32 := Scalar.addi v0 v16
  let v18 : Index := Scalar.indexCast v17
  ![v18.toNat]
def k0_off5 (k0_t1 : Fin k0_t1_loop.trips) : Fin 2 → Nat :=
  let c2_i32_12 : BitVec 32 := 2#32
  let c0_i32 : BitVec 32 := 0#32
  let c1_i32 : BitVec 32 := 1#32
  let arg7 : BitVec 32 := Scf.iv c0_i32 c1_i32 k0_t1
  let v15 : BitVec 32 := Scalar.muli c2_i32_12 arg7
  let c1_i32_13 : BitVec 32 := 1#32
  let v16 : BitVec 32 := Scalar.addi v15 c1_i32_13
  let c0_i32_14 : BitVec 32 := 0#32
  ![v16.toNat, 0]
def k0_off6 (v19 : BitVec 32) : Fin 2 → Nat :=
  let c0_i32_15 : BitVec 32 := 0#32
  ![v19.toNat, 0]

def k0_chk2 (v19 : BitVec 32) : Prop :=
  (∀ a, (k0_off6 v19) a + S1x2048.size a ≤ S45056x2048.size a)
theorem k0_off6_inb : ∀ (v19 : BitVec 32) (k0_hw2 : k0_chk2 v19), ∀ a, (k0_off6 v19) a + S1x2048.size a ≤ S45056x2048.size a := fun v19 k0_hw2 => k0_hw2

@[reducible] def k0_t2_loop : Scf.Loop 32 :=
  let c0_i32_1 : BitVec 32 := 0#32
  let c512_i32_2 : BitVec 32 := 512#32
  let v2 : BitVec 32 := Scalar.addi c0_i32_1 c512_i32_2
  let c1_i32_3 : BitVec 32 := 1#32
  ⟨c0_i32_1, v2, c1_i32_3⟩
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CollectReference.lean ====
abbrev S32768 : Shape := ⟨1, ![32768]⟩
abbrev S45056x2048 : Shape := ⟨2, ![45056, 2048]⟩
abbrev S8x4096x2048 : Shape := ⟨3, ![8, 4096, 2048]⟩
abbrev S32768x2048 : Shape := ⟨2, ![32768, 2048]⟩
abbrev S_ : Shape := ⟨0, ![]⟩
abbrev S32768x1 : Shape := ⟨2, ![32768, 1]⟩

abbrev nBuf : Space → Nat
  | .hbm => 14
  | .vmem => 0
  | .smem => 0
  | _ => 0

abbrev bufTy : (tb : Table) → Fin (tcTables nBuf tb) → BufTy
  | .hbm, ⟨0, _⟩ => ⟨S32768, .i32⟩
  | .hbm, ⟨1, _⟩ => ⟨S45056x2048, .f32⟩
  | .hbm, ⟨2, _⟩ => ⟨S8x4096x2048, .f32⟩
  | .hbm, ⟨3, _⟩ => ⟨S32768x2048, .f32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S32768x2048, .f32⟩
  | .hbm, ⟨13, _⟩ => ⟨S32768x2048, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Dispatch.lean ====
abbrev S32768 : Shape := ⟨1, ![32768]⟩
abbrev S32768x2304 : Shape := ⟨2, ![32768, 2304]⟩
abbrev S_ : Shape := ⟨0, ![]⟩
abbrev S45056x2304 : Shape := ⟨2, ![45056, 2304]⟩
abbrev S512x2304 : Shape := ⟨2, ![512, 2304]⟩
abbrev S1 : Shape := ⟨1, ![1]⟩
abbrev S1x2304 : Shape := ⟨2, ![1, 2304]⟩

abbrev nBuf : Space → Nat
  | .hbm => 4
  | .vmem => 2
  | .smem => 1
  | _ => 0

abbrev bufTy : (tb : Table) → Fin (tcTables nBuf tb) → BufTy
  | .hbm, ⟨0, _⟩ => ⟨S32768x2304, .f32⟩
  | .hbm, ⟨1, _⟩ => ⟨S_, .f32⟩
  | .hbm, ⟨2, _⟩ => ⟨S45056x2304, .f32⟩
  | .hbm, ⟨3, _⟩ => ⟨S45056x2304, .f32⟩
  | .local _ .vmem, ⟨0, _⟩ => ⟨S512x2304, .f32⟩
  | .local _ .vmem, ⟨1, _⟩ => ⟨S512x2304, .f32⟩
  | .local _ .smem, ⟨0, _⟩ => ⟨S32768, .i32⟩
  | _, _ => ⟨S32768x2304, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32 : BitVec 32 := 256#32
  let v1 : BitVec 32 := Scalar.addi c0_i32 c256_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c2_i32 : BitVec 32 := 2#32
  let c0_i32 : BitVec 32 := 0#32
  let c1_i32 : BitVec 32 := 1#32
  let arg6 : BitVec 32 := Scf.iv c0_i32 c1_i32 k0_t1
  let v3 : BitVec 32 := Scalar.muli c2_i32 arg6
  let c0_i32_4 : BitVec 32 := 0#32
  let v4 : BitVec 32 := Scalar.addi v3 c0_i32_4
  let v5 : BitVec 32 := Scalar.addi v0 v4
  let v6 : Index := Scalar.indexCast v5
  ![v6.toNat]
def k0_off2 (v7 : BitVec 32) : Fin 2 → Nat :=
  let c0_i32_5 : BitVec 32 := 0#32
  ![v7.toNat, 0]

def k0_chk1 (v7 : BitVec 32) : Prop :=
  (∀ a, (k0_off2 v7) a + S1x2304.size a ≤ S45056x2304.size a)
theorem k0_off2_inb : ∀ (v7 : BitVec 32) (k0_hw1 : k0_chk1 v7), ∀ a, (k0_off2 v7) a + S1x2304.size a ≤ S45056x2304.size a := fun v7 k0_hw1 => k0_hw1

def k0_off3 (k0_t1 : Fin k0_t1_loop.trips) : Fin 2 → Nat :=
  let c2_i32 : BitVec 32 := 2#32
  let c0_i32 : BitVec 32 := 0#32
  let c1_i32 : BitVec 32 := 1#32
  let arg6 : BitVec 32 := Scf.iv c0_i32 c1_i32 k0_t1
  let v3 : BitVec 32 := Scalar.muli c2_i32 arg6
  let c0_i32_4 : BitVec 32 := 0#32
  let v4 : BitVec 32 := Scalar.addi v3 c0_i32_4
  let c0_i32_6 : BitVec 32 := 0#32
  ![v4.toNat, 0]
def k0_off4 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c2_i32_7 : BitVec 32 := 2#32
  let c0_i32 : BitVec 32 := 0#32
  let c1_i32 : BitVec 32 := 1#32
  let arg6 : BitVec 32 := Scf.iv c0_i32 c1_i32 k0_t1
  let v10 : BitVec 32 := Scalar.muli c2_i32_7 arg6
  let c1_i32_8 : BitVec 32 := 1#32
  let v11 : BitVec 32 := Scalar.addi v10 c1_i32_8
  let v12 : BitVec 32 := Scalar.addi v0 v11
  let v13 : Index := Scalar.indexCast v12
  ![v13.toNat]
def k0_off5 (v14 : BitVec 32) : Fin 2 → Nat :=
  let c0_i32_9 : BitVec 32 := 0#32
  ![v14.toNat, 0]

def k0_chk2 (v14 : BitVec 32) : Prop :=
  (∀ a, (k0_off5 v14) a + S1x2304.size a ≤ S45056x2304.size a)
theorem k0_off5_inb : ∀ (v14 : BitVec 32) (k0_hw2 : k0_chk2 v14), ∀ a, (k0_off5 v14) a + S1x2304.size a ≤ S45056x2304.size a := fun v14 k0_hw2 => k0_hw2

def k0_off6 (k0_t1 : Fin k0_t1_loop.trips) : Fin 2 → Nat :=
  let c2_i32_7 : BitVec 32 := 2#32
  let c0_i32 : BitVec 32 := 0#32
  let c1_i32 : BitVec 32 := 1#32
  let arg6 : BitVec 32 := Scf.iv c0_i32 c1_i32 k0_t1
  let v10 : BitVec 32 := Scalar.muli c2_i32_7 arg6
  let c1_i32_8 : BitVec 32 := 1#32
  let v11 : BitVec 32 := Scalar.addi v10 c1_i32_8
  let c0_i32_10 : BitVec 32 := 0#32
  ![v11.toNat, 0]
@[reducible] def k0_t2_loop : Scf.Loop 32 :=
  let c0_i32_1 : BitVec 32 := 0#32
  let c512_i32_2 : BitVec 32 := 512#32
  let v2 : BitVec 32 := Scalar.addi c0_i32_1 c512_i32_2
  let c1_i32_3 : BitVec 32 := 1#32
  ⟨c0_i32_1, v2, c1_i32_3⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== DispatchReference.lean ====
abbrev S32768 : Shape := ⟨1, ![32768]⟩
abbrev S32768x2304 : Shape := ⟨2, ![32768, 2304]⟩
abbrev S_ : Shape := ⟨0, ![]⟩
abbrev S45056x2304 : Shape := ⟨2, ![45056, 2304]⟩
abbrev S32768x1 : Shape := ⟨2, ![32768, 1]⟩

abbrev nBuf : Space → Nat
  | .hbm => 13
  | .vmem => 0
  | .smem => 0
  | _ => 0

abbrev bufTy : (tb : Table) → Fin (tcTables nBuf tb) → BufTy
  | .hbm, ⟨0, _⟩ => ⟨S32768, .i32⟩
  | .hbm, ⟨1, _⟩ => ⟨S32768x2304, .f32⟩
  | .hbm, ⟨2, _⟩ => ⟨S_, .f32⟩
  | .hbm, ⟨3, _⟩ => ⟨S45056x2304, .f32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S45056x2304, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Ffn.Body.lean ====
/- The kernel body of the experts' feed-forward call at one grid point, as a function.

   At a point (i, j, f) the body may reset the output tile and the scratch copy of the token rows, and may then add
   one product of the expert's halves to the output tile.  Both steps are under a condition: the first holds at
   j = f = 0, the second when the tile's word of the validity table is not zero.  `step` says what the two buffers
   hold afterwards; `body_wp` is the triple of the printed body for it. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.ValueKit.Basic
public import Idealize.ShloMosaic.Lib.Ring
public import Idealize.ShloMosaic.Lib.Tactic
public import Idealize.ShloMosaic.Lib.WordCmp

@[expose] public section

set_option maxRecDepth 16384

noncomputable section

namespace Cert.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two tables as the body is handed them. -/
abbrev teM : Memref sig .tc .smem S176 .i32 := Memref.whole main_v7
abbrev tvM : Memref sig .tc .smem S88 .i32 := Memref.whole main_arg1
/-- Half of a table's buffer at given contents: what the body holds of it while the pipeline keeps the other half. -/
abbrev tabPt (c : Dev nD) {S : Shape} {e : EltTy} (M : Memref sig .tc .smem S e) (f : Buf (Elt F) (M.view.loc (c : Thread nD τ))) : sProp 𝕄 :=
  M.view.loc (c : Thread nD τ) ↦{fullShare.right} f

/-- The word of the validity table the body reads at a point. -/
abbrev word (c : Dev nD) (i : grid0.Coords) (f : Buf (Elt F) (tvM.view.loc (c : Thread nD τ))) : BitVec 32 :=
  View.readAt (Elt F) tvM.view (Rect.unit (s := S88) (k0_off2 i) S1.size (k0_off2_inb i)).toLoadRect f (Shape.Idx.first (numel1_S1.symm ▸ Nat.one_pos))

/-- The token rows of a tile, without the lanes that carry the combine weights. -/
def tokens (x : Vec F S512x2304 .f32) : Vec F S512x2048 .f32 :=
  View.ld x (Rect.unit (s := S512x2304) ![0, 0] S512x2048.size inb_S512x2304_S512x2048_0_0)
/-- The first expert's combine weights of a tile, and the second's. -/
def weightA (x : Vec F S512x2304 .f32) : Vec F S512x1 .f32 :=
  View.ld x (Rect.unit (s := S512x2304) ![0, 2048] S512x1.size inb_S512x2304_S512x1_0_2048)
def weightB (x : Vec F S512x2304 .f32) : Vec F S512x1 .f32 :=
  View.ld x (Rect.unit (s := S512x2304) ![0, 2176] S512x1.size inb_S512x2304_S512x1_0_2176)

/-- The output tile and the scratch after the conditional reset. -/
def reset (p : Prop) [Decidable p] (x : Vec F S512x2304 .f32) (st : Vec F S512x2048 .f32 × Vec F S512x2048 .bf16) :
    Vec F S512x2048 .f32 × Vec F S512x2048 .bf16 :=
  if p then (k0_pay2, k0_pay1 (tokens x)) else st

/-- The output tile after the conditional accumulation. -/
def accum (q : Prop) [Decidable q] (i : grid0.Coords) (x : Vec F S512x2304 .f32) (a b : Vec F S1x2048x512 .bf16) (d : Vec F S1x512x2048 .bf16)
    (st : Vec F S512x2048 .f32 × Vec F S512x2048 .bf16) : Vec F S512x2048 .f32 × Vec F S512x2048 .bf16 :=
  if q then (k0_pay3 i st.2 a b d (weightA x) (weightB x) st.1, st.2) else st

/-- What the output tile and the scratch hold after the body at a point, from what they held before. -/
def step (i : grid0.Coords) (w : BitVec 32) (x : Vec F S512x2304 .f32) (a b : Vec F S1x2048x512 .bf16) (d : Vec F S1x512x2048 .bf16)
    (st : Vec F S512x2048 .f32 × Vec F S512x2048 .bf16) : Vec F S512x2048 .f32 × Vec F S512x2048 .bf16 :=
  accum (k0_cond2 w = 1#1) i x a b d (reset (k0_cond1 i = 1#1) x st)

theorem zero2 : (![0, 0] : Fin 2 → Nat) = fun _ => 0 := by funext a; fin_cases a <;> rfl

/-- A whole-shape store, the last of a list, is what a read of the buffer gives. -/
theorem read_last {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h
  funext y
  have e := View.read_writes_cons_emb v f (Rect.whole S) w L y
  rwa [Rect.emb_whole_apply] at e

set_option maxHeartbeats 4000000 in
/-- The printed body takes the two buffers from `st` to `step … st`, whatever staging memrefs it is handed, and leaves
    its inputs and the tables as they were. -/
theorem body_wp (c : Dev nD) (i : grid0.Coords)
    (arg5 : Memref sig .tc .vmem S512x2304 .f32) (harg5 : arg5.IsWhole) (arg6 : Memref sig .tc .vmem S1x2048x512 .bf16) (harg6 : arg6.IsWhole)
    (arg7 : Memref sig .tc .vmem S1x2048x512 .bf16) (harg7 : arg7.IsWhole) (arg8 : Memref sig .tc .vmem S1x512x2048 .bf16) (harg8 : arg8.IsWhole)
    (arg9 : Memref sig .tc .vmem S512x2048 .f32) (harg9 : arg9.IsWhole) (arg10 : Memref sig .tc .vmem S512x2048 .bf16) (harg10 : arg10.IsWhole)
    (x : Vec F S512x2304 .f32) (a b : Vec F S1x2048x512 .bf16) (d : Vec F S1x512x2048 .bf16)
    (f0 : Buf (Elt F) (teM.view.loc (c : Thread nD τ))) (f1 : Buf (Elt F) (tvM.view.loc (c : Thread nD τ)))
    (st : Vec F S512x2048 .f32 × Vec F S512x2048 .bf16) (E : Set ℕ) (K : PUnit → sProp 𝕄) :
    iprop(owns (c : Thread nD τ) arg5 fullShare x ∗ owns (c : Thread nD τ) arg6 fullShare a ∗ owns (c : Thread nD τ) arg7 fullShare b ∗ owns (c : Thread nD τ) arg8 fullShare d
        ∗ owns (c : Thread nD τ) arg9 fullShare st.1 ∗ owns (c : Thread nD τ) arg10 fullShare st.2 ∗ tabPt c teM f0 ∗ tabPt c tvM f1
        ∗ (iprop(owns (c : Thread nD τ) arg5 fullShare x ∗ owns (c : Thread nD τ) arg6 fullShare a ∗ owns (c : Thread nD τ) arg7 fullShare b ∗ owns (c : Thread nD τ) arg8 fullShare d
            ∗ owns (c : Thread nD τ) arg9 fullShare (step i (word c i f1) x a b d st).1 ∗ owns (c : Thread nD τ) arg10 fullShare (step i (word c i f1) x a b d st).2 ∗ tabPt c teM f0 ∗ tabPt c tvM f1) -∗ K ⟨⟩))
      ⊢ wp frame (wpE (defs₀ (F := F)) Variants.none c none) E
          (cc0_expert_ffn i teM (Memref.isWhole_whole _) tvM (Memref.isWhole_whole _) arg5 harg5 arg6 harg6 arg7 harg7 arg8 harg8 arg9 harg9 arg10 harg10) K := by
  obtain ⟨o, s⟩ := st
  simp only [cc0_expert_ffn_eq_skeleton]; unfold cc0_expert_ffn_skel
  unfold step accum reset
  by_cases h1 : k0_cond1 i = 1#1 <;> by_cases h2 : k0_cond2 (word c i f1) = 1#1
  · rw [if_pos h1, if_pos h2]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, HT0, HT1, Hk⟩
    obtain rfl := harg5.eq_unread hg0; obtain rfl := harg6.eq_unread hg1; obtain rfl := harg7.eq_unread hg2; obtain rfl := harg8.eq_unread hg3; obtain rfl := harg9.eq_unread hg4; obtain rfl := harg10.eq_unread hg5
    sl_exec (disch := first | (guard_target = k0_cond1 _ = _; exact h1) | (guard_target = k0_cond2 _ = _; exact h2))
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr
      swap; · iexact H4
      ipureintro
      sl_unfold_words
      rw [read_last _ _ zero2]
      simp (disch := decide) only [View.readAt_eq_ld, harg5.read_unread, harg6.read_unread, harg7.read_unread, harg8.read_unread, harg9.read_unread, harg10.read_unread, View.ld_unit_lit, View.readCov_unit_lit]
      rfl
    isplitl [H5]
    · iexists _; isplitr
      swap; · iexact H5
      ipureintro
      sl_unfold_words
      rw [read_last _ _ zero2]
      simp (disch := decide) only [View.readAt_eq_ld, harg5.read_unread, harg6.read_unread, harg7.read_unread, harg8.read_unread, harg9.read_unread, harg10.read_unread, View.ld_unit_lit, View.readCov_unit_lit]
      rfl
    isplitl [HT0]; · iexact HT0
    iexact HT1
  · rw [if_pos h1, if_neg h2]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, HT0, HT1, Hk⟩
    obtain rfl := harg5.eq_unread hg0; obtain rfl := harg6.eq_unread hg1; obtain rfl := harg7.eq_unread hg2; obtain rfl := harg8.eq_unread hg3; obtain rfl := harg9.eq_unread hg4; obtain rfl := harg10.eq_unread hg5
    sl_exec (disch := first | (guard_target = k0_cond1 _ = _; exact h1) | (guard_target = ¬(k0_cond2 _ = _); exact h2))
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr
      swap; · iexact H4
      ipureintro
      sl_unfold_words
      rw [read_last _ _ zero2]
    isplitl [H5]
    · iexists _; isplitr
      swap; · iexact H5
      ipureintro
      sl_unfold_words
      rw [read_last _ _ zero2]
      simp (disch := decide) only [View.readAt_eq_ld, harg5.read_unread, harg6.read_unread, harg7.read_unread, harg8.read_unread, harg9.read_unread, harg10.read_unread, View.ld_unit_lit, View.readCov_unit_lit]
      rfl
    isplitl [HT0]; · iexact HT0
    iexact HT1
  · rw [if_neg h1, if_pos h2]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, HT0, HT1, Hk⟩
    obtain rfl := harg5.eq_unread hg0; obtain rfl := harg6.eq_unread hg1; obtain rfl := harg7.eq_unread hg2; obtain rfl := harg8.eq_unread hg3; obtain rfl := harg9.eq_unread hg4; obtain rfl := harg10.eq_unread hg5
    sl_exec (disch := first | (guard_target = ¬(k0_cond1 _ = _); exact h1) | (guard_target = k0_cond2 _ = _; exact h2))
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr
      swap; · iexact H4
      ipureintro
      sl_unfold_words
      rw [read_last _ _ zero2]
      simp (disch := decide) only [View.readAt_eq_ld, harg5.read_unread, harg6.read_unread, harg7.read_unread, harg8.read_unread, harg9.read_unread, harg10.read_unread, View.ld_unit_lit, View.readCov_unit_lit]
      rfl
    isplitl [H5]
    · iexists _; isplitr
      swap; · iexact H5
      ipureintro
      exact harg10.read_unread _
    isplitl [HT0]; · iexact HT0
    iexact HT1
  · rw [if_neg h1, if_neg h2]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, HT0, HT1, Hk⟩
    obtain rfl := harg5.eq_unread hg0; obtain rfl := harg6.eq_unread hg1; obtain rfl := harg7.eq_unread hg2; obtain rfl := harg8.eq_unread hg3; obtain rfl := harg9.eq_unread hg4; obtain rfl := harg10.eq_unread hg5
    sl_exec (disch := first | (guard_target = ¬(k0_cond1 _ = _); exact h1) | (guard_target = ¬(k0_cond2 _ = _); exact h2))
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr
      swap; · iexact H4
      ipureintro
      exact harg9.read_unread _
    isplitl [H5]
    · iexists _; isplitr
      swap; · iexact H5
      ipureintro
      exact harg10.read_unread _
    isplitl [HT0]; · iexact HT0
    iexact HT1

end Cert.Ffn

end
-- ==== Proof.Ffn.Run.lean ====
/- The launch of the experts' feed-forward call: what its buffers hold point by point, and the run.

   Everything is stated at any float instance `F`, so that the run serves both readings of the program. -/
module

public import proofs.«01_k».proof.Proof.Ffn.Body
public import Idealize.ShloMosaic.Lib.Pipeline.TableIdle
public import Idealize.ShloMosaic.Lib.Claim

@[expose] public section

set_option maxRecDepth 16384

noncomputable section

namespace Cert.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the call is entered -/

/-- Core `c`'s buffers when the call is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer no host operation writes is found as launched. -/
theorem V_kept (c : Dev nD) (r : Ref sig .tc)
    (h : r ≠ main_v0 ∧ r ≠ main_v1 ∧ r ≠ main_v2 ∧ r ≠ main_v3 ∧ r ≠ main_v4 ∧ r ≠ main_v5 ∧ r ≠ main_c ∧ r ≠ main_v6 ∧ r ≠ main_v7) :
    V m c r = m ((c : Thread nD τ).loc r) :=
  StableHlo.after_of_forall_not_mem (b := Proc.devRef .tc r) _ _ (List.forall_iff_forall_mem.mp (by
    obtain ⟨h0, h1, h2, h3, h4, h5, h6, h7, h8⟩ := h
    simp only [hostOps0, List.Forall, StableHlo.nullary_writes, StableHlo.unary_writes, StableHlo.binary_writes, StableHlo.reshape_writes, Finset.mem_singleton]
    refine ⟨?_, ?_, ?_, ?_, ?_, ?_, ?_, ?_, ?_⟩ <;> refine StableHlo.devRef_ne_of_ne ?_ <;> assumption))

/-- The contents of the two tables when the call is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block a table word names lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem ΦT_eq (c : Dev nD) : (Pipeline.ΦT pre0 (tbl m) c : sProp 𝕄) = iprop(tabPt c teM (tbl m 0) ∗ tabPt c tvM (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The schedule -/

/-- The reset's condition holds at the first of a tile's four points. -/
theorem cond1_iff (t : Fin grid0.N) : k0_cond1 (grid0.coords t) = 1#1 ↔ t.val % 4 = 0 := by
  have ht : t.val < 352 := Nat.lt_of_lt_of_eq t.isLt N_0
  have e1 : (grid0.coords t 1).val = t.val / 2 % 2 := Pipeline.Grid.coords_val t 1 (by decide) rfl
  have e2 : (grid0.coords t 2).val = t.val / 1 % 2 := Pipeline.Grid.coords_val t 2 (by decide) rfl
  simp only [k0_cond1, e1, e2]
  word_cmp

/-- The output tile is written back at the last of its four points. -/
theorem flush_iff (hO : Ok m) : ∀ t : Fin (cfgM m hO).N, ((cfgM m hO).win 4).flush t = true ↔ t.val % 4 = 3 :=
  (fun t => Pipeline.Window.flushOf_reads cc0_transform_4 reads0_4 hreads0_4 0 (by decide) (by decide) (Pipeline.Window.sep_of_coord cc0_transform_4 0 0 (fun _ => rfl) (by decide)) (P := 4) (m := 3) (by decide) rfl t :
    ∀ t : Fin grid0.N, Pipeline.Window.flushOf grid0 true cc0_transform_4 t = true ↔ t.val % 4 = 3)

/-- The validity word at a point, read off the table's contents. -/
abbrev wordAt (hO : Ok m) (c : Dev nD) (t : Fin (cfgM m hO).N) : BitVec 32 := word (F := F) c (grid0.coords t) (tbl m 1)

/-- The output window is idle where neither condition holds. -/
theorem idle_iff (hO : Ok m) (c : Dev nD) (t : Fin (cfgM m hO).N) :
    (cfgM m hO).idle 4 ((cfgM m hO).grid.coords t) = true ↔ ¬ k0_cond1 (grid0.coords t) = 1#1 ∧ ¬ k0_cond2 (wordAt m hO c t) = 1#1 := by
  have e : (tbl m).atD 1 (k0_off2 (grid0.coords t)) = wordAt m hO c t := by
    simp only [wordAt, word, View.readAt_eq_ld]
    delta Pipeline.Prefetch.Contents.atD
    split
    · refine congrArg (tbl m 1) (funext fun a => Fin.ext ?_)
      show _ = k0_off2 (grid0.coords t) a + 0 * 1
      rw [Nat.zero_mul, Nat.add_zero]
    · rename_i hn
      refine absurd (fun a => ?_) hn
      have ha : a = (0 : Fin 1) := Subsingleton.elim (α := Fin 1) _ _
      subst ha
      exact k0_off2_inb (grid0.coords t) 0
  show (!(k0_cond1 (grid0.coords t) == 1#1) && !(k0_cond2 ((tbl m).atD 1 (k0_off2 (grid0.coords t))) == 1#1)) = true ↔ _
  rw [e]
  simp

/-! ## The windows' blocks and the trajectory -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- One point's `step` on the blocks of that point. -/
def stepAt (hO : Ok m) (c : Dev nD) (t : Fin (cfgM m hO).N) (st : Vec F S512x2048 .f32 × Vec F S512x2048 .bf16) :
    Vec F S512x2048 .f32 × Vec F S512x2048 .bf16 :=
  step (grid0.coords t) (wordAt m hO c t) (iblk m hO c 0 t) (iblk m hO c 1 t) (iblk m hO c 2 t) (iblk m hO c 3 t) st

/-- The output tile and the scratch after point `n`: the steps in turn.  What stands before the first point plays no
    part, since that point resets both. -/
def outs (hO : Ok m) (c : Dev nD) : (n : ℕ) → n < (cfgM m hO).N → Vec F S512x2048 .f32 × Vec F S512x2048 .bf16
  | 0, hn => stepAt m hO c ⟨0, hn⟩ (k0_pay2, k0_pay1 (k0_pay2))
  | n + 1, hn => stepAt m hO c ⟨n + 1, hn⟩ (outs hO c n (Nat.lt_of_succ_lt hn))

/-- At a point that is not a tile's first the step starts from what the point before left. -/
theorem outs_next (hO : Ok m) (c : Dev nD) (t : Fin (cfgM m hO).N) (h : t.val ≠ 0) :
    outs m hO c t.val t.isLt = stepAt m hO c t (outs m hO c (t.val - 1) (Nat.lt_of_le_of_lt (Nat.sub_le _ _) t.isLt)) := by
  obtain ⟨n, hn⟩ := t
  cases n with
  | zero => exact absurd rfl h
  | succ n => rfl

/-- At a tile's first point the step starts from anything. -/
theorem outs_first (hO : Ok m) (c : Dev nD) (t : Fin (cfgM m hO).N) (h : t.val % 4 = 0) (st : Vec F S512x2048 .f32 × Vec F S512x2048 .bf16) :
    outs m hO c t.val t.isLt = stepAt m hO c t st := by
  have e : ∀ st st' : Vec F S512x2048 .f32 × Vec F S512x2048 .bf16, stepAt m hO c t st = stepAt m hO c t st' := fun st st' => by
    unfold stepAt step reset; rw [if_pos ((cond1_iff t).mpr h), if_pos ((cond1_iff t).mpr h)]
  obtain ⟨n, hn⟩ := t
  cases n with
  | zero => exact e _ _
  | succ n => exact e _ _

/-- At an idle point nothing changes. -/
theorem outs_idle (hO : Ok m) (c : Dev nD) (t : Fin (cfgM m hO).N) (h : (cfgM m hO).idle 4 ((cfgM m hO).grid.coords t) = true) :
    outs m hO c t.val t.isLt = outs m hO c (t.val - 1) (Nat.lt_of_le_of_lt (Nat.sub_le _ _) t.isLt) := by
  obtain ⟨h1, h2⟩ := (idle_iff m hO c t).mp h
  rw [outs_next m hO c t (fun hz => h1 ((cond1_iff t).mpr (by rw [hz])))]
  unfold stepAt step reset accum
  rw [if_neg h2, if_neg h1]

/-! ## The proof data -/

/-- The scratch as a memref. -/
abbrev scM : Memref sig .tc .vmem S512x2048 .bf16 := Memref.whole cc0_scratch0

theorem ΦA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The invariant before point `n`: the scratch at anything before the first point, at the trajectory's contents
    afterwards; the generator register; the halves of the tables. -/
def inv (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(owns (c : Thread nD τ) scM fullShare (outs m hO c n hn).2 ∗ (∃ r, prngReg c r)) ∗ Pipeline.ΦT pre0 (tbl m) c)

theorem inv_zero (hO : Ok m) (c : Dev nD) (n : ℕ) (h : n ≤ (cfgM m hO).N) (hz : n = 0) : inv m hO c n h = iprop(Pipeline.ΦA spec0 c ∗ Pipeline.ΦT pre0 (tbl m) c) := by
  subst hz; rfl

theorem inv_succ (hO : Ok m) (c : Dev nD) (n : ℕ) (hn : n < (cfgM m hO).N) :
    inv m hO c (n + 1) hn = iprop(iprop(owns (c : Thread nD τ) scM fullShare (outs m hO c n hn).2 ∗ (∃ r, prngReg c r)) ∗ Pipeline.ΦT pre0 (tbl m) c) := rfl

theorem inv_pos (hO : Ok m) (c : Dev nD) (n : ℕ) (h : n ≤ (cfgM m hO).N) (hz : n ≠ 0) :
    inv m hO c n h = iprop(iprop(owns (c : Thread nD τ) scM fullShare (outs m hO c (n - 1) (by omega)).2 ∗ (∃ r, prngReg c r)) ∗ Pipeline.ΦT pre0 (tbl m) c) := by
  cases n with
  | zero => exact absurd rfl hz
  | succ n => rfl

/-- The proof data: arrays as found, every input buffer at its block, the output buffer on the trajectory. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outs m hO c t.val t.isLt).1
  Φ t := inv m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem Φ_castSucc (hO : Ok m) (c : Dev nD) (t : Fin (cfgM m hO).N) :
    (dats m hO 0 c).Φ t.castSucc = inv m hO c t.val (Nat.le_of_lt t.isLt) := by
  dsimp only [dats]; exact Pipeline.Dat.Φ_castSucc (inv m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = (outs m hO c t.val t.isLt).1 := by dsimp only [dats]; try rfl

/-- An input window's buffer holds its block at every point, fetched there or kept. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The output buffer is fresh exactly before a tile's first point. -/
theorem fresh_eq (hO : Ok m) : ∀ n, n ≤ (cfgM m hO).N → (cfgM m hO).fresh 4 n = decide (n % 4 = 0) := by
  refine Pipeline.Cfg.fresh_tab (cfgM m hO) 4 (fun n => decide (n % 4 = 0)) rfl fun t => ?_
  have hf := flush_iff m hO t
  have hi := idle_iff m hO 0 t
  have hc := cond1_iff t
  by_cases h0 : t.val % 4 = 0
  · have e : (cfgM m hO).idle 4 ((cfgM m hO).grid.coords t) = false := by
      rw [Bool.eq_false_iff]; exact fun h => (hi.mp h).1 (hc.mpr h0)
    have e' : ((cfgM m hO).win 4).flush t = false := by rw [Bool.eq_false_iff]; exact fun h => by have := hf.mp h; omega
    rw [e, e']; simp; omega
  · rw [show decide (t.val % 4 = 0) = false from decide_eq_false h0, Bool.and_false, Bool.or_false]
    rw [Bool.eq_iff_iff, decide_eq_true_iff, hf]; omega

/-- At a point that is not a tile's first the output buffer holds what the point before left. -/
theorem before_4 (hO : Ok m) (c : Dev nD) (t : Fin (cfgM m hO).N) (h0 : ¬t.val % 4 = 0) (d) :
    (dats m hO 0 c).before 4 t d = (outs m hO c (t.val - 1) (Nat.lt_of_le_of_lt (Nat.sub_le _ _) t.isLt)).1 := by
  rw [(dats m hO 0 c).before_out_traj 4 rfl (fun _ _ => rfl) (fun t ht hi _ => by
    rw [after_4, after_4, outs_idle m hO c t hi]) t.val t rfl d, fresh_eq m hO _ (Nat.le_of_lt t.isLt),
    if_neg (by simpa using h0), after_4]

/-! ## The body obligation -/

/-- The body at point `t` on the memrefs the pipeline hands it. -/
abbrev bodyAt (hO : Ok m) (t : Fin (cfgM m hO).N) : Prog (TpuEff nD τ sig (Elt F) Λ₀ .tc) PUnit :=
  cc0_expert_ffn (grid0.coords t) (Memref.whole main_v7) (Memref.isWhole_whole _) (Memref.whole main_arg1) (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (Memref.whole cc0_scratch0) (Memref.isWhole_whole _)

/-- What the body is handed at point `t`, and what it hands back: the output buffer on the trajectory, idle or not. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t))

set_option maxHeartbeats 3200000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).owesAt () t.succ = (dats m hO 0 c).owesAt () t.castSucc from rfl,
    after_0, after_1, after_2, after_3, after_4]
  rw [show (dats m hO 0 c).Φ t.succ = inv m hO c (t.val + 1) t.isLt from rfl, inv_succ, ΦT_eq]
  by_cases h0 : t.val % 4 = 0
  · -- a tile's first point: both buffers at anything
    have hΦ : (dats m hO 0 c).Φ t.castSucc ⊢ iprop(iprop(iprop((∃ d, owns (c : Thread nD τ) scM fullShare d)) ∗ (∃ r, prngReg c r)) ∗ (tabPt c teM (tbl m 0) ∗ tabPt c tvM (tbl m 1)) : sProp 𝕄) := by
      by_cases hz : t.val = 0
      · rw [Φ_castSucc m hO c t, inv_zero m hO c _ _ hz, ΦT_eq, ΦA_eq]
      · rw [Φ_castSucc m hO c t, inv_pos m hO c _ _ hz, ΦT_eq]
        iintro ⟨⟨HS0, Hg⟩, HT⟩
        isplitl [HS0 Hg]
        · isplitl [HS0]
          · iexists _; iexact HS0
          iexact Hg
        iexact HT
    iintro ⟨HΦ, Ho, ⟨%d0, H0⟩, ⟨%d1, H1⟩, ⟨%d2, H2⟩, ⟨%d3, H3⟩, ⟨%d4, H4⟩⟩
    ihave HΦ := hΦ $$ HΦ
    icases HΦ with ⟨⟨⟨%s, HS0⟩, Hg⟩, ⟨HT0, HT1⟩⟩
    rw [outs_first m hO c t h0 ((dats m hO 0 c).before 4 t d4, s)]
    unfold stepAt
    iapply (body_wp c (grid0.coords t) _ _ _ _ _ _ _ _ _ _ _ _ (iblk m hO c 0 t) (iblk m hO c 1 t) (iblk m hO c 2 t) (iblk m hO c 3 t) (tbl m 0) (tbl m 1) ((dats m hO 0 c).before 4 t d4, s) Set.univ _)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    iintro ⟨H0, H1, H2, H3, H4, HS0, HT0, HT1⟩
    isplitl [HS0 Hg HT0 HT1]
    · isplitl [HS0 Hg]
      · isplitl [HS0]
        · iexact HS0
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · have hz : t.val ≠ 0 := fun h => h0 (by rw [h])
    rw [Φ_castSucc m hO c t, inv_pos m hO c _ _ hz, ΦT_eq, outs_next m hO c t hz]
    simp only [before_4 m hO c t h0]
    unfold stepAt
    iintro ⟨⟨⟨HS0, Hg⟩, ⟨HT0, HT1⟩⟩, Ho, ⟨%d0, H0⟩, ⟨%d1, H1⟩, ⟨%d2, H2⟩, ⟨%d3, H3⟩, ⟨%d4, H4⟩⟩
    iapply (body_wp c (grid0.coords t) _ _ _ _ _ _ _ _ _ _ _ _ (iblk m hO c 0 t) (iblk m hO c 1 t) (iblk m hO c 2 t) (iblk m hO c 3 t) (tbl m 0) (tbl m 1) (outs m hO c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    iintro ⟨H0, H1, H2, H3, H4, HS0, HT0, HT1⟩
    isplitl [HS0 Hg HT0 HT1]
    · isplitl [HS0 Hg]
      · isplitl [HS0]
        · iexact HS0
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- Handing back the output buffer on the trajectory is handing it back as the pipeline asks, idle point or not. -/
theorem leave_4 (hO : Ok m) (c : Dev nD) (t : Fin (cfgM m hO).N) :
    owns (c : Thread nD τ) (((cfgM m hO).win 4).stage ((cfgM m hO).slots t 4)) fullShare ((dats m hO 0 c).after 4 t)
      ⊢ (match (cfgM m hO).idle 4 ((cfgM m hO).grid.coords t) with
          | true =>
            match ((cfgM m hO).win 4).flush t with
            | false => iprop(∃ d, owns (c : Thread nD τ) (((cfgM m hO).win 4).stage ((cfgM m hO).slots t 4)) fullShare ((dats m hO 0 c).before 4 t d))
            | true => owns (c : Thread nD τ) (((cfgM m hO).win 4).stage ((cfgM m hO).slots t 4)) fullShare ((dats m hO 0 c).after 4 t)
          | false => owns (c : Thread nD τ) (((cfgM m hO).win 4).stage ((cfgM m hO).slots t 4)) fullShare ((dats m hO 0 c).after 4 t) : sProp 𝕄) := by
  cases hi : (cfgM m hO).idle 4 ((cfgM m hO).grid.coords t) with
  | false => exact .rfl
  | true =>
    cases hf : ((cfgM m hO).win 4).flush t with
    | true => exact .rfl
    | false =>
      have h0 : ¬ t.val % 4 = 0 := fun h => ((idle_iff m hO c t).mp hi).1 ((cond1_iff t).mpr h)
      dsimp only
      simp only [before_4 m hO c t h0, after_4, outs_idle m hO c t hi]
      iintro H
      iexists (outs m hO c t.val t.isLt).1
      iexact H

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  exact BI.sep_mono (Entails.refl _) (BI.sep_mono (Entails.refl _) (BI.sep_mono (Entails.refl _) (BI.sep_mono (Entails.refl _) (BI.sep_mono (Entails.refl _) (BI.sep_mono (Entails.refl _) (leave_4 m hO c t))))))

/-! ## The run -/

theorem hin (hO : Ok m) (c : Dev nD) : iprop(Pipeline.ΦA spec0 c ∗ Pipeline.ΦT pre0 (tbl m) c) ⊢ (dats m hO 0 c).Φ 0 := by
  rw [show (dats m hO 0 c).Φ 0 = inv m hO c 0 (Nat.zero_le _) from rfl, inv_zero m hO c 0 _ rfl]
  try exact Idealize.SL.BI.Entails.refl _

theorem hout (hO : Ok m) (c : Dev nD) : (dats m hO 0 c).Φ (Fin.last (cfgM m hO).N) ⊢ Pipeline.ΦA spec0 c := by
  have hN : (cfgM m hO).N = 352 := N_0
  rw [show (dats m hO 0 c).Φ (Fin.last (cfgM m hO).N) = inv m hO c (Fin.last (cfgM m hO).N).val (Nat.le_of_lt_succ (Fin.last (cfgM m hO).N).isLt) from rfl,
    inv_pos m hO c _ _ (by rw [Fin.val_last]; omega), ΦA_eq]
  iintro ⟨⟨HS0, Hg⟩, -⟩
  isplitl [HS0]
  · iexists _; iexact HS0
  iexact Hg

set_option backward.isDefEq.respectTransparency.types false in
/-- Every execution ends, each array of the call at what the proof data says, every other buffer as found, every
    counter at zero. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The argument arrays at the end of such a run are as launched. -/
theorem args_of_post (hO : Ok m) {r} (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (by decide : main_arg0 ∈ Pipeline.restRefs sig spec0)).trans (V_kept m c _ (by decide)),
    ((h c).2 main_arg1 (by decide : main_arg1 ∈ Pipeline.restRefs sig spec0)).trans (V_kept m c _ (by decide)),
    ((h c).1 0).trans (((dats m hO 0 c).arrAt_in 0 rfl _).trans ((A_eq m hO c 0).trans (V_kept m c main_arg2 (by decide)))),
    ((h c).2 main_arg3 (by decide : main_arg3 ∈ Pipeline.restRefs sig spec0)).trans (V_kept m c _ (by decide)),
    ((h c).2 main_arg4 (by decide : main_arg4 ∈ Pipeline.restRefs sig spec0)).trans (V_kept m c _ (by decide)),
    ((h c).2 main_arg5 (by decide : main_arg5 ∈ Pipeline.restRefs sig spec0)).trans (V_kept m c _ (by decide))⟩

/-- The call leaves its arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_of_post m hO h.1 c, h.2⟩) (run_quiescent m ρ hO)

end Cert.Ffn

end
-- ==== Proof.Ffn.Entry.lean ====
/- What the precondition says of the table of expert rows, and what the call's arrays hold when it is entered. -/
module

public import proofs.«01_k».proof.Defs
public import proofs.«01_k».proof.Proof.Ffn.Run
public import proofs.«01_k».proof.Proof.Gen.Pre_routed
public import proofs.«01_k».proof.Proof.Gen.Pre_routed_weighted

@[expose] public section

noncomputable section

namespace Cert.Ffn

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The table of weight rows the call reads: each tile's expert, moved to its layer. -/
theorem V_rows (c : Dev nD) : (V m c main_v7 : S176.Idx → BitVec 32)
    = addi (w := 32) (s := S176) (m ((c : Thread nD τ).loc main_arg0)) (broadcastInDim S176 ![] bcast_S_S176 (constantI S_ 32 16#32)) := by
  unfold_abbrev_sides
  after_results
  try rfl

/-- The three weight arrays as the call finds them: cast and with the layer and expert axes joined. -/
theorem V_w1 (c : Dev nD) : (V m c main_v1 : S32x2048x1024.Idx → F .bf16)
    = shapeCast S32x2048x1024 (truncf .bf16 (m ((c : Thread nD τ).loc main_arg3) : S2x16x2048x1024.Idx → F .f32) bitsLt_bf16_f32) shapeCasts_S2x16x2048x1024_S32x2048x1024 := by
  unfold_abbrev_sides
  after_results
  rfl

theorem V_w3 (c : Dev nD) : (V m c main_v3 : S32x2048x1024.Idx → F .bf16)
    = shapeCast S32x2048x1024 (truncf .bf16 (m ((c : Thread nD τ).loc main_arg4) : S2x16x2048x1024.Idx → F .f32) bitsLt_bf16_f32) shapeCasts_S2x16x2048x1024_S32x2048x1024 := by
  unfold_abbrev_sides
  after_results
  rfl

theorem V_w2 (c : Dev nD) : (V m c main_v5 : S32x1024x2048.Idx → F .bf16)
    = shapeCast S32x1024x2048 (truncf .bf16 (m ((c : Thread nD τ).loc main_arg5) : S2x16x1024x2048.Idx → F .f32) bitsLt_bf16_f32) shapeCasts_S2x16x1024x2048_S32x1024x2048 := by
  unfold_abbrev_sides
  after_results
  rfl

/-- Expert rows below sixteen name blocks inside the weight arrays. -/
theorem ok_of_lt (h : ∀ y : S176.Idx, BitVec.toNat (w := 32) (m (((0 : Dev nD) : Thread nD τ).loc main_arg0) y) < 16) : Ok m := by
  have hv : ∀ y : S176.Idx, BitVec.toNat (w := 32) (V m 0 main_v7 y) < 32 := fun y => by
    rw [V_rows]
    show (HAdd.hAdd (α := BitVec 32) (β := BitVec 32) (γ := BitVec 32) (m (((0 : Dev nD) : Thread nD τ).loc main_arg0) y) 16#32).toNat < 32
    rw [BitVec.toNat_add]
    have := h y
    simp only [BitVec.toNat_ofNat]
    omega
  have h2 : ∀ i : grid0.Coords, (i 2).val < 2 := fun i => (i 2).isLt
  have hw : ∀ i : grid0.Coords, ((tbl m).at 0 (Rect.unit (s := S176) (k0_off1 i) S1.size (k0_off1_inb i)) numel1_S1 : BitVec 32).toNat < 32 := fun i => hv _
  refine ⟨fun i => ⟨fun a => ?_, Or.inr (Or.inr ⟨by decide, rfl, Nat.zero_mul _, rfl⟩)⟩, fun i => ⟨fun a => ?_, Or.inr (Or.inr ⟨by decide, rfl, Nat.zero_mul _, rfl⟩)⟩,
    fun i => ⟨fun a => ?_, Or.inr (Or.inl (Or.inr ⟨(show 2 ≤ S32x1024x2048.rank by decide), rfl, Or.inl ⟨Dvd.dvd.mul_left (dvd_def.mpr ⟨256, rfl⟩) _, dvd_def.mpr ⟨256, rfl⟩⟩⟩))⟩⟩
  · have h1 := hw i
    have h3 := h2 i
    fin_cases a
    · show (((tbl m).at 0 (Rect.unit (s := S176) (k0_off1 i) S1.size (k0_off1_inb i)) numel1_S1 : BitVec 32).toNat + 1) * 1 ≤ 32
      omega
    · show (0 + 1) * 2048 ≤ 2048
      omega
    · show ((BitVec.ofNat 32 (i 2).val).toNat + 1) * 512 ≤ 1024
      rw [BitVec.toNat_ofNat]; omega
  · have h1 := hw i
    have h3 := h2 i
    fin_cases a
    · show (((tbl m).at 0 (Rect.unit (s := S176) (k0_off1 i) S1.size (k0_off1_inb i)) numel1_S1 : BitVec 32).toNat + 1) * 1 ≤ 32
      omega
    · show (0 + 1) * 2048 ≤ 2048
      omega
    · show ((BitVec.ofNat 32 (i 2).val).toNat + 1) * 512 ≤ 1024
      rw [BitVec.toNat_ofNat]; omega
  · have h1 := hw i
    have h3 := h2 i
    fin_cases a
    · show (((tbl m).at 0 (Rect.unit (s := S176) (k0_off1 i) S1.size (k0_off1_inb i)) numel1_S1 : BitVec 32).toNat + 1) * 1 ≤ 32
      omega
    · show ((BitVec.ofNat 32 (i 2).val).toNat + 1) * 512 ≤ 1024
      rw [BitVec.toNat_ofNat]; omega
    · show (0 + 1) * 2048 ≤ 2048
      omega

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- A word that is at least 0 and below 16 as signed numbers is below 16. -/
theorem lt_of_signed (w : BitVec 32) (h : (BitVec.sle 0#32 w && BitVec.slt w 16#32) = true) : w.toNat < 16 := by
  rw [Bool.and_eq_true] at h
  obtain ⟨hge, hlt⟩ := h
  simp only [BitVec.sle, BitVec.slt, decide_eq_true_eq, BitVec.toInt, BitVec.toNat_ofNat] at hge hlt
  omega

theorem ok_of_routed [Cert.Pre_routed.Facts] {a0 a1 a2 a3 a4 a5} (h : Cert.Pre_routed.fn (F := F) a0 a1 a2 a3 a4 a5 = fun _ => 1#1) (y : S176.Idx) :
    (a0 y).toNat < 16 := by
  have e := congrFun h y
  simp only [Cert.Pre_routed.fn, andi, cmpi, broadcastInDim, constantI, IntOp.cmpi, andi_ofBool, ofBool_eq_one] at e
  exact lt_of_signed _ e

theorem ok_of_weighted [Cert.Pre_routed_weighted.Facts] {a0 a1 a2 a3 a4 a5} (h : (Cert.Pre_routed_weighted.fn (F := F) a0 a1 a2 a3 a4 a5).1 = fun _ => 1#1) (y : S176.Idx) :
    (a0 y).toNat < 16 := by
  have e := congrFun h y
  simp only [Cert.Pre_routed_weighted.fn, andi, cmpi, broadcastInDim, constantI, IntOp.cmpi, andi_ofBool, ofBool_eq_one] at e
  exact lt_of_signed _ e

end Cert.Ffn

end
-- ==== Proof.Ffn.Same.lean ====
/- The kernel as compiled and the kernel over the reals have the same text: one run serves both. -/
module
public import proofs.«01_k».proof.Defs
public import proofs.«01_k».proof.Proof.Gen.Kernel.Launch
public import proofs.«01_k».proof.Proof.Gen.KernelIdeal.Launch
public import proofs.«01_k».proof.Proof.Gen.Pre_routed
public import proofs.«01_k».proof.Proof.Ffn.Entry
@[expose] public section
open Idealize.ShloMosaic Idealize.SL.Sem
namespace Cert.Ffn
variable {F : FTy → Type} [FloatOps F]

/-- The two readings of the kernel run the same body. -/
theorem bodies_eq : (Cert.Kernel.defs₀ (F := F)) = (Cert.KernelIdeal.defs₀ (F := F)) := by
  unfold Cert.Kernel.defs₀ Cert.KernelIdeal.defs₀
  refine congrArg Defs.onTc ?_
  funext l a
  match l, a with
  | ⟨0, _⟩, (t, s) => rfl

/-- So their tables of bodies are the same. -/
theorem defs_eq : (Cert.Kernel.defs (F := F)) = (Cert.KernelIdeal.defs (F := F)) :=
  congrArg (Pipeline.defs (Cert.Kernel.pcfgs (F := F))) bodies_eq

/-- The two readings of the kernel run the same host program. -/
theorem main_eq : (Cert.Kernel.main (F := F)) = (Cert.KernelIdeal.main (F := F)) := by
  delta Cert.Kernel.main Cert.KernelIdeal.main
  with_unfolding_all rfl

/-- A claim about one program is a claim about an equal one. -/
theorem run_eq {nD : Nat} {τ : Topo} {sig : RefSig} {V : EltTy → Type} {Λ : Labels} {d d' : Defs nD τ sig V Λ}
    {p p' : Dev nD → Prog (TpuEff nD τ sig V Λ .tc) PUnit} (hd : d = d') (hp : p = p') {s Q}
    (h : θ_run d' (onTc (τ := τ) p') s Q) : θ_run d (onTc (τ := τ) p) s Q := by
  cases hd; cases hp; exact h

/-- The kernel over bit patterns runs and leaves its arguments unchanged. -/
theorem frame_kernel : Cert.quiescent_Kernel := fun m ρ h =>
  run_eq defs_eq main_eq (frame (F := Bits) m ρ (ok_of_lt m (ok_of_routed (h 0))))

end Cert.Ffn
-- ==== Proof.Ffn.Spec.lean ====
/- What the experts' feed-forward computes, over the extended reals, and the algebra between its two ways of adding up. -/
module

public import Idealize.ShloMosaic.Lib.Pointwise

@[expose] public section

noncomputable section

namespace Cert.Ffn

open Idealize.ShloMosaic

/-- The activation: `h` times the logistic function of `h`. -/
def silu (h : EReal) : EReal := h * Ideal.div 1 (1 + Ideal.exp (-h))

/-- A hidden unit of one expert: the activated first projection times the second, of a token row `x`. -/
def hidden {D : ℕ} (x w1 w3 : Fin D → EReal) : EReal := silu (∑ d, x d * w1 d) * ∑ d, x d * w3 d

/-- The shapes of the call's arrays. -/
abbrev Stokens : Shape := ⟨2, ![45056, 2304]⟩
abbrev Sin : Shape := ⟨4, ![2, 16, 2048, 1024]⟩
abbrev Sdown : Shape := ⟨4, ![2, 16, 1024, 2048]⟩
abbrev Sout : Shape := ⟨2, ![45056, 2048]⟩
abbrev Spairs : Shape := ⟨1, ![176]⟩
abbrev Stiles : Shape := ⟨1, ![88]⟩

section Layer

variable (te : Spairs.Idx → BitVec 32) (tv : Stiles.Idx → BitVec 32) (xs : Stokens.Idx → EReal) (w1 w3 : Sin.Idx → EReal) (w2 : Sdown.Idx → EReal)

/-- Hidden unit `k` of expert `e` of the second layer, of row `R`. -/
def unitOf (e : Fin 16) (R : Fin 45056) (k : Fin 1024) : EReal :=
  hidden (fun d : Fin 2048 => xs (ix2 R ⟨d.val, by omega⟩)) (fun d => w1 (ix4 1 e d k)) (fun d => w3 (ix4 1 e d k))

/-- Expert `e`'s output of row `R` at column `c`. -/
def expert (e : Fin 16) (R : Fin 45056) (c : Fin 2048) : EReal := ∑ k : Fin 1024, unitOf xs w1 w3 e R k * w2 (ix4 1 e k c)

/-- The expert a word of the table names. -/
def expertOf (w : BitVec 32) : Fin 16 := ⟨w.toNat % 16, Nat.mod_lt _ (by decide)⟩

/-- The result: zero in a tile that is not live, and elsewhere the two weighted outputs of the tile's experts. -/
def out (j : Sout.Idx) : EReal :=
  let R : Fin 45056 := j 0
  if tv (ix1 ⟨R.val / 512, by omega⟩) = 0#32 then 0
  else xs (ix2 R 2048) * expert xs w1 w3 w2 (expertOf (te (ix1 ⟨2 * (R.val / 512), by omega⟩))) R (j 1)
    + xs (ix2 R 2176) * expert xs w1 w3 w2 (expertOf (te (ix1 ⟨2 * (R.val / 512) + 1, by omega⟩))) R (j 1)

end Layer

/-- A sum over 1024 hidden units is the sum over the first half plus the sum over the second. -/
theorem sum_halves (g : Fin 1024 → EReal) :
    ∑ k : Fin 1024, g k = (∑ k : Fin 512, g ⟨512 * 0 + k.val, by omega⟩) + ∑ k : Fin 512, g ⟨512 * 1 + k.val, by omega⟩ := by
  rw [Fin.sum_univ_add (a := 512) (b := 512) g]
  congr 1

/-- A weight that is a real number distributes over a sum when it is not negative. -/
theorem weight_mul_add {w : EReal} (h0 : 0 ≤ w) (ht : w < ⊤) (a b : EReal) : w * (a + b) = w * a + w * b :=
  EReal.left_distrib_of_nonneg_of_ne_top h0 ht.ne a b

/-- Two weights that are not negative: their sum distributes. -/
theorem weights_add_mul {v w : EReal} (hv : 0 ≤ v) (hw : 0 ≤ w) (y : EReal) : (v + w) * y = v * y + w * y :=
  EReal.right_distrib_of_nonneg hv hw

/-- Over all sixteen experts the weight of an expert is the sum of what the two chosen ones give it: so the weighted
    sum is that of the two. -/
theorem sum_two (e0 e1 : Fin 16) (v w : EReal) (hv : 0 ≤ v) (hw : 0 ≤ w) (y : Fin 16 → EReal) :
    ∑ e : Fin 16, ((if e = e0 then v else 0) + (if e = e1 then w else 0)) * y e = v * y e0 + w * y e1 := by
  have e : ∀ e : Fin 16, ((if e = e0 then v else 0) + (if e = e1 then w else 0)) * y e
      = (if e = e0 then v * y e else 0) + (if e = e1 then w * y e else 0) := fun e => by
    rw [weights_add_mul (by split <;> first | exact hv | exact le_rfl) (by split <;> first | exact hw | exact le_rfl)]
    simp only [ite_mul, zero_mul]
  simp only [e, Finset.sum_add_distrib, Finset.sum_ite_eq', Finset.mem_univ, if_true]

end Cert.Ffn

end
-- ==== Proof.Ffn.Reference.lean ====
/- The reference read at an index: the sum over the sixteen experts. -/
module

public import proofs.«01_k».proof.Proof.Ffn.Spec
public import proofs.«01_k».proof.Proof.Gen.ReferenceIdeal.Read

@[expose] public section

noncomputable section

namespace Cert.Ffn.Ref

open Cert.ReferenceIdeal Cert.ReferenceIdeal.Gen Cert.ReferenceIdeal.Read
open Idealize.ShloMosaic

theorem slices_in (e : Fin 16) : S2x16x2048x1024.Slices ![1, e.val, 0, 0] S1x1x2048x1024 := by
  revert e; decide

theorem slices_out (e : Fin 16) : S2x16x1024x2048.Slices ![1, e.val, 0, 0] S1x1x1024x2048 := by
  revert e; decide

theorem slices_weight (e : Fin 16) : S45056x16.Slices ![0, e.val] S45056x1 := by
  revert e; decide

section Any

variable {F : FTy → Type} [FloatOps F]
variable (x0 : (⟨S176, .i32⟩ : BufTy).Contents (Elt F)) (x1 : (⟨S88, .i32⟩ : BufTy).Contents (Elt F)) (x2 : (⟨S45056x2304, .f32⟩ : BufTy).Contents (Elt F))
  (x3 x4 : (⟨S2x16x2048x1024, .f32⟩ : BufTy).Contents (Elt F)) (x5 : (⟨S2x16x1024x2048, .f32⟩ : BufTy).Contents (Elt F))

/-- A token projection by expert `e` of the layer. -/
def proj (e : Fin 16) (w : (⟨S2x16x2048x1024, .f32⟩ : BufTy).Contents (Elt F)) : FVec F S45056x1024 .f32 :=
  Host.dotGeneral dot_S45056x2048_S2048x1024_S45056x1024_1_0_0_1_n_n none (val_main_v0 (F := F) x2)
    (shapeCast _ (extractStridedSlice S1x1x2048x1024 ![1, e.val, 0, 0] w (slices_in e)) shapeCasts_S1x1x2048x1024_S2048x1024 : FVec F S2048x1024 .f32)

/-- The activation of a projection, as the reference spells it. -/
def act (h : FVec F S45056x1024 .f32) : FVec F S45056x1024 .f32 :=
  mulf h (Host.divf (broadcastInDim S45056x1024 ![] bcast_S_S45056x1024 (constant S_ .f32 0x3F800000#32))
    (addf (broadcastInDim S45056x1024 ![] bcast_S_S45056x1024 (constant S_ .f32 0x3F800000#32)) (Host.exp (Host.negf h))))

/-- What the reference adds for expert `e`. -/
def term (e : Fin 16) : FVec F S45056x2048 .f32 :=
  mulf (broadcastInDim S45056x2048 ![0, 1] bcast_S45056x1_S45056x2048_0_1 (extractStridedSlice S45056x1 ![0, e.val] (val_main_v21 (F := F) x0 x1 x2) (slices_weight e)))
    (Host.dotGeneral dot_S45056x1024_S1024x2048_S45056x2048_1_0_0_1_n_n none (mulf (act (proj x2 e x3)) (proj x2 e x4))
      (shapeCast _ (extractStridedSlice S1x1x1024x2048 ![1, e.val, 0, 0] x5 (slices_out e)) shapeCasts_S1x1x1024x2048_S1024x2048 : FVec F S1024x2048 .f32))

/-- The reference's result: the experts' terms added up in turn. -/
theorem result_eq : val_main_v262 (F := F) x0 x1 x2 x3 x4 x5
    = (List.finRange 16).foldl (fun s e => addf s (term x0 x1 x2 x3 x4 x5 e)) (val_main_v22 (F := F)) := rfl

end Any

section Values

variable (x0 : (⟨S176, .i32⟩ : BufTy).Contents (Elt Ideal)) (x1 : (⟨S88, .i32⟩ : BufTy).Contents (Elt Ideal)) (x2 : (⟨S45056x2304, .f32⟩ : BufTy).Contents (Elt Ideal))
  (x3 x4 : (⟨S2x16x2048x1024, .f32⟩ : BufTy).Contents (Elt Ideal)) (x5 : (⟨S2x16x1024x2048, .f32⟩ : BufTy).Contents (Elt Ideal))

theorem ix4_congr {n0 n1 n2 n3 : ℕ} {a a' : Fin n0} {b b' : Fin n1} {c c' : Fin n2} {d d' : Fin n3} (ha : a.val = a'.val) (hb : b.val = b'.val)
    (hc : c.val = c'.val) (hd : d.val = d'.val) : ix4 a b c d = ix4 a' b' c' d' := by
  rw [Fin.ext ha, Fin.ext hb, Fin.ext hc, Fin.ext hd]

theorem v0_apply (R : Fin 45056) (d : Fin 2048) : val_main_v0 (F := Ideal) x2 (ix2 R d) = x2 (ix2 R ⟨d.val, by omega⟩) := by
  unfold val_main_v0
  simp only [pointwise]
  exact congrArg x2 (congrArg₂ ix2 (Fin.ext (Nat.zero_add _)) (Fin.ext (Nat.zero_add _)))

theorem proj_apply (e : Fin 16) (w : (⟨S2x16x2048x1024, .f32⟩ : BufTy).Contents (Elt Ideal)) (R : Fin 45056) (k : Fin 1024) :
    proj (F := Ideal) x2 e w (ix2 R k) = ∑ d : Fin 2048, x2 (ix2 R ⟨d.val, by omega⟩) * w (ix4 1 e d k) := by
  unfold proj
  generalize hv : val_main_v0 (F := Ideal) x2 = v
  simp only [pointwise]
  rw [zero_add]
  refine Finset.sum_congr rfl fun d _ => ?_
  exact congrArg₂ (· * ·) (hv ▸ v0_apply x2 R d) (congrArg w (ix4_congr rfl rfl (Nat.zero_add _) (Nat.zero_add _)))

theorem act_apply (h : FVec Ideal S45056x1024 .f32) (R : Fin 45056) (k : Fin 1024) : act (F := Ideal) h (ix2 R k) = silu (h (ix2 R k)) := by
  unfold act silu
  simp only [pointwise]

theorem term_apply (e : Fin 16) (R : Fin 45056) (c : Fin 2048) :
    term (F := Ideal) x0 x1 x2 x3 x4 x5 e (ix2 R c) = val_main_v21 (F := Ideal) x0 x1 x2 (ix2 R e)
      * ∑ k : Fin 1024, hidden (fun d : Fin 2048 => x2 (ix2 R ⟨d.val, by omega⟩)) (fun d => x3 (ix4 1 e d k)) (fun d => x4 (ix4 1 e d k)) * x5 (ix4 1 e k c) := by
  unfold term
  generalize val_main_v21 (F := Ideal) x0 x1 x2 = v
  simp only [pointwise, act_apply, proj_apply]
  rw [zero_add]
  refine congrArg₂ (· * ·) (congrArg v (congrArg₂ ix2 (Fin.ext (Nat.zero_add _)) rfl)) (Finset.sum_congr rfl fun k _ => ?_)
  exact congrArg (_ * x5 ·) (ix4_congr rfl rfl (Nat.zero_add _) (Nat.zero_add _))

/-- A one-hot entry times a number. -/
theorem oneHot_mul (a b : BitVec 32) (t : EReal) : FloatOps.uitofp (F := Ideal) .f32 (IntOp.cmpi .eq a b) * t = if a = b then t else 0 := by
  show (((BitVec.ofBool (a == b)).toNat : ℝ) : EReal) * t = _
  by_cases h : a = b
  · rw [if_pos h, h, beq_self_eq_true]; simp
  · rw [if_neg h, beq_eq_false_iff_ne.mpr h]; simp

/-- A choice by whether a word is zero. -/
theorem select_live (w : BitVec 32) (p q : EReal) : Scalar.select (IntOp.cmpi .ne w 0#32) p q = if w = 0#32 then q else p := by
  by_cases h : w = 0#32
  · rw [if_pos h, h]; rfl
  · rw [if_neg h]
    show Scalar.select (BitVec.ofBool (w != 0#32)) p q = p
    rw [bne_iff_ne.mpr h]; rfl

theorem idx_v21 (R : Fin 45056) (e : Fin 16) (k : Fin 2) : idx_main_v21 (ix2 R e) k = ix3 R k e := by
  funext a
  match a with
  | ⟨0, _⟩ => rfl
  | ⟨1, _⟩ => rfl
  | ⟨2, _⟩ => rfl

/-- The two combine weights of a row side by side. -/
theorem v12_apply (R : Fin 45056) (k : Fin 2) : val_main_v12 (F := Ideal) x2 (ix2 R k) = if k = 0 then x2 (ix2 R 2048) else x2 (ix2 R 2176) := by
  simp only [pointwise, val_main_v12, val_main_v11, val_main_v10, val_main_v9, val_main_v8, val_main_v7, val_main_v6]
  by_cases hk : k.val < 1
  · rw [dif_pos hk, if_pos (Fin.ext (by show k.val = 0; omega))]
    exact congrArg x2 (congrArg₂ ix2 (Fin.ext (Nat.zero_add _)) rfl)
  · rw [dif_neg hk]
    refine Eq.trans ?_ (if_neg (fun h => hk (by rw [h]; decide))).symm
    exact congrArg x2 (congrArg₂ ix2 (Fin.ext (Nat.zero_add _)) rfl)

theorem v16_apply (R : Fin 45056) (k : Fin 2) : val_main_v16 (F := Ideal) x1 x2 (ix2 R k)
    = if (x1 (ix1 ⟨R.val / 512, by omega⟩) : BitVec 32) = 0#32 then 0 else val_main_v12 (F := Ideal) x2 (ix2 R k) := by
  unfold val_main_v16
  generalize val_main_v12 (F := Ideal) x2 = v
  simp only [pointwise, val_main_v15, val_main_v14, val_main_v13, val_main_c, val_main_v5, val_main_v4, val_main_call0_v0, val_main_call0_v1, val_main_call0_v2, val_main_cst, select_live]
  exact if_congr Iff.rfl Ideal.ofBits_zero_f32 rfl

theorem v20_apply (R : Fin 45056) (k : Fin 2) (e : Fin 16) : val_main_v20 (F := Ideal) x0 x1 x2 (ix3 R k e)
    = if (x0 (ix1 ⟨2 * (R.val / 512) + k.val, by omega⟩) : BitVec 32) = BitVec.ofNat 32 e.val then val_main_v16 (F := Ideal) x1 x2 (ix2 R k) else 0 := by
  unfold val_main_v20 val_main_v19 val_main_v18
  generalize val_main_v16 (F := Ideal) x1 x2 = v
  simp only [pointwise, val_main_v17, val_main_v3, val_main_v2, val_main_v1, val_main_call1_v0, val_main_call1_v1, val_main_call1_v2, val_main_call1_v3, val_main_call1_v4, oneHot_mul]
  exact if_congr (Iff.of_eq (congrArg (· = BitVec.ofNat 32 e.val) (congrArg x0 (congrArg ix1 (Fin.ext (by
    show R.val / 512 * 2 + k.val = 2 * (R.val / 512) + k.val
    omega)))))) rfl rfl

theorem weight_apply (e : Fin 16) (R : Fin 45056) :
    val_main_v21 (F := Ideal) x0 x1 x2 (ix2 R e)
      = (if (x0 (ix1 ⟨2 * (R.val / 512), by omega⟩) : BitVec 32) = BitVec.ofNat 32 e.val then (if (x1 (ix1 ⟨R.val / 512, by omega⟩) : BitVec 32) = 0#32 then 0 else x2 (ix2 R 2048)) else 0)
        + (if (x0 (ix1 ⟨2 * (R.val / 512) + 1, by omega⟩) : BitVec 32) = BitVec.ofNat 32 e.val then (if (x1 (ix1 ⟨R.val / 512, by omega⟩) : BitVec 32) = 0#32 then 0 else x2 (ix2 R 2176)) else 0) := by
  rw [val_main_v21_apply, Fin.sum_univ_two, idx_v21, idx_v21, v20_apply, v20_apply, v16_apply, v16_apply, v12_apply, v12_apply]
  simp only [val_main_cst_0, pointwise, zero_add, ↓reduceIte, one_ne_zero]
  rfl

/-- Adding arrays up in turn, at an index. -/
theorem foldl_addf_apply {S : Shape} (f : Fin 16 → FVec Ideal S .f32) (j : S.Idx) (l : List (Fin 16)) (z : FVec Ideal S .f32) :
    l.foldl (fun s e => addf s (f e)) z j = z j + (l.map fun e => f e j).sum := by
  induction l generalizing z with
  | nil => simp
  | cons a l ih =>
    rw [List.foldl_cons, ih, List.map_cons, List.sum_cons, ← add_assoc]
    rfl

/-- The reference's result is the two chosen experts' weighted outputs, where the words of the table name experts and
    the weights are not negative. -/
theorem result_apply (hte : ∀ y, (x0 y : BitVec 32).toNat < 16) (hA : ∀ R : Fin 45056, 0 ≤ (x2 (ix2 R 2048) : EReal))
    (hB : ∀ R : Fin 45056, 0 ≤ (x2 (ix2 R 2176) : EReal)) :
    val_main_v262 (F := Ideal) x0 x1 x2 x3 x4 x5 = out x0 x1 x2 x3 x4 x5 := by
  funext j
  obtain ⟨R, c, rfl⟩ : ∃ (R : Fin 45056) (c : Fin 2048), j = ix2 R c := ⟨j 0, j 1, eq_ix2 j⟩
  rw [result_eq, foldl_addf_apply, ← Fin.sum_univ_def]
  have h22 : val_main_v22 (F := Ideal) (ix2 R c) = 0 := by
    unfold val_main_v22 val_main_cst_1
    simp only [pointwise]
  have hw : ∀ (y : S176.Idx) (e : Fin 16), (x0 y : BitVec 32) = BitVec.ofNat 32 e.val ↔ e = expertOf (x0 y) := fun y e => by
    have h := hte y
    have := e.isLt
    rw [← BitVec.toNat_inj, Fin.ext_iff, BitVec.toNat_ofNat]
    show _ ↔ e.val = BitVec.toNat (w := 32) (x0 y) % 16
    omega
  simp only [h22, zero_add, term_apply, weight_apply, hw]
  unfold out
  show _ = if (x1 (ix1 ⟨R.val / 512, _⟩) : BitVec 32) = 0#32 then 0 else _
  by_cases h : (x1 (ix1 ⟨R.val / 512, by omega⟩) : BitVec 32) = 0#32
  · simp only [if_pos h, ite_self, add_zero, zero_mul, Finset.sum_const_zero]
  · simp only [if_neg h]
    exact sum_two _ _ _ _ (hA R) (hB R) fun e => expert x2 x3 x4 x5 e R c

end Values

end Cert.Ffn.Ref

end
-- ==== Proof.Ffn.Blocks.lean ====
/- The blocks the call reads at a grid point, over the extended reals, at coordinates of the argument arrays. -/
module

public import proofs.«01_k».proof.Proof.Ffn.Spec
public import proofs.«01_k».proof.Proof.Ffn.Entry

@[expose] public section

noncomputable section

namespace Cert.Ffn

open Cert.KernelIdeal Cert.KernelIdeal.Gen
open Idealize.ShloMosaic Idealize.ShloMosaic.TcCoe Idealize.SL.Sem

variable (m : (ℓ : Loc nD τ sig) → Buf (Elt Ideal) ℓ)

/-- The argument arrays as launched. -/
abbrev teOf : Spairs.Idx → BitVec 32 := m (((0 : Dev nD) : Thread nD τ).loc main_arg0)
abbrev tvOf : Stiles.Idx → BitVec 32 := m (((0 : Dev nD) : Thread nD τ).loc main_arg1)
abbrev xsOf : Stokens.Idx → EReal := m (((0 : Dev nD) : Thread nD τ).loc main_arg2)
abbrev w1Of : Sin.Idx → EReal := m (((0 : Dev nD) : Thread nD τ).loc main_arg3)
abbrev w3Of : Sin.Idx → EReal := m (((0 : Dev nD) : Thread nD τ).loc main_arg4)
abbrev w2Of : Sdown.Idx → EReal := m (((0 : Dev nD) : Thread nD τ).loc main_arg5)

variable (hO : Ok m)

/-- A point's tile, its place in the table of pairs, and its half of the hidden units. -/
theorem lt_points (t : Fin grid0.N) : t.val < 352 := Nat.lt_of_lt_of_eq t.isLt N_0
abbrev tileOf (t : Fin grid0.N) : Fin 88 := ⟨t.val / 4, by have := lt_points t; omega⟩
abbrev pairOf (t : Fin grid0.N) : Fin 176 := ⟨t.val / 2, by have := lt_points t; omega⟩
abbrev rowOf (t : Fin grid0.N) (r : Fin 512) : Fin 45056 := ⟨512 * (t.val / 4) + r.val, by have := lt_points t; omega⟩
abbrev unitAt (t : Fin grid0.N) (k : Fin 512) : Fin 1024 := ⟨512 * (t.val % 2) + k.val, by omega⟩
/-- The expert of a point. -/
abbrev expertAt (t : Fin grid0.N) : Fin 16 := expertOf (teOf m (ix1 (pairOf t)))

theorem coord0 (t : Fin grid0.N) : (grid0.coords t 0).val = t.val / 4 := by
  have e : (grid0.coords t 0).val = t.val / 4 % 88 := Pipeline.Grid.coords_val t 0 (by decide) rfl
  have := lt_points t
  omega
theorem coord1 (t : Fin grid0.N) : (grid0.coords t 1).val = t.val / 2 % 2 := Pipeline.Grid.coords_val t 1 (by decide) rfl
theorem coord2 (t : Fin grid0.N) : (grid0.coords t 2).val = t.val % 2 := by
  have e : (grid0.coords t 2).val = t.val / 1 % 2 := Pipeline.Grid.coords_val t 2 (by decide) rfl
  omega

/-- The validity word of a point is its tile's. -/
theorem wordAt_eq (t : Fin (cfgM m hO).N) : wordAt m hO 0 t = tvOf m (ix1 (tileOf t)) := by
  simp only [wordAt, word, Idealize.ShloMosaic.View.readAt_eq_ld]
  refine (congrFun (V_kept m 0 main_arg1 (by decide)) _).trans (congrArg (tvOf m) (funext fun a => Fin.ext ?_))
  match a with
  | ⟨0, _⟩ =>
    show k0_off2 (grid0.coords t) 0 + 1 * 0 = t.val / 4
    rw [k0_off2_eq, ← coord0 t]; rfl

/-- The weight row of a point: its expert, moved to the second layer. -/
theorem row_eq (t : Fin grid0.N) (hte : ∀ y, (teOf m y).toNat < 16) :
    BitVec.toNat (w := 32) ((tbl m).at 0 (Rect.unit (s := S176) (k0_off1 (grid0.coords t)) S1.size (k0_off1_inb _)) numel1_S1) = 16 + (expertAt m t).val := by
  have e : (((tbl m).at 0 (Rect.unit (s := S176) (k0_off1 (grid0.coords t)) S1.size (k0_off1_inb _)) numel1_S1) : BitVec 32) = teOf m (ix1 (pairOf t)) + 16#32 := by
    refine (congrFun (V_rows m 0) _).trans (congrArg (fun y => teOf m y + 16#32) (funext fun a => Fin.ext ?_))
    match a with
    | ⟨0, _⟩ =>
      show k0_off1 (grid0.coords t) 0 + 1 * 0 = t.val / 2
      rw [k0_off1_eq]
      have h0 := coord0 t
      have h1 := coord1 t
      show 2 * (grid0.coords t 0).val + (grid0.coords t 1).val + 1 * 0 = _
      omega
  refine (congrArg (BitVec.toNat (w := 32)) e).trans ?_
  have := hte (ix1 (pairOf t))
  show _ = 16 + (teOf m (ix1 (pairOf t))).toNat % 16
  rw [BitVec.toNat_add, BitVec.toNat_ofNat]
  omega

theorem iblk_0 (t : Fin (cfgM m hO).N) (r : Fin 512) (d : Fin 2304) : iblk m hO 0 0 t (ix2 r d) = xsOf m (ix2 (rowOf t r) d) := by
  refine (congrFun (V_kept m 0 main_arg2 (by decide)) _).trans (congrArg (xsOf m) (funext fun a => Fin.ext ?_))
  have h := coord0 t
  have := lt_points t
  match a with
  | ⟨0, _⟩ =>
    show (BitVec.ofNat 32 (grid0.coords t 0).val).toNat * 512 + 1 * r.val = 512 * (t.val / 4) + r.val
    rw [h, BitVec.toNat_ofNat]; omega
  | ⟨1, _⟩ =>
    show 0 * 2304 + 1 * d.val = d.val
    omega

/-- Row `16 + e` of a weight array with its layer and expert axes joined is expert `e` of the second layer. -/
theorem joined_in (w : Sin.Idx → EReal) (e : Fin 16) (q : Fin 2048) (k : Fin 1024) :
    shapeCast S32x2048x1024 (truncf (F := Ideal) .bf16 (w : S2x16x2048x1024.Idx → Ideal .f32) bitsLt_bf16_f32) shapeCasts_S2x16x2048x1024_S32x2048x1024
      (ix3 ⟨16 + e.val, by omega⟩ q k) = w (ix4 1 e q k) := by
  simp only [pointwise]
  refine congrArg w ?_
  congr 1 <;> exact Fin.ext (by show _ = _; simp only [Fin.val_one]; omega)

theorem joined_down (w : Sdown.Idx → EReal) (e : Fin 16) (k : Fin 1024) (q : Fin 2048) :
    shapeCast S32x1024x2048 (truncf (F := Ideal) .bf16 (w : S2x16x1024x2048.Idx → Ideal .f32) bitsLt_bf16_f32) shapeCasts_S2x16x1024x2048_S32x1024x2048
      (ix3 ⟨16 + e.val, by omega⟩ k q) = w (ix4 1 e k q) := by
  simp only [pointwise]
  refine congrArg w ?_
  congr 1 <;> exact Fin.ext (by show _ = _; simp only [Fin.val_one]; omega)

variable (hte : ∀ y, (teOf m y).toNat < 16)
include hte

/-- Where a block of the first two weight arrays lies. -/
theorem place_in (t : Fin grid0.N) (q : Fin 2048) (k : Fin 512) (j : S32x2048x1024.Idx)
    (h0 : (j 0).val = BitVec.toNat (w := 32) ((tbl m).at 0 (Rect.unit (s := S176) (k0_off1 (grid0.coords t)) S1.size (k0_off1_inb _)) numel1_S1) * 1 + 1 * 0)
    (h1 : (j 1).val = 0 * 2048 + 1 * q.val) (h2 : (j 2).val = (BitVec.ofNat 32 (grid0.coords t 2).val).toNat * 512 + 1 * k.val) :
    j = ix3 ⟨16 + (expertAt m t).val, by omega⟩ q (unitAt t k) := by
  funext a
  refine Fin.ext ?_
  have h := coord2 t
  match a with
  | ⟨0, _⟩ => exact h0.trans (by rw [row_eq m t hte]; show (16 + (expertAt m t).val) * 1 + 1 * 0 = 16 + (expertAt m t).val; omega)
  | ⟨1, _⟩ => exact h1.trans (by show _ = q.val; omega)
  | ⟨2, _⟩ => exact h2.trans (by rw [h, BitVec.toNat_ofNat]; show _ = 512 * (t.val % 2) + k.val; omega)

theorem iblk_1 (t : Fin (cfgM m hO).N) (q : Fin 2048) (k : Fin 512) :
    iblk m hO 0 1 t (ix3 0 q k) = w1Of m (ix4 1 (expertAt m t) q (unitAt t k)) :=
  ((congrFun (V_w1 m 0) _).trans (congrArg _ (place_in m hte t q k _ rfl rfl rfl))).trans (joined_in (w1Of m) _ _ _)

theorem iblk_2 (t : Fin (cfgM m hO).N) (q : Fin 2048) (k : Fin 512) :
    iblk m hO 0 2 t (ix3 0 q k) = w3Of m (ix4 1 (expertAt m t) q (unitAt t k)) :=
  ((congrFun (V_w3 m 0) _).trans (congrArg _ (place_in m hte t q k _ rfl rfl rfl))).trans (joined_in (w3Of m) _ _ _)

theorem iblk_3 (t : Fin (cfgM m hO).N) (k : Fin 512) (q : Fin 2048) :
    iblk m hO 0 3 t (ix3 0 k q) = w2Of m (ix4 1 (expertAt m t) (unitAt t k) q) := by
  refine ((congrFun (V_w2 m 0) _).trans (congrArg _ (a₂ := ix3 ⟨16 + (expertAt m t).val, by omega⟩ (unitAt t k) q) (funext fun a => Fin.ext ?_))).trans (joined_down (w2Of m) _ _ _)
  have h := coord2 t
  match a with
  | ⟨0, _⟩ =>
    show BitVec.toNat (w := 32) ((tbl m).at 0 (Rect.unit (s := S176) (k0_off1 (grid0.coords t)) S1.size (k0_off1_inb _)) numel1_S1) * 1 + 1 * 0 = 16 + (expertAt m t).val
    rw [row_eq m t hte]; omega
  | ⟨1, _⟩ =>
    show (BitVec.ofNat 32 (grid0.coords t 2).val).toNat * 512 + 1 * k.val = 512 * (t.val % 2) + k.val
    rw [h, BitVec.toNat_ofNat]; omega
  | ⟨2, _⟩ =>
    show 0 * 2048 + 1 * q.val = q.val
    omega

end Cert.Ffn

end
-- ==== Proof.Ffn.Payload.lean ====
/- What the body of the call adds to the output tile at one grid point, read at an index over the extended reals. -/
module

public import proofs.«01_k».proof.Proof.Ffn.Spec
public import proofs.«01_k».proof.Proof.Ffn.Body

@[expose] public section

noncomputable section

namespace Cert.Ffn

open Cert.KernelIdeal Cert.KernelIdeal.Gen
open Idealize.ShloMosaic

theorem pay1_apply (x : Vec Ideal S512x2048 .f32) (r : Fin 512) (c : Fin 2048) : k0_pay1 (F := Ideal) x (ix2 r c) = x (ix2 r c) := by
  unfold k0_pay1
  simp only [pointwise]

theorem pay2_apply (r : Fin 512) (c : Fin 2048) : k0_pay2 (F := Ideal) (ix2 r c) = 0 := by
  unfold k0_pay2
  simp only [pointwise]

/-- The second coordinate of a grid point as a word is zero exactly when it is. -/
theorem first_word (i : grid0.Coords) : Scalar.cmpi .eq (BitVec.ofNat 32 (i 1).val) 0#32 = BitVec.ofBool (decide ((i 1).val = 0)) := by
  have h : (i 1).val < 2 := (i 1).isLt
  generalize (i 1).val = n at h ⊢
  interval_cases n <;> rfl

theorem pay3_apply (i : grid0.Coords) (x : Vec Ideal S512x2048 .bf16) (a b : Vec Ideal S1x2048x512 .bf16) (d : Vec Ideal S1x512x2048 .bf16)
    (wA wB : Vec Ideal S512x1 .f32) (o : Vec Ideal S512x2048 .f32) (r : Fin 512) (c : Fin 2048) :
    k0_pay3 (F := Ideal) i x a b d wA wB o (ix2 r c)
      = o (ix2 r c) + (if (i 1).val = 0 then wA (ix2 r 0) else wB (ix2 r 0))
          * ∑ k : Fin 512, hidden (fun q : Fin 2048 => x (ix2 r q)) (fun q => a (ix3 0 q k)) (fun q => b (ix3 0 q k)) * d (ix3 0 k c) := by
  unfold k0_pay3
  simp only [pointwise]
  rw [first_word]
  simp only [hidden, silu, zero_add, sub_eq_add_neg]
  by_cases h : (i 1).val = 0
  · rw [if_pos h, h]; rfl
  · rw [if_neg h, decide_eq_false h]; rfl

end Cert.Ffn

end
-- ==== Proof.Ffn.Value.lean ====
/- What the call leaves in its result, over the extended reals: the layer's weighted expert outputs. -/
module

public import proofs.«01_k».proof.Proof.Ffn.Blocks
public import proofs.«01_k».proof.Proof.Ffn.Payload

@[expose] public section

noncomputable section

namespace Cert.Ffn

open Cert.KernelIdeal Cert.KernelIdeal.Gen
open Idealize.ShloMosaic Idealize.ShloMosaic.TcCoe Idealize.SL.Sem

theorem tokens_apply (x : Vec Ideal S512x2304 .f32) (r : Fin 512) (q : Fin 2048) : tokens x (ix2 r q) = x (ix2 r ⟨q.val, by omega⟩) :=
  congrArg x (funext fun a => Fin.ext (match a with
    | ⟨0, _⟩ => (by show 0 + 1 * r.val = r.val; omega)
    | ⟨1, _⟩ => (by show 0 + 1 * q.val = q.val; omega)))

theorem weightA_apply (x : Vec Ideal S512x2304 .f32) (r : Fin 512) : weightA x (ix2 r 0) = x (ix2 r 2048) :=
  congrArg x (funext fun a => Fin.ext (match a with
    | ⟨0, _⟩ => (by show 0 + 1 * r.val = r.val; omega)
    | ⟨1, _⟩ => rfl))

theorem weightB_apply (x : Vec Ideal S512x2304 .f32) (r : Fin 512) : weightB x (ix2 r 0) = x (ix2 r 2176) :=
  congrArg x (funext fun a => Fin.ext (match a with
    | ⟨0, _⟩ => (by show 0 + 1 * r.val = r.val; omega)
    | ⟨1, _⟩ => rfl))

/-- The accumulation runs where the tile's word is not zero. -/
theorem cond2_iff (w : BitVec 32) : k0_cond2 w = 1#1 ↔ ¬ w = 0#32 := by
  unfold k0_cond2
  show BitVec.ofBool (BitVec.setWidth 32 (BitVec.ofBool (w != 0#32)) != 0#32) = 1#1 ↔ _
  by_cases h : w = 0#32
  · rw [h]; decide
  · rw [show (w != 0#32) = true from bne_iff_ne.mpr h]
    exact ⟨fun _ => h, fun _ => by decide⟩

variable (m : (ℓ : Loc nD τ sig) → Buf (Elt Ideal) ℓ) (hO : Ok m)

/-- The combine weight of a point's expert. -/
def weightAt (t : Fin grid0.N) (r : Fin 512) : EReal := if t.val / 2 % 2 = 0 then xsOf m (ix2 (rowOf t r) 2048) else xsOf m (ix2 (rowOf t r) 2176)

/-- What one point adds to the output tile: nothing in a tile that is not live, and elsewhere the weighted product over
    the point's half of its expert's hidden units. -/
def term (t : Fin grid0.N) (r : Fin 512) (c : Fin 2048) : EReal :=
  if tvOf m (ix1 (tileOf t)) = 0#32 then 0
  else weightAt m t r * ∑ k : Fin 512, unitOf (xsOf m) (w1Of m) (w3Of m) (expertAt m t) (rowOf t r) (unitAt t k) * w2Of m (ix4 1 (expertAt m t) (unitAt t k) c)

/-- The scratch after a step: the tile's token rows at its first point, and what it was before at the others. -/
theorem stepAt_scratch (t : Fin (cfgM m hO).N) (st : Vec Ideal S512x2048 .f32 × Vec Ideal S512x2048 .bf16) (r : Fin 512) (q : Fin 2048) :
    (stepAt m hO 0 t st).2 (ix2 r q) = if t.val % 4 = 0 then xsOf m (ix2 (rowOf t r) ⟨q.val, by omega⟩) else st.2 (ix2 r q) := by
  have e : (stepAt m hO 0 t st).2 = (reset (k0_cond1 (grid0.coords t) = 1#1) (iblk m hO 0 0 t) st).2 := by
    unfold stepAt step accum
    split <;> rfl
  rw [e]
  unfold reset
  by_cases h : t.val % 4 = 0
  · rw [if_pos ((cond1_iff t).mpr h), if_pos h]
    exact (pay1_apply _ r q).trans ((tokens_apply _ r q).trans (iblk_0 m hO t r _))
  · rw [if_neg (fun h' => h ((cond1_iff t).mp h')), if_neg h]

variable (hte : ∀ y, (teOf m y).toNat < 16)
include hte

/-- The output tile after a step: what it was, or zero at a tile's first point, and the point's term. -/
theorem stepAt_out (t : Fin (cfgM m hO).N) (st : Vec Ideal S512x2048 .f32 × Vec Ideal S512x2048 .bf16) (r : Fin 512) (c : Fin 2048)
    (hs : ∀ q : Fin 2048, (stepAt m hO 0 t st).2 (ix2 r q) = xsOf m (ix2 (rowOf t r) ⟨q.val, by omega⟩)) :
    (stepAt m hO 0 t st).1 (ix2 r c) = (if t.val % 4 = 0 then (0 : EReal) else st.1 (ix2 r c)) + term m t r c := by
  have er : (reset (k0_cond1 (grid0.coords t) = 1#1) (iblk m hO 0 0 t) st).1 (ix2 r c) = (if t.val % 4 = 0 then (0 : EReal) else st.1 (ix2 r c)) := by
    unfold reset
    by_cases h : t.val % 4 = 0
    · rw [if_pos ((cond1_iff t).mpr h), if_pos h]; exact pay2_apply r c
    · rw [if_neg (fun h' => h ((cond1_iff t).mp h')), if_neg h]
  have hw := wordAt_eq m hO t
  rw [← er]
  unfold stepAt step accum at hs ⊢
  unfold term
  by_cases hv : tvOf m (ix1 (tileOf t)) = 0#32
  · have hc : ¬ k0_cond2 (wordAt m hO 0 t) = 1#1 := fun h => (cond2_iff _).mp h (hw.trans hv)
    rw [if_neg hc, if_pos hv]
    exact (add_zero _).symm
  · have hc : k0_cond2 (wordAt m hO 0 t) = 1#1 := (cond2_iff _).mpr fun h => hv (hw.symm.trans h)
    rw [if_pos hc] at hs ⊢
    rw [if_neg hv]
    refine (pay3_apply _ _ _ _ _ _ _ _ r c).trans (congrArg _ (congrArg₂ (· * ·) ?_ ?_))
    · unfold weightAt
      rw [coord1 t]
      split
      · exact (weightA_apply _ r).trans (iblk_0 m hO t r _)
      · exact (weightB_apply _ r).trans (iblk_0 m hO t r _)
    · refine Finset.sum_congr rfl fun k _ => congrArg₂ (· * ·) ?_ (iblk_3 m hO hte t k c)
      unfold unitOf
      exact congr (congrArg₂ _ (funext fun q => hs q) (funext fun q => iblk_1 m hO hte t q k)) (funext fun q => iblk_2 m hO hte t q k)

omit hte in
/-- After every point the scratch holds the tile's token rows. -/
theorem outs_scratch (n : ℕ) : ∀ (hn : n < (cfgM m hO).N) (r : Fin 512) (q : Fin 2048),
    (outs m hO 0 n hn).2 (ix2 r q) = xsOf m (ix2 (rowOf ⟨n, hn⟩ r) ⟨q.val, by omega⟩) := by
  induction n with
  | zero => intro hn r q; exact (stepAt_scratch m hO ⟨0, hn⟩ _ r q).trans (if_pos rfl)
  | succ n ih =>
    intro hn r q
    refine (stepAt_scratch m hO ⟨n + 1, hn⟩ _ r q).trans ?_
    by_cases h : (n + 1) % 4 = 0
    · exact if_pos h
    · refine (if_neg h).trans ((ih _ r q).trans (congrArg (xsOf m) (congrArg (ix2 · _) (Fin.ext ?_))))
      show 512 * (n / 4) + r.val = 512 * ((n + 1) / 4) + r.val
      omega

theorem outs_start (t : Fin (cfgM m hO).N) (h : t.val % 4 = 0) (r : Fin 512) (c : Fin 2048) :
    (outs m hO 0 t.val t.isLt).1 (ix2 r c) = term m t r c := by
  have hs := outs_scratch m hO t.val t.isLt r
  have e := outs_first m hO 0 t h (k0_pay2 (F := Ideal), k0_pay1 (F := Ideal) (k0_pay2 (F := Ideal)))
  rw [e] at hs ⊢
  rw [stepAt_out m hO hte t _ r c hs, if_pos h, zero_add]

theorem outs_add (t t' : Fin (cfgM m hO).N) (ht : t.val = t'.val + 1) (h : ¬ t.val % 4 = 0) (r : Fin 512) (c : Fin 2048) :
    (outs m hO 0 t.val t.isLt).1 (ix2 r c) = (outs m hO 0 t'.val t'.isLt).1 (ix2 r c) + term m t r c := by
  have hs := outs_scratch m hO t.val t.isLt r
  have e := outs_next m hO 0 t (fun hz => h (by rw [hz]))
  have e' : ∀ n (hn : n < (cfgM m hO).N), n = t'.val → outs m hO 0 n hn = outs m hO 0 t'.val t'.isLt := fun n hn he => by subst he; rfl
  rw [e, e' _ _ (by omega)] at hs
  rw [e, e' _ _ (by omega), stepAt_out m hO hte t _ r c hs, if_neg h]

/-- A point of tile `i`. -/
abbrev pointAt (i : Fin 88) (s : Fin 4) : Fin grid0.N := ⟨4 * i.val + s.val, by have := N_0; have := i.isLt; have := s.isLt; omega⟩

/-- The output tile after its last point: the four terms in turn. -/
theorem outs_last (i : Fin 88) (r : Fin 512) (c : Fin 2048) :
    (outs m hO 0 (pointAt i 3).val (pointAt i 3).isLt).1 (ix2 r c)
      = ((term m (pointAt i 0) r c + term m (pointAt i 1) r c) + term m (pointAt i 2) r c) + term m (pointAt i 3) r c := by
  have h (s : Fin 4) : (pointAt i s).val % 4 = s.val := by show (4 * i.val + s.val) % 4 = s.val; omega
  rw [outs_add m hO hte (pointAt i 3) (pointAt i 2) rfl (by rw [h 3]; decide) r c, outs_add m hO hte (pointAt i 2) (pointAt i 1) rfl (by rw [h 2]; decide) r c,
    outs_add m hO hte (pointAt i 1) (pointAt i 0) rfl (by rw [h 1]; decide) r c, outs_start m hO hte (pointAt i 0) (h 0) r c]

omit hte

/-- The two terms of one expert make its weighted output. -/
theorem term_pair (i : Fin 88) (j : Fin 2) (r : Fin 512) (c : Fin 2048) (w : EReal) (h0 : 0 ≤ w) (ht : w < ⊤) (R : Fin 45056) (hR : R.val = 512 * i.val + r.val)
    (hw : w = if j.val = 0 then xsOf m (ix2 R 2048) else xsOf m (ix2 R 2176)) (hv : ¬ tvOf m (ix1 i) = 0#32) :
    term m (pointAt i ⟨2 * j.val, by omega⟩) r c + term m (pointAt i ⟨2 * j.val + 1, by omega⟩) r c
      = w * expert (xsOf m) (w1Of m) (w3Of m) (w2Of m) (expertOf (teOf m (ix1 ⟨2 * i.val + j.val, by omega⟩))) R c := by
  have key : ∀ f : Fin 2, term m (pointAt i ⟨2 * j.val + f.val, by omega⟩) r c
      = w * ∑ k : Fin 512, unitOf (xsOf m) (w1Of m) (w3Of m) (expertOf (teOf m (ix1 ⟨2 * i.val + j.val, by omega⟩))) R ⟨512 * f.val + k.val, by omega⟩
          * w2Of m (ix4 1 (expertOf (teOf m (ix1 ⟨2 * i.val + j.val, by omega⟩))) ⟨512 * f.val + k.val, by omega⟩ c) := fun f => by
    have et : tileOf (pointAt i ⟨2 * j.val + f.val, by omega⟩) = i := Fin.ext (by show (4 * i.val + (2 * j.val + f.val)) / 4 = i.val; omega)
    have ep : pairOf (pointAt i ⟨2 * j.val + f.val, by omega⟩) = ⟨2 * i.val + j.val, by omega⟩ :=
      Fin.ext (by show (4 * i.val + (2 * j.val + f.val)) / 2 = 2 * i.val + j.val; omega)
    have eR : rowOf (pointAt i ⟨2 * j.val + f.val, by omega⟩) r = R := Fin.ext (by show 512 * ((4 * i.val + (2 * j.val + f.val)) / 4) + r.val = R.val; omega)
    have eu : ∀ k : Fin 512, unitAt (pointAt i ⟨2 * j.val + f.val, by omega⟩) k = ⟨512 * f.val + k.val, by omega⟩ := fun k =>
      Fin.ext (by show 512 * ((4 * i.val + (2 * j.val + f.val)) % 2) + k.val = 512 * f.val + k.val; omega)
    have ew : weightAt m (pointAt i ⟨2 * j.val + f.val, by omega⟩) r = w := by
      unfold weightAt
      rw [eR, hw]
      exact if_congr (by show (4 * i.val + (2 * j.val + f.val)) / 2 % 2 = 0 ↔ j.val = 0; omega) rfl rfl
    unfold term expertAt
    rw [et, if_neg hv, ew, ep, eR]
    simp only [eu]
  refine (congrArg₂ (· + ·) (key 0) (key 1)).trans ?_
  rw [← weight_mul_add h0 ht]
  unfold expert
  rw [sum_halves]
  rfl

end Cert.Ffn

end
-- ==== Proof.Ffn.Result.lean ====
/- The call's result array after the run, over the extended reals, and what the precondition says of the weights. -/
module

public import proofs.«01_k».proof.Proof.Ffn.Value
public import Idealize.ShloMosaic.Lib.Pipeline.ValueKit.Geometry

@[expose] public section

noncomputable section

namespace Cert.Ffn

open Cert.KernelIdeal Cert.KernelIdeal.Gen
open Idealize.ShloMosaic Idealize.ShloMosaic.TcCoe Idealize.SL.Sem

/-- The word of positive infinity reads as infinity. -/
theorem inf_word : Ideal.ofBits .f32 0x7F800000#32 = (⊤ : EReal) := by simp [Ideal.ofBits, Ideal.ieee]

/-- The bit of the two comparisons says that a weight is not negative and not infinite. -/
theorem weight_of_bits {x y : EReal} (h : IntOp.andi (BitVec.ofBool (decide (0 ≤ x))) (BitVec.ofBool (decide (x < Ideal.ofBits .f32 0x7F800000#32))) = 1#1)
    (e : x = y) : 0 ≤ y ∧ y < ⊤ := by
  rw [inf_word, andi_ofBool, ofBool_eq_one, Bool.and_eq_true, decide_eq_true_eq, decide_eq_true_eq] at h
  exact e ▸ h

section Weights
variable [Cert.Pre_routed_weighted.Facts] {a0 : Spairs.Idx → BitVec 32} {a1 : Stiles.Idx → BitVec 32} {a2 : Stokens.Idx → EReal} {a3 a4 : Sin.Idx → EReal} {a5 : Sdown.Idx → EReal}

theorem weightA_ok (h : (Cert.Pre_routed_weighted.fn (F := Ideal) a0 a1 a2 a3 a4 a5).2.1 = fun _ => 1#1) (R : Fin 45056) : 0 ≤ a2 (ix2 R 2048) ∧ a2 (ix2 R 2048) < ⊤ := by
  have e := congrFun h (ix2 R 0)
  simp only [Cert.Pre_routed_weighted.fn, pointwise] at e
  exact weight_of_bits e (congrArg (fun R => a2 (ix2 R 2048)) (Fin.ext (Nat.zero_add _)))

theorem weightB_ok (h : (Cert.Pre_routed_weighted.fn (F := Ideal) a0 a1 a2 a3 a4 a5).2.2 = fun _ => 1#1) (R : Fin 45056) : 0 ≤ a2 (ix2 R 2176) ∧ a2 (ix2 R 2176) < ⊤ := by
  have e := congrFun h (ix2 R 0)
  simp only [Cert.Pre_routed_weighted.fn, pointwise] at e
  exact weight_of_bits e (congrArg (fun R => a2 (ix2 R 2176)) (Fin.ext (Nat.zero_add _)))
end Weights

variable (m : (ℓ : Loc nD τ sig) → Buf (Elt Ideal) ℓ) (hO : Ok m)
variable (hte : ∀ y, (teOf m y).toNat < 16) (hA : ∀ R, 0 ≤ xsOf m (ix2 R 2048) ∧ xsOf m (ix2 R 2048) < ⊤) (hB : ∀ R, 0 ≤ xsOf m (ix2 R 2176) ∧ xsOf m (ix2 R 2176) < ⊤)

/-- The layer's result from the launched arguments. -/
abbrev layerOut : Sout.Idx → EReal := out (teOf m) (tvOf m) (xsOf m) (w1Of m) (w3Of m) (w2Of m)

include hte hA hB in
/-- A tile of the output buffer after its last point is that tile of the layer's result. -/
theorem tile_value (i : Fin 88) (r : Fin 512) (c : Fin 2048) (R : Fin 45056) (hR : R.val = 512 * i.val + r.val) :
    (outs m hO 0 (pointAt i 3).val (pointAt i 3).isLt).1 (ix2 r c) = layerOut m (ix2 R c) := by
  have ei : (⟨R.val / 512, by omega⟩ : Fin 88) = i := Fin.ext (by show R.val / 512 = i.val; omega)
  have hd : R.val / 512 = i.val := congrArg Fin.val ei
  rw [outs_last m hO hte i r c]
  show _ = if tvOf m (ix1 ⟨R.val / 512, _⟩) = 0#32 then (0 : EReal) else _
  rw [ei]
  by_cases hv : tvOf m (ix1 i) = 0#32
  · rw [if_pos hv]
    have z : ∀ s : Fin 4, term m (pointAt i s) r c = 0 := fun s => by
      unfold term
      rw [show tileOf (pointAt i s) = i from Fin.ext (by show (4 * i.val + s.val) / 4 = i.val; omega), if_pos hv]
    rw [z, z, z, z, add_zero, add_zero, add_zero]
  · rw [if_neg hv, add_assoc]
    have eA : (⟨2 * (R.val / 512), by omega⟩ : Fin 176) = ⟨2 * i.val + (0 : Fin 2).val, by omega⟩ := Fin.ext (by show 2 * (R.val / 512) = 2 * i.val + 0; omega)
    have eB : (⟨2 * (R.val / 512) + 1, by omega⟩ : Fin 176) = ⟨2 * i.val + (1 : Fin 2).val, by omega⟩ := Fin.ext (by show 2 * (R.val / 512) + 1 = 2 * i.val + 1; omega)
    refine congrArg₂ (· + ·) ((term_pair m i 0 r c _ (hA R).1 (hA R).2 R hR rfl hv).trans ?_) ((term_pair m i 1 r c _ (hB R).1 (hB R).2 R hR rfl hv).trans ?_)
    · exact congrArg (fun p => _ * expert _ _ _ _ (expertOf (teOf m (ix1 p))) R c) eA.symm
    · exact congrArg (fun p => _ * expert _ _ _ _ (expertOf (teOf m (ix1 p))) R c) eB.symm

omit hO in
/-- Where an element of a point's output block lies in the array. -/
theorem emb_4 (hO : Ok m) (t : Fin (cfgM m hO).N) (r : Fin 512) (c : Fin 2048) :
    ((((cfgM m hO).win 4).blk t).view.emb (ix2 r c) : Sout.Idx) = ix2 (rowOf t r) c := by
  funext a
  refine Fin.ext ?_
  have h := coord0 t
  have := lt_points t
  match a with
  | ⟨0, _⟩ =>
    show (BitVec.ofNat 32 (grid0.coords t 0).val).toNat * 512 + 1 * r.val = 512 * (t.val / 4) + r.val
    rw [h, BitVec.toNat_ofNat]; omega
  | ⟨1, _⟩ =>
    show 0 * 2048 + 1 * c.val = c.val
    omega

omit hO in
/-- Every element of the array lies in the block that its tile's last point writes back. -/
theorem cover_4 (hO : Ok m) (j : Sout.Idx) :
    ∃ t : Fin (cfgM m hO).N, ((cfgM m hO).win 4).flush t = true ∧ j ∈ (((cfgM m hO).win 4).blk t).view.set := by
  have h0 : (j 0).val < 45056 := (j 0).isLt
  let t : Fin grid0.N := pointAt ⟨(j 0).val / 512, by omega⟩ 3
  have e : ((((cfgM m hO).win 4).blk t).view.emb (ix2 (⟨(j 0).val % 512, by omega⟩ : Fin 512) (j 1)) : Sout.Idx) = j := by
    refine (emb_4 m hO t _ _).trans (funext fun a => Fin.ext ?_)
    match a with
    | ⟨0, _⟩ => show 512 * ((4 * ((j 0).val / 512) + 3) / 4) + (j 0).val % 512 = (j 0).val; omega
    | ⟨1, _⟩ => rfl
  have hm := (((cfgM m hO).win 4).blk t).view.emb_mem_set (ix2 (⟨(j 0).val % 512, by omega⟩ : Fin 512) (j 1))
  rw [e] at hm
  exact ⟨t, (flush_iff m hO t).mpr (by show (4 * ((j 0).val / 512) + 3) % 4 = 3; omega), hm⟩

include hte hA hB in
/-- What a tile's last point leaves in the output buffer, at an index of the block. -/
theorem block_value (t : Fin (cfgM m hO).N) (h3 : t.val % 4 = 3) (y : S512x2048.Idx) :
    (outs m hO 0 t.val t.isLt).1 y = layerOut m ((((cfgM m hO).win 4).blk t).view.emb y : Sout.Idx) := by
  obtain ⟨r, c, rfl⟩ : ∃ (r : Fin 512) (c : Fin 2048), y = ix2 r c := ⟨y 0, y 1, funext fun a => match a with | ⟨0, _⟩ => rfl | ⟨1, _⟩ => rfl⟩
  have ht : t = pointAt (tileOf t) 3 := Fin.ext (by show t.val = 4 * (t.val / 4) + 3; omega)
  refine Eq.trans ?_ (congrArg (layerOut m) (emb_4 m hO t r c)).symm
  refine Eq.trans ?_ (tile_value m hO hte hA hB (tileOf t) r c (rowOf t r) rfl)
  rw [← ht]

include hte hA hB in
/-- The call's array after the run is the layer's result. -/
theorem array_value : (dats m hO 0 0).arrAt 4 (cfgM m hO).N = layerOut m :=
  Idealize.ShloMosaic.Pipeline.Dat.arrAt_eq_of_emb (dats m hO 0 0) 4 _
    (fun t hf y => (congrFun (after_4 m hO 0 t) y).trans (block_value m hO hte hA hB t ((flush_iff m hO t).mp hf) y)) (fun j => cover_4 m hO j)

end Cert.Ffn

end
-- ==== Proof.Common.Index.lean ====
/- Where an element of a block lies in its array. -/
module

public import Idealize.ShloMosaic.Lib.Pointwise

@[expose] public section

namespace Cert.Common

open Idealize.ShloMosaic

/-- An index of a matrix by its two coordinates. -/
theorem eq_ix2_of {A B : ℕ} {j : (⟨2, ![A, B]⟩ : Shape).Idx} {a : Fin A} {b : Fin B} (ha : (j 0).val = a.val) (hb : (j 1).val = b.val) : j = ix2 a b :=
  (eq_ix2 j).trans (congrArg₂ ix2 (Fin.ext ha) (Fin.ext hb))

/-- A coordinate of an element of a block, from the block's number. -/
theorem coord_of {i n s y v : ℕ} (h : i = n) (e : n * s + y = v) : i * s + 1 * y = v := by rw [h, Nat.one_mul, e]

end Cert.Common
-- ==== Proof.InProj.Value.lean ====
/- The input projection of the layer: each token row scaled to unit mean square and by the norm's weights, times the
   input weights. -/
module

public import proofs.«01_k».proof.Defs
public import proofs.«01_k».proof.Proof.Gen.InProjectionIdeal.Value
public import proofs.«01_k».proof.Proof.Gen.InProjectionReferenceIdeal.Run
public import proofs.«01_k».proof.Proof.Gen.InProjectionReferenceIdeal.Read
public import proofs.«01_k».proof.Proof.Common.Index
public import Idealize.ShloMosaic.Lib.Pointwise
public import Idealize.ShloMosaic.Lib.Pipeline.ValueKit.Geometry
public import Idealize.ShloMosaic.Lib.Pipeline.ValueKit.Acc

@[expose] public section

noncomputable section

namespace Cert.InProj

open Cert.InProjectionIdeal Cert.InProjectionIdeal.Gen
open Cert.Common
open Idealize.ShloMosaic Idealize.ShloMosaic.TcCoe Idealize.SL.Sem

/-- One entry of a row scaled to unit mean square and by the norm's weight. -/
def normed (x n : Fin 2048 → EReal) (d : Fin 2048) : EReal :=
  x d * Ideal.rsqrt (Ideal.div (∑ k, x k * x k) (Ideal.ofBits .f32 0x45000000#32) + Ideal.ofBits .f32 0x358637BD#32) * n d

/-- The row of the tokens' array that a row of the result belongs to. -/
def tokenOf (x : S8x4096x2048.Idx → EReal) (R : Fin 32768) (k : Fin 2048) : EReal := x (ix3 ⟨R.val / 4096, by omega⟩ ⟨R.val % 4096, by omega⟩ k)

/-- The result of the call. -/
def outAt (x : S8x4096x2048.Idx → EReal) (n : S2048.Idx → EReal) (w : S2048x8192.Idx → EReal) (R : Fin 32768) (q : Fin 8192) : EReal :=
  ∑ d, normed (tokenOf x R) (fun k => n (ix1 k)) d * w (ix2 d q)

def out (x : S8x4096x2048.Idx → EReal) (n : S2048.Idx → EReal) (w : S2048x8192.Idx → EReal) : S32768x8192.Idx → EReal := fun j => outAt x n w (j 0) (j 1)

theorem pay1_apply (x : Vec Ideal S1024x2048 .f32) (n : Vec Ideal S1x2048 .f32) (r : Fin 1024) (d : Fin 2048) :
    k0_pay1 (F := Ideal) x n (ix2 r d) = normed (fun k => x (ix2 r k)) (fun k => n (ix2 0 k)) d := by
  unfold k0_pay1 normed
  simp only [pointwise, zero_add, (by decide : ¬ (1024 : ℕ) = 1), (by decide : ¬ (2048 : ℕ) = 1), reduceDIte]

theorem pay2_apply (s : Vec Ideal S1024x2048 .bf16) (w : Vec Ideal S2048x1024 .bf16) (r q : Fin 1024) :
    k0_pay2 (F := Ideal) s w (ix2 r q) = ∑ d : Fin 2048, s (ix2 r d) * w (ix2 d q) := by
  unfold k0_pay2
  simp only [pointwise, zero_add]

variable (m : (ℓ : Loc nD τ sig) → Buf (Elt Ideal) ℓ)

/-- A point that starts a row block normalizes the rows and keeps them. -/
theorem outs_A (c : Dev nD) (t : Fin cfg0.N) (h : t.val % 8 = 0) :
    outsAt0 m c t.val t.isLt = (k0_pay2 (F := Ideal) (k0_pay1 (iblk m c 0 t) (iblk m c 1 t)) (iblk m c 2 t), k0_pay1 (F := Ideal) (iblk m c 0 t) (iblk m c 1 t)) := by
  rw [outsAt0_A m c t h]
  frame_out

/-- A later point takes the kept rows. -/
theorem outs_B (c : Dev nD) (t : Fin cfg0.N) (h : ¬ t.val % 8 = 0) :
    outsAt0 m c t.val t.isLt = (k0_pay2 (F := Ideal) (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  rw [outsAt0_B m c t h]
  frame_out
  exact congrArg₂ Prod.mk (congrArg (fun s => k0_pay2 (F := Ideal) s _) ((Memref.isWhole_whole _).read_unread _)) rfl

/-- Either way a point multiplies the rows it keeps. -/
theorem outs_fst (c : Dev nD) (t : Fin cfg0.N) :
    (outsAt0 m c t.val t.isLt).1 = k0_pay2 (F := Ideal) (outsAt0 m c t.val t.isLt).2 (iblk m c 2 t) := by
  by_cases h : t.val % 8 = 0
  · rw [outs_A m c t h]
  · rw [outs_B m c t h]

/-- The argument arrays as launched. -/
abbrev xOf : S8x4096x2048.Idx → EReal := m (((0 : Dev nD) : Thread nD τ).loc main_arg0)
abbrev nOf : S2048.Idx → EReal := m (((0 : Dev nD) : Thread nD τ).loc main_arg1)
abbrev wOf : S2048x8192.Idx → EReal := m (((0 : Dev nD) : Thread nD τ).loc main_arg2)

theorem lt_points (t : Fin grid0.N) : t.val < 256 := Nat.lt_of_lt_of_eq t.isLt N_0
/-- A row and a column of the array from those of a point's block. -/
abbrev rowOf (t : Fin grid0.N) (r : Fin 1024) : Fin 32768 := ⟨1024 * (t.val / 8) + r.val, by have := lt_points t; omega⟩
abbrev colOf (t : Fin grid0.N) (q : Fin 1024) : Fin 8192 := ⟨1024 * (t.val % 8) + q.val, by omega⟩

theorem V_x (c : Dev nD) (R : Fin 32768) (k : Fin 2048) :
    (V m c main_v0 : S32768x2048.Idx → EReal) (ix2 R k) = tokenOf (m ((c : Thread nD τ).loc main_arg0)) R k := by
  unfold_abbrev_sides
  after_results
  simp only [pointwise, tokenOf]

theorem V_n (c : Dev nD) (k : Fin 2048) : (V m c main_v2 : S1x2048.Idx → EReal) (ix2 0 k) = (m ((c : Thread nD τ).loc main_arg1) : S2048.Idx → EReal) (ix1 k) := by
  unfold_abbrev_sides
  after_results
  simp only [pointwise]

theorem V_w (c : Dev nD) : (V m c main_v1 : S2048x8192.Idx → EReal) = m ((c : Thread nD τ).loc main_arg2) := by
  unfold_abbrev_sides
  after_results
  rfl

/-- The blocks of each window. -/
theorem index_blocks : ∀ t : Fin cfg0.N, win0_0.index t = ![t.val / 8, 0] ∧ win0_1.index t = ![0, 0] ∧ win0_2.index t = ![0, t.val % 8]
    ∧ win0_3.index t = ![t.val / 8, t.val % 8] :=
  (by decide +kernel : ∀ t : Fin grid0.N, _)

theorem iblk_x (t : Fin cfg0.N) (r : Fin 1024) (k : Fin 2048) : iblk m 0 0 t (ix2 r k) = tokenOf (xOf m) (rowOf t r) k := by
  have h := (index_blocks t).1
  have e : (((cfg0.win 0).blk t).view.emb (ix2 r k) : S32768x2048.Idx) = ix2 (rowOf t r) k := by
    refine eq_ix2_of ?_ ?_
    · exact coord_of (congrFun h 0) (by show t.val / 8 * 1024 + r.val = 1024 * (t.val / 8) + r.val; omega)
    · exact coord_of (congrFun h 1) (by show 0 * 2048 + k.val = k.val; omega)
  exact (congrArg (V m 0 main_v0 : S32768x2048.Idx → EReal) e).trans (V_x m 0 _ _)

theorem iblk_n (t : Fin cfg0.N) (k : Fin 2048) : iblk m 0 1 t (ix2 0 k) = nOf m (ix1 k) := by
  have h := (index_blocks t).2.1
  have e : (((cfg0.win 1).blk t).view.emb (ix2 0 k) : S1x2048.Idx) = ix2 0 k := by
    refine eq_ix2_of ?_ ?_
    · exact coord_of (congrFun h 0) (by show 0 * 1 + 0 = 0; rfl)
    · exact coord_of (congrFun h 1) (by show 0 * 2048 + k.val = k.val; omega)
  exact (congrArg (V m 0 main_v2 : S1x2048.Idx → EReal) e).trans (V_n m 0 _)

theorem iblk_w (t : Fin cfg0.N) (d : Fin 2048) (q : Fin 1024) : iblk m 0 2 t (ix2 d q) = wOf m (ix2 d (colOf t q)) := by
  have h := (index_blocks t).2.2.1
  refine (congrFun (V_w m 0) _).trans (congrArg (wOf m) (eq_ix2_of ?_ ?_))
  · exact coord_of (congrFun h 0) (by show 0 * 2048 + d.val = d.val; omega)
  · exact coord_of (congrFun h 1) (by show t.val % 8 * 1024 + q.val = 1024 * (t.val % 8) + q.val; omega)

/-- Where an element of a point's output block lies in the array. -/
theorem emb_out (t : Fin cfg0.N) (r q : Fin 1024) : (((cfg0.win 3).blk t).view.emb (ix2 r q) : S32768x8192.Idx) = ix2 (rowOf t r) (colOf t q) := by
  have h := (index_blocks t).2.2.2
  refine eq_ix2_of ?_ ?_
  · exact coord_of (congrFun h 0) (by show t.val / 8 * 1024 + r.val = 1024 * (t.val / 8) + r.val; omega)
  · exact coord_of (congrFun h 1) (by show t.val % 8 * 1024 + q.val = 1024 * (t.val % 8) + q.val; omega)

theorem scratch_first (t : Fin cfg0.N) (h : t.val % 8 = 0) (r : Fin 1024) (d : Fin 2048) :
    (outsAt0 m 0 t.val t.isLt).2 (ix2 r d) = normed (tokenOf (xOf m) (rowOf t r)) (fun k => nOf m (ix1 k)) d := by
  rw [outs_A m 0 t h]
  refine (pay1_apply _ _ r d).trans ?_
  simp only [iblk_x, iblk_n]

/-- The rows kept after a point are the normalized rows of its row block. -/
theorem outs_scratch (n : ℕ) : ∀ (hn : n < cfg0.N) (r : Fin 1024) (d : Fin 2048),
    (outsAt0 m 0 n hn).2 (ix2 r d) = normed (tokenOf (xOf m) (rowOf ⟨n, hn⟩ r)) (fun k => nOf m (ix1 k)) d := by
  induction n with
  | zero => exact fun hn => scratch_first m ⟨0, hn⟩ rfl
  | succ n ih =>
    intro hn r d
    by_cases h : (n + 1) % 8 = 0
    · exact scratch_first m ⟨n + 1, hn⟩ h r d
    · refine (congrArg (fun o => o.2 (ix2 r d)) (outs_B m 0 ⟨n + 1, hn⟩ h)).trans ((ih (Nat.lt_of_succ_lt hn) r d).trans ?_)
      refine congrArg (fun R => normed (tokenOf (xOf m) R) _ d) (Fin.ext ?_)
      show 1024 * (n / 8) + r.val = 1024 * ((n + 1) / 8) + r.val
      omega

/-- What a point leaves in the output buffer, at an index of the block. -/
theorem block_value (t : Fin cfg0.N) (y : S1024x1024.Idx) :
    (outsAt0 m 0 t.val t.isLt).1 y = out (xOf m) (nOf m) (wOf m) (((cfg0.win 3).blk t).view.emb y : S32768x8192.Idx) := by
  obtain ⟨r, q, rfl⟩ : ∃ (r q : Fin 1024), y = ix2 r q := ⟨y 0, y 1, eq_ix2 y⟩
  refine Eq.trans ?_ (congrArg (out (xOf m) (nOf m) (wOf m)) (emb_out t r q)).symm
  refine (congrFun (outs_fst m 0 t) _).trans ((pay2_apply _ _ r q).trans ?_)
  exact Finset.sum_congr rfl fun d _ => congrArg₂ (· * ·) (outs_scratch m t.val t.isLt r d) (iblk_w m t d q)

/-- The call's array after the run. -/
theorem array_value : (dats m 0 0).arrAt 3 cfg0.N = out (xOf m) (nOf m) (wOf m) :=
  Pipeline.Dat.arrAt_eq_of_covers (dats m 0 0) 3 _ (by decide +kernel)
    fun t _ y => (congrFun (after0_3 m 0 t) y).trans (block_value m t y)

section Reference

open Cert.InProjectionReferenceIdeal.Read

/-- The reference computes the same function. -/
theorem reference_value (x : (⟨S8x4096x2048, .f32⟩ : BufTy).Contents (Elt Ideal)) (n : (⟨S2048, .f32⟩ : BufTy).Contents (Elt Ideal))
    (w : (⟨S2048x8192, .f32⟩ : BufTy).Contents (Elt Ideal)) : val_main_v15 (F := Ideal) x n w = out x n w := by
  funext j
  obtain ⟨R, q, rfl⟩ : ∃ (R : Fin 32768) (q : Fin 8192), j = ix2 R q := ⟨j 0, j 1, eq_ix2 j⟩
  show _ = outAt x n w R q
  unfold outAt normed tokenOf
  simp only [pointwise, val_main_v15, val_main_v14, val_main_v13, val_main_v12, val_main_v11, val_main_v10, val_main_v9,
    val_main_v8, val_main_v7, val_main_v6, val_main_v5, val_main_v4, val_main_v3, val_main_v2, val_main_v1, val_main_v0, val_main_cst, val_main_cst_0, val_main_cst_1,
    zero_add, (by decide : ¬ (8 : ℕ) = 1), (by decide : ¬ (4096 : ℕ) = 1), (by decide : ¬ (2048 : ℕ) = 1), reduceDIte]

end Reference

end Cert.InProj

end
-- ==== Proof.InProj.Claims.lean ====
/- The claims of the input projection: the frames of its programs, and that kernel and reference agree over the
   extended reals. -/
module

public import proofs.«01_k».proof.Proof.Ffn.Same
public import proofs.«01_k».proof.Proof.InProj.Value
public import proofs.«01_k».proof.Proof.Gen.InProjection
public import proofs.«01_k».proof.Proof.Gen.InProjectionReferenceIdeal

@[expose] public section

noncomputable section

namespace Cert.InProj

open Idealize.ShloMosaic Idealize.SL.Sem

section Same
variable {F : FTy → Type} [FloatOps F]

/-- The two readings of the kernel run the same body. -/
theorem bodies_eq : (Cert.InProjection.defs₀ (F := F)) = (Cert.InProjectionIdeal.defs₀ (F := F)) := by
  unfold Cert.InProjection.defs₀ Cert.InProjectionIdeal.defs₀
  refine congrArg Defs.onTc ?_
  funext l a
  match l, a with
  | ⟨0, _⟩, (t, s) => rfl

theorem defs_eq : (Cert.InProjection.defs (F := F)) = (Cert.InProjectionIdeal.defs (F := F)) :=
  congrArg (Pipeline.defs (Cert.InProjection.pcfgs (F := F))) bodies_eq

/-- The two readings of the kernel run the same host program. -/
theorem main_eq : (Cert.InProjection.main (F := F)) = (Cert.InProjectionIdeal.main (F := F)) := by
  delta Cert.InProjection.main Cert.InProjectionIdeal.main
  with_unfolding_all rfl
end Same

theorem frame_kernel : Cert.quiescent_InProjection := fun m ρ _ =>
  Cert.Ffn.run_eq defs_eq main_eq (Cert.InProjectionIdeal.Gen.frame (F := Bits) m ρ)

theorem frame_ideal : Cert.quiescent_InProjectionIdeal := fun m ρ _ => Cert.InProjectionIdeal.Gen.frame m ρ

theorem frame_reference : Cert.quiescent_InProjectionReferenceIdeal := fun m ρ _ =>
  (θ_run Cert.InProjectionReferenceIdeal.defs _ _).mono (fun r h => ⟨fun c => (h c).2, sem_eq_zero_of_no_sems (by decide) r.2⟩)
    (Cert.InProjectionReferenceIdeal.Value.run m ρ)

/-- Kernel and reference compute the same function over the extended reals. -/
theorem algebraic : Cert.algebraic_InProjectionIdeal_InProjectionReferenceIdeal := by
  intro m g m' g' _ hargs
  refine ⟨fun _ => out (xOf m) (nOf m) (wOf m),
    (θ_run Cert.InProjectionIdeal.defs _ _).mono (fun r hr c => ⟨(hr c).1.trans ?_, (hr c).2⟩) (Cert.InProjectionIdeal.Value.run_blocks m g),
    (θ_run Cert.InProjectionReferenceIdeal.defs _ _).mono (fun r hr c => ⟨(hr c).1.trans ?_, (hr c).2⟩) (Cert.InProjectionReferenceIdeal.Value.run m' g')⟩
  · obtain rfl : c = 0 := Subsingleton.elim c 0
    exact array_value m
  · obtain rfl : c = 0 := Subsingleton.elim c 0
    obtain ⟨e0, e1, e2⟩ := hargs 0
    refine (Cert.InProjectionReferenceIdeal.Read.val_main_v15_eq _ _ _).trans ((reference_value _ _ _).trans ?_)
    exact congr (congrArg₂ out e0 e1) e2

end Cert.InProj

end
-- ==== Proof.Merging.Value.lean ====
/- The merge of the layer's two branches: the attention output and the gated state-space output, each projected up and
   weighted by a gate, added. -/
module

public import proofs.«01_k».proof.Defs
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.Common.Index
public import Idealize.ShloMosaic.Lib.Pointwise
public import Idealize.ShloMosaic.Lib.Pipeline.ValueKit.Geometry
public import Idealize.ShloMosaic.Lib.Pipeline.ValueKit.Acc

@[expose] public section

noncomputable section

namespace Cert.Merging

open Cert.MergeIdeal Cert.MergeIdeal.Gen
open Cert.Common
open Idealize.ShloMosaic Idealize.ShloMosaic.TcCoe Idealize.SL.Sem

/-- The logistic function. -/
def gate (z : EReal) : EReal := Ideal.div 1 (1 + Ideal.exp (-z))

/-- One entry of the merged row, from the rows of the two branches, the two gates' logits and the columns of the weights. -/
def merged (y o : Fin 1024 → EReal) (a b : EReal) (wg : Fin 1024 → Fin 1024 → EReal) (wa wb : Fin 1024 → EReal) : EReal :=
  gate a * (∑ k, o k * wa k) + gate b * ∑ k, y k * gate (∑ l, y l * wg l k) * wb k

/-- The result of the call. -/
def outAt (y o : S32768x1024.Idx → EReal) (h : S32768x8192.Idx → EReal) (wg : S1024x1024.Idx → EReal) (wa wb : S1024x2048.Idx → EReal)
    (R : Fin 32768) (q : Fin 2048) : EReal :=
  merged (fun k => y (ix2 R k)) (fun k => o (ix2 R k)) (h (ix2 R ⟨4096 + q.val, by omega⟩)) (h (ix2 R ⟨6144 + q.val, by omega⟩))
    (fun l k => wg (ix2 l k)) (fun k => wa (ix2 k q)) (fun k => wb (ix2 k q))

def out (y o : S32768x1024.Idx → EReal) (h : S32768x8192.Idx → EReal) (wg : S1024x1024.Idx → EReal) (wa wb : S1024x2048.Idx → EReal) :
    S32768x2048.Idx → EReal := fun j => outAt y o h wg wa wb (j 0) (j 1)

theorem pay_apply (y o : Vec Ideal S256x1024 .bf16) (a b : Vec Ideal S256x2048 .bf16) (wg : Vec Ideal S1024x1024 .bf16) (wa wb : Vec Ideal S1024x2048 .bf16)
    (r : Fin 256) (q : Fin 2048) :
    k0_pay1 (F := Ideal) (k0_pay2 y wg wb) (k0_pay3 o wa a) (k0_pay4 b) (ix2 r q)
      = merged (fun k => y (ix2 r k)) (fun k => o (ix2 r k)) (a (ix2 r q)) (b (ix2 r q)) (fun l k => wg (ix2 l k)) (fun k => wa (ix2 k q)) (fun k => wb (ix2 k q)) := by
  unfold k0_pay1 k0_pay2 k0_pay3 k0_pay4
  simp only [pointwise, zero_add, sub_eq_add_neg, merged, gate]

theorem out0_eq (y o : Vec Ideal S256x1024 .bf16) (a b : Vec Ideal S256x2048 .bf16) (wg : Vec Ideal S1024x1024 .bf16) (wa wb : Vec Ideal S1024x2048 .bf16) :
    out0_7 (F := Ideal) y o a b wg wa wb = k0_pay1 (F := Ideal) (k0_pay2 y wg wb) (k0_pay3 o wa a) (k0_pay4 b) := by
  unfold out0_7
  frame_out

variable (m : (ℓ : Loc nD τ sig) → Buf (Elt Ideal) ℓ)

/-- The argument arrays as launched. -/
abbrev yOf : S32768x1024.Idx → EReal := m (((0 : Dev nD) : Thread nD τ).loc main_arg0)
abbrev oOf : S32768x1024.Idx → EReal := m (((0 : Dev nD) : Thread nD τ).loc main_arg1)
abbrev hOf : S32768x8192.Idx → EReal := m (((0 : Dev nD) : Thread nD τ).loc main_arg2)
abbrev wgOf : S1024x1024.Idx → EReal := m (((0 : Dev nD) : Thread nD τ).loc main_arg3)
abbrev waOf : S1024x2048.Idx → EReal := m (((0 : Dev nD) : Thread nD τ).loc main_arg4)
abbrev wbOf : S1024x2048.Idx → EReal := m (((0 : Dev nD) : Thread nD τ).loc main_arg5)

theorem lt_points (t : Fin grid0.N) : t.val < 128 := Nat.lt_of_lt_of_eq t.isLt N_0
/-- A row of the array from a row of a point's block. -/
abbrev rowOf (t : Fin grid0.N) (r : Fin 256) : Fin 32768 := ⟨256 * t.val + r.val, by have := lt_points t; omega⟩

theorem V_wg (c : Dev nD) : (V m c main_v0 : S1024x1024.Idx → EReal) = m ((c : Thread nD τ).loc main_arg3) := by
  unfold_abbrev_sides
  after_results
  rfl

theorem V_wa (c : Dev nD) : (V m c main_v1 : S1024x2048.Idx → EReal) = m ((c : Thread nD τ).loc main_arg4) := by
  unfold_abbrev_sides
  after_results
  rfl

theorem V_wb (c : Dev nD) : (V m c main_v2 : S1024x2048.Idx → EReal) = m ((c : Thread nD τ).loc main_arg5) := by
  unfold_abbrev_sides
  after_results
  rfl

/-- The blocks of each window: the rows of a point, and the two gates' columns or a whole weight. -/
theorem index_rows : ∀ t : Fin cfg0.N, win0_0.index t = ![t.val, 0] ∧ win0_1.index t = ![t.val, 0] ∧ win0_2.index t = ![t.val, 2] ∧ win0_3.index t = ![t.val, 3]
    ∧ win0_7.index t = ![t.val, 0] :=
  (by decide +kernel : ∀ t : Fin grid0.N, _)
theorem index_weights : ∀ t : Fin cfg0.N, win0_4.index t = ![0, 0] ∧ win0_5.index t = ![0, 0] ∧ win0_6.index t = ![0, 0] :=
  (by decide +kernel : ∀ t : Fin grid0.N, _)

theorem iblk_y (t : Fin cfg0.N) (r : Fin 256) (k : Fin 1024) : iblk m 0 0 t (ix2 r k) = yOf m (ix2 (rowOf t r) k) := by
  have h := (index_rows t).1
  refine (congrFun (V_main_arg0 m 0) _).trans (congrArg (yOf m) (eq_ix2_of ?_ ?_))
  · exact coord_of (congrFun h 0) (by show t.val * 256 + r.val = 256 * t.val + r.val; omega)
  · exact coord_of (congrFun h 1) (by show 0 * 1024 + k.val = k.val; omega)

theorem iblk_o (t : Fin cfg0.N) (r : Fin 256) (k : Fin 1024) : iblk m 0 1 t (ix2 r k) = oOf m (ix2 (rowOf t r) k) := by
  have h := (index_rows t).2.1
  refine (congrFun (V_main_arg1 m 0) _).trans (congrArg (oOf m) (eq_ix2_of ?_ ?_))
  · exact coord_of (congrFun h 0) (by show t.val * 256 + r.val = 256 * t.val + r.val; omega)
  · exact coord_of (congrFun h 1) (by show 0 * 1024 + k.val = k.val; omega)

theorem iblk_a (t : Fin cfg0.N) (r : Fin 256) (q : Fin 2048) : iblk m 0 2 t (ix2 r q) = hOf m (ix2 (rowOf t r) ⟨4096 + q.val, by omega⟩) := by
  have h := (index_rows t).2.2.1
  refine (congrFun (V_main_arg2 m 0) _).trans (congrArg (hOf m) (eq_ix2_of ?_ ?_))
  · exact coord_of (congrFun h 0) (by show t.val * 256 + r.val = 256 * t.val + r.val; omega)
  · exact coord_of (congrFun h 1) (by show 2 * 2048 + q.val = 4096 + q.val; omega)

theorem iblk_b (t : Fin cfg0.N) (r : Fin 256) (q : Fin 2048) : iblk m 0 3 t (ix2 r q) = hOf m (ix2 (rowOf t r) ⟨6144 + q.val, by omega⟩) := by
  have h := (index_rows t).2.2.2.1
  refine (congrFun (V_main_arg2 m 0) _).trans (congrArg (hOf m) (eq_ix2_of ?_ ?_))
  · exact coord_of (congrFun h 0) (by show t.val * 256 + r.val = 256 * t.val + r.val; omega)
  · exact coord_of (congrFun h 1) (by show 3 * 2048 + q.val = 6144 + q.val; omega)

theorem iblk_wg (t : Fin cfg0.N) (l k : Fin 1024) : iblk m 0 4 t (ix2 l k) = wgOf m (ix2 l k) := by
  have h := (index_weights t).1
  refine (congrFun (V_wg m 0) _).trans (congrArg (wgOf m) (eq_ix2_of ?_ ?_))
  · exact coord_of (congrFun h 0) (by show 0 * 1024 + l.val = l.val; omega)
  · exact coord_of (congrFun h 1) (by show 0 * 1024 + k.val = k.val; omega)

theorem iblk_wa (t : Fin cfg0.N) (k : Fin 1024) (q : Fin 2048) : iblk m 0 5 t (ix2 k q) = waOf m (ix2 k q) := by
  have h := (index_weights t).2.1
  refine (congrFun (V_wa m 0) _).trans (congrArg (waOf m) (eq_ix2_of ?_ ?_))
  · exact coord_of (congrFun h 0) (by show 0 * 1024 + k.val = k.val; omega)
  · exact coord_of (congrFun h 1) (by show 0 * 2048 + q.val = q.val; omega)

theorem iblk_wb (t : Fin cfg0.N) (k : Fin 1024) (q : Fin 2048) : iblk m 0 6 t (ix2 k q) = wbOf m (ix2 k q) := by
  have h := (index_weights t).2.2
  refine (congrFun (V_wb m 0) _).trans (congrArg (wbOf m) (eq_ix2_of ?_ ?_))
  · exact coord_of (congrFun h 0) (by show 0 * 1024 + k.val = k.val; omega)
  · exact coord_of (congrFun h 1) (by show 0 * 2048 + q.val = q.val; omega)

/-- Where an element of a point's output block lies in the array. -/
theorem emb_out (t : Fin cfg0.N) (r : Fin 256) (q : Fin 2048) : (((cfg0.win 7).blk t).view.emb (ix2 r q) : S32768x2048.Idx) = ix2 (rowOf t r) q := by
  have h := (index_rows t).2.2.2.2
  refine eq_ix2_of ?_ ?_
  · exact coord_of (congrFun h 0) (by show t.val * 256 + r.val = 256 * t.val + r.val; omega)
  · exact coord_of (congrFun h 1) (by show 0 * 2048 + q.val = q.val; omega)

/-- What a point leaves in the output buffer, at an index of the block. -/
theorem block_value (t : Fin cfg0.N) (y : S256x2048.Idx) :
    out0_7 (F := Ideal) (iblk m 0 0 t) (iblk m 0 1 t) (iblk m 0 2 t) (iblk m 0 3 t) (iblk m 0 4 t) (iblk m 0 5 t) (iblk m 0 6 t) y
      = out (yOf m) (oOf m) (hOf m) (wgOf m) (waOf m) (wbOf m) (((cfg0.win 7).blk t).view.emb y : S32768x2048.Idx) := by
  obtain ⟨r, q, rfl⟩ : ∃ (r : Fin 256) (q : Fin 2048), y = ix2 r q := ⟨y 0, y 1, eq_ix2 y⟩
  refine Eq.trans ?_ (congrArg (out (yOf m) (oOf m) (hOf m) (wgOf m) (waOf m) (wbOf m)) (emb_out t r q)).symm
  rw [out0_eq]
  refine (pay_apply _ _ _ _ _ _ _ r q).trans ?_
  show _ = outAt _ _ _ _ _ _ (rowOf t r) q
  unfold outAt
  simp only [iblk_y, iblk_o, iblk_a, iblk_b, iblk_wg, iblk_wa, iblk_wb]

/-- The call's array after the run. -/
theorem array_value : (dats m 0 0).arrAt 7 cfg0.N = out (yOf m) (oOf m) (hOf m) (wgOf m) (waOf m) (wbOf m) :=
  Pipeline.Dat.arrAt_eq_of_covers (dats m 0 0) 7 _ (by decide +kernel)
    fun t _ y => (congrFun (after0_7 m 0 t) y).trans (block_value m t y)

section Reference

open Cert.MergeReferenceIdeal.Read

variable (y o : (⟨S32768x1024, .bf16⟩ : BufTy).Contents (Elt Ideal)) (h : (⟨S32768x8192, .bf16⟩ : BufTy).Contents (Elt Ideal))
  (wg : (⟨S1024x1024, .f32⟩ : BufTy).Contents (Elt Ideal)) (wa wb : (⟨S1024x2048, .f32⟩ : BufTy).Contents (Elt Ideal))

/-- The two gates' logits are columns of one array. -/
theorem slice_a (R : Fin 32768) (q : Fin 2048) : val_main_v11 (F := Ideal) h (ix2 R q) = h (ix2 R ⟨4096 + q.val, by omega⟩) := by
  simp only [pointwise, val_main_v11]
  exact congrArg h (congrArg₂ ix2 (Fin.ext (Nat.zero_add _)) rfl)

theorem slice_b (R : Fin 32768) (q : Fin 2048) : val_main_v20 (F := Ideal) h (ix2 R q) = h (ix2 R ⟨6144 + q.val, by omega⟩) := by
  simp only [pointwise, val_main_v20]
  exact congrArg h (congrArg₂ ix2 (Fin.ext (Nat.zero_add _)) rfl)

/-- The reference computes the same function. -/
theorem reference_value : val_main_v30 (F := Ideal) y o h wg wa wb = out y o h wg wa wb := by
  funext j
  obtain ⟨R, q, rfl⟩ : ∃ (R : Fin 32768) (q : Fin 2048), j = ix2 R q := ⟨j 0, j 1, eq_ix2 j⟩
  show _ = outAt y o h wg wa wb R q
  unfold outAt merged gate
  simp only [pointwise, val_main_v30, val_main_v29, val_main_v28, val_main_v27, val_main_v26, val_main_v25, val_main_v24, val_main_v23, val_main_v22, val_main_v21,
    slice_b, val_main_v19, val_main_v18, val_main_v17, val_main_v16, val_main_v15, val_main_v14, val_main_v13, val_main_v12, slice_a, val_main_v10, val_main_v9,
    val_main_v8, val_main_v7, val_main_v6, val_main_v5, val_main_v4, val_main_v3, val_main_v2, val_main_v1, val_main_v0, val_main_cst, val_main_cst_0, val_main_cst_1,
    val_main_cst_2, val_main_cst_3, val_main_cst_4, zero_add]

end Reference

end Cert.Merging

end
-- ==== Proof.Merging.Claims.lean ====
/- The claims of the merge: the frames of its programs, and that kernel and reference agree over the extended reals. -/
module

public import proofs.«01_k».proof.Proof.Ffn.Same
public import proofs.«01_k».proof.Proof.Merging.Value
public import proofs.«01_k».proof.Proof.Gen.Merge
public import proofs.«01_k».proof.Proof.Gen.MergeReferenceIdeal

@[expose] public section

noncomputable section

namespace Cert.Merging

open Idealize.ShloMosaic Idealize.SL.Sem

section Same
variable {F : FTy → Type} [FloatOps F]

/-- The two readings of the kernel run the same body. -/
theorem bodies_eq : (Cert.Merge.defs₀ (F := F)) = (Cert.MergeIdeal.defs₀ (F := F)) := by
  unfold Cert.Merge.defs₀ Cert.MergeIdeal.defs₀
  refine congrArg Defs.onTc ?_
  funext l a
  match l, a with
  | ⟨0, _⟩, (t, s) => rfl

theorem defs_eq : (Cert.Merge.defs (F := F)) = (Cert.MergeIdeal.defs (F := F)) :=
  congrArg (Pipeline.defs (Cert.Merge.pcfgs (F := F))) bodies_eq

/-- The two readings of the kernel run the same host program. -/
theorem main_eq : (Cert.Merge.main (F := F)) = (Cert.MergeIdeal.main (F := F)) := by
  delta Cert.Merge.main Cert.MergeIdeal.main
  with_unfolding_all rfl
end Same

theorem frame_kernel : Cert.quiescent_Merge := fun m ρ _ =>
  Cert.Ffn.run_eq defs_eq main_eq (Cert.MergeIdeal.Gen.frame (F := Bits) m ρ)

theorem frame_ideal : Cert.quiescent_MergeIdeal := fun m ρ _ => Cert.MergeIdeal.Gen.frame m ρ

theorem frame_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run m ρ)

/-- Kernel and reference compute the same function over the extended reals. -/
theorem algebraic : Cert.algebraic_MergeIdeal_MergeReferenceIdeal := by
  intro m g m' g' _ hargs
  refine ⟨fun _ => out (yOf m) (oOf m) (hOf m) (wgOf m) (waOf m) (wbOf m),
    (θ_run Cert.MergeIdeal.defs _ _).mono (fun r hr c => ⟨(hr c).1.trans ?_, (hr c).2⟩) (Cert.MergeIdeal.Value.run_blocks m g),
    (θ_run Cert.MergeReferenceIdeal.defs _ _).mono (fun r hr c => ⟨(hr c).1.trans ?_, (hr c).2⟩) (Cert.MergeReferenceIdeal.Value.run m' g')⟩
  · obtain rfl : c = 0 := Subsingleton.elim c 0
    exact array_value m
  · obtain rfl : c = 0 := Subsingleton.elim c 0
    obtain ⟨e0, e1, e2, e3, e4, e5⟩ := hargs 0
    refine (Cert.MergeReferenceIdeal.Read.val_main_v30_eq _ _ _ _ _ _).trans ((reference_value _ _ _ _ _ _).trans ?_)
    exact congr (congr (congr (congr (congrArg₂ out e0 e1) e2) e3) e4) e5

end Cert.Merging

end
-- ==== Proof.OutProj.Value.lean ====
/- The output projection of the layer: each token row of the residual stream and, added to it, its merged row times the
   output weights. -/
module

public import proofs.«01_k».proof.Defs
public import proofs.«01_k».proof.Proof.Gen.OutProjectionIdeal.Value
public import proofs.«01_k».proof.Proof.Gen.OutProjectionReferenceIdeal.Run
public import proofs.«01_k».proof.Proof.Gen.OutProjectionReferenceIdeal.Read
public import proofs.«01_k».proof.Proof.Common.Index
public import Idealize.ShloMosaic.Lib.Pointwise
public import Idealize.ShloMosaic.Lib.Pipeline.ValueKit.Geometry
public import Idealize.ShloMosaic.Lib.Pipeline.ValueKit.Acc

@[expose] public section

noncomputable section

namespace Cert.OutProj

open Cert.OutProjectionIdeal Cert.OutProjectionIdeal.Gen
open Cert.Common
open Idealize.ShloMosaic Idealize.ShloMosaic.TcCoe Idealize.SL.Sem

/-- The result at one row and column. -/
def outAt (y : S32768x2048.Idx → EReal) (x : S8x4096x2048.Idx → EReal) (w : S2048x2048.Idx → EReal) (R : Fin 32768) (q : Fin 2048) : EReal :=
  x (ix3 ⟨R.val / 4096, by omega⟩ ⟨R.val % 4096, by omega⟩ q) + ∑ k : Fin 2048, y (ix2 R k) * w (ix2 k q)

/-- The result of the call. -/
def out (y : S32768x2048.Idx → EReal) (x : S8x4096x2048.Idx → EReal) (w : S2048x2048.Idx → EReal) : S32768x2048.Idx → EReal :=
  fun j => outAt y x w (j 0) (j 1)

theorem pay_apply (x : Vec Ideal S512x2048 .f32) (y : Vec Ideal S512x2048 .bf16) (w : Vec Ideal S2048x2048 .bf16) (r : Fin 512) (q : Fin 2048) :
    k0_pay1 (F := Ideal) x y w (ix2 r q) = x (ix2 r q) + ∑ k : Fin 2048, y (ix2 r k) * w (ix2 k q) := by
  unfold k0_pay1
  simp only [pointwise, zero_add]

theorem out0_eq (y : Vec Ideal S512x2048 .bf16) (x : Vec Ideal S512x2048 .f32) (w : Vec Ideal S2048x2048 .bf16) :
    out0_3 (F := Ideal) y x w = k0_pay1 (F := Ideal) x y w := by
  unfold out0_3
  frame_out

variable (m : (ℓ : Loc nD τ sig) → Buf (Elt Ideal) ℓ)

/-- The argument arrays as launched. -/
abbrev yOf : S32768x2048.Idx → EReal := m (((0 : Dev nD) : Thread nD τ).loc main_arg0)
abbrev xOf : S8x4096x2048.Idx → EReal := m (((0 : Dev nD) : Thread nD τ).loc main_arg1)
abbrev wOf : S2048x2048.Idx → EReal := m (((0 : Dev nD) : Thread nD τ).loc main_arg2)

theorem lt_points (t : Fin grid0.N) : t.val < 64 := Nat.lt_of_lt_of_eq t.isLt N_0
/-- A row of the array from a row of a point's block. -/
abbrev rowOf (t : Fin grid0.N) (r : Fin 512) : Fin 32768 := ⟨512 * t.val + r.val, by have := lt_points t; omega⟩

theorem V_x (c : Dev nD) : (V m c main_v0 : S32768x2048.Idx → EReal)
    = shapeCast S32768x2048 (m ((c : Thread nD τ).loc main_arg1) : S8x4096x2048.Idx → EReal) shapeCasts_S8x4096x2048_S32768x2048 := by
  unfold_abbrev_sides
  after_results
  rfl

theorem V_w (c : Dev nD) : (V m c main_v1 : S2048x2048.Idx → EReal) = m ((c : Thread nD τ).loc main_arg2) := by
  unfold_abbrev_sides
  after_results
  rfl

theorem index_rows : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem iblk_y (t : Fin cfg0.N) (r : Fin 512) (k : Fin 2048) : iblk m 0 0 t (ix2 r k) = yOf m (ix2 (rowOf t r) k) := by
  have h := (index_rows t).1
  refine (congrFun (V_main_arg0 m 0) _).trans (congrArg (yOf m) (eq_ix2_of ?_ ?_))
  · exact coord_of (congrFun h 0) (by show t.val * 512 + r.val = 512 * t.val + r.val; omega)
  · exact coord_of (congrFun h 1) (by show 0 * 2048 + k.val = k.val; omega)

theorem iblk_x (t : Fin cfg0.N) (r : Fin 512) (q : Fin 2048) :
    iblk m 0 1 t (ix2 r q) = xOf m (ix3 ⟨(rowOf t r).val / 4096, by have := (rowOf t r).isLt; omega⟩ ⟨(rowOf t r).val % 4096, by omega⟩ q) := by
  have h := (index_rows t).2.1
  have e : (((cfg0.win 1).blk t).view.emb (ix2 r q) : S32768x2048.Idx) = ix2 (rowOf t r) q := by
    refine eq_ix2_of ?_ ?_
    · exact coord_of (congrFun h 0) (by show t.val * 512 + r.val = 512 * t.val + r.val; omega)
    · exact coord_of (congrFun h 1) (by show 0 * 2048 + q.val = q.val; omega)
  refine (congrArg (V m 0 main_v0 : S32768x2048.Idx → EReal) e).trans ((congrFun (V_x m 0) _).trans ?_)
  simp only [pointwise]

theorem iblk_w (t : Fin cfg0.N) (k q : Fin 2048) : iblk m 0 2 t (ix2 k q) = wOf m (ix2 k q) := by
  have h := (index_rows t).2.2.1
  refine (congrFun (V_w m 0) _).trans (congrArg (wOf m) (eq_ix2_of ?_ ?_))
  · exact coord_of (congrFun h 0) (by show 0 * 2048 + k.val = k.val; omega)
  · exact coord_of (congrFun h 1) (by show 0 * 2048 + q.val = q.val; omega)

/-- Where an element of a point's output block lies in the array. -/
theorem emb_out (t : Fin cfg0.N) (r : Fin 512) (q : Fin 2048) : (((cfg0.win 3).blk t).view.emb (ix2 r q) : S32768x2048.Idx) = ix2 (rowOf t r) q := by
  have h := (index_rows t).2.2.2
  refine eq_ix2_of ?_ ?_
  · exact coord_of (congrFun h 0) (by show t.val * 512 + r.val = 512 * t.val + r.val; omega)
  · exact coord_of (congrFun h 1) (by show 0 * 2048 + q.val = q.val; omega)

/-- What a point leaves in the output buffer, at an index of the block. -/
theorem block_value (t : Fin cfg0.N) (y : S512x2048.Idx) :
    out0_3 (F := Ideal) (iblk m 0 0 t) (iblk m 0 1 t) (iblk m 0 2 t) y = out (yOf m) (xOf m) (wOf m) (((cfg0.win 3).blk t).view.emb y : S32768x2048.Idx) := by
  obtain ⟨r, q, rfl⟩ : ∃ (r : Fin 512) (q : Fin 2048), y = ix2 r q := ⟨y 0, y 1, eq_ix2 y⟩
  refine Eq.trans ?_ (congrArg (out (yOf m) (xOf m) (wOf m)) (emb_out t r q)).symm
  rw [out0_eq]
  refine (pay_apply _ _ _ r q).trans ?_
  exact congrArg₂ (· + ·) (iblk_x m t r q) (Finset.sum_congr rfl fun k _ => congrArg₂ (· * ·) (iblk_y m t r k) (iblk_w m t k q))

/-- The call's array after the run. -/
theorem array_value : (dats m 0 0).arrAt 3 cfg0.N = out (yOf m) (xOf m) (wOf m) :=
  Pipeline.Dat.arrAt_eq_of_covers (dats m 0 0) 3 _ (by decide +kernel)
    fun t _ y => (congrFun (after0_3 m 0 t) y).trans (block_value m t y)

/-- The reference computes the same function. -/
theorem reference_value (y : (⟨S32768x2048, .bf16⟩ : BufTy).Contents (Elt Ideal)) (x : (⟨S8x4096x2048, .f32⟩ : BufTy).Contents (Elt Ideal))
    (w : (⟨S2048x2048, .f32⟩ : BufTy).Contents (Elt Ideal)) :
    Cert.OutProjectionReferenceIdeal.Read.val_main_v3 (F := Ideal) y x w = out y x w := by
  funext j
  obtain ⟨R, q, rfl⟩ : ∃ (R : Fin 32768) (q : Fin 2048), j = ix2 R q := ⟨j 0, j 1, eq_ix2 j⟩
  show _ = outAt y x w R q
  unfold outAt
  simp only [pointwise, Cert.OutProjectionReferenceIdeal.Read.val_main_v3, Cert.OutProjectionReferenceIdeal.Read.val_main_v2, Cert.OutProjectionReferenceIdeal.Read.val_main_v1,
    Cert.OutProjectionReferenceIdeal.Read.val_main_v0, zero_add]

end Cert.OutProj

end
-- ==== Proof.OutProj.Claims.lean ====
/- The claims of the output projection: the frames of its programs, and that kernel and reference agree over the
   extended reals. -/
module

public import proofs.«01_k».proof.Proof.Ffn.Same
public import proofs.«01_k».proof.Proof.OutProj.Value
public import proofs.«01_k».proof.Proof.Gen.OutProjection
public import proofs.«01_k».proof.Proof.Gen.OutProjectionReferenceIdeal

@[expose] public section

noncomputable section

namespace Cert.OutProj

open Idealize.ShloMosaic Idealize.SL.Sem

section Same
variable {F : FTy → Type} [FloatOps F]

/-- The two readings of the kernel run the same body. -/
theorem bodies_eq : (Cert.OutProjection.defs₀ (F := F)) = (Cert.OutProjectionIdeal.defs₀ (F := F)) := by
  unfold Cert.OutProjection.defs₀ Cert.OutProjectionIdeal.defs₀
  refine congrArg Defs.onTc ?_
  funext l a
  match l, a with
  | ⟨0, _⟩, (t, s) => rfl

theorem defs_eq : (Cert.OutProjection.defs (F := F)) = (Cert.OutProjectionIdeal.defs (F := F)) :=
  congrArg (Pipeline.defs (Cert.OutProjection.pcfgs (F := F))) bodies_eq

/-- The two readings of the kernel run the same host program. -/
theorem main_eq : (Cert.OutProjection.main (F := F)) = (Cert.OutProjectionIdeal.main (F := F)) := by
  delta Cert.OutProjection.main Cert.OutProjectionIdeal.main
  with_unfolding_all rfl
end Same

theorem frame_kernel : Cert.quiescent_OutProjection := fun m ρ _ =>
  Cert.Ffn.run_eq defs_eq main_eq (Cert.OutProjectionIdeal.Gen.frame (F := Bits) m ρ)

theorem frame_ideal : Cert.quiescent_OutProjectionIdeal := fun m ρ _ => Cert.OutProjectionIdeal.Gen.frame m ρ

theorem frame_reference : Cert.quiescent_OutProjectionReferenceIdeal := fun m ρ _ =>
  (θ_run Cert.OutProjectionReferenceIdeal.defs _ _).mono (fun r h => ⟨fun c => (h c).2, sem_eq_zero_of_no_sems (by decide) r.2⟩)
    (Cert.OutProjectionReferenceIdeal.Value.run m ρ)

/-- Kernel and reference compute the same function over the extended reals. -/
theorem algebraic : Cert.algebraic_OutProjectionIdeal_OutProjectionReferenceIdeal := by
  intro m g m' g' _ hargs
  refine ⟨fun _ => out (yOf m) (xOf m) (wOf m),
    (θ_run Cert.OutProjectionIdeal.defs _ _).mono (fun r hr c => ⟨(hr c).1.trans ?_, (hr c).2⟩) (Cert.OutProjectionIdeal.Value.run_blocks m g),
    (θ_run Cert.OutProjectionReferenceIdeal.defs _ _).mono (fun r hr c => ⟨(hr c).1.trans ?_, (hr c).2⟩) (Cert.OutProjectionReferenceIdeal.Value.run m' g')⟩
  · obtain rfl : c = 0 := Subsingleton.elim c 0
    exact array_value m
  · obtain rfl : c = 0 := Subsingleton.elim c 0
    obtain ⟨e0, e1, e2⟩ := hargs 0
    refine (Cert.OutProjectionReferenceIdeal.Read.val_main_v3_eq _ _ _).trans ((reference_value _ _ _).trans ?_)
    exact congr (congrArg₂ out e0 e1) e2

end Cert.OutProj

end
-- ==== Proof.Collecting.Body.lean ====
/- The kernel body of the collecting call at one grid point.

   At a point the body copies 512 rows of the experts' results into its scratch, row by row, each from the row that a
   word of the table names; all copies signal one semaphore.  It then waits for the 512 of them and writes the sum of
   its tile and the scratch.  The copies are one batch (`half_wp`: one copy; `fill_step`: a trip of the first loop;
   `drain_step`: of the second); `body_wp` is the triple of the printed body. -/
module

public import proofs.«01_k».proof.Proof.Gen.CollectIdeal.Launch
public import proofs.«01_k».proof.Proof.Gen.CollectIdeal.Skeleton
public import proofs.«01_k».proof.Proof.Common.Index
public import Idealize.ShloMosaic.Lib.Pipeline.FrameBody
public import Idealize.ShloMosaic.Lib.Pipeline.ValueKit.Basic
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Collecting

open Cert.CollectIdeal Cert.CollectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The table, the experts' results, the scratch and the semaphore as the body is handed them. -/
abbrev tabM : Memref sig .tc .smem S32768 .i32 := Memref.whole main_arg0
abbrev ysM : Memref sig .tc .hbm S45056x2048 .f32 := Memref.whole main_arg1
abbrev scM : Memref sig .tc .vmem S512x2048 .f32 := Memref.whole cc0_scratch0
abbrev sems : DmaSems sig S_ := cc0_scratch1
abbrev cell : SemLoc sig := .dma sems.sem

/-! ## Rows -/

theorem point_lt (i : grid0.Coords) : (i 0).val < 64 := (i 0).isLt

/-- The word of the table that row `r` of a point's tile reads. -/
def wordIdx (i : grid0.Coords) (r : Fin 512) : S32768.Idx :=
  fun a => ⟨512 * (i 0).val + r.val, by
    obtain rfl : a = (0 : Fin 1) := Subsingleton.elim (α := Fin 1) _ _
    have := point_lt i; have := r.isLt; show 512 * (i 0).val + r.val < 32768; omega⟩

/-- The row of the results that row `r` of a point's tile copies. -/
abbrev srcOf (T : S32768.Idx → BitVec 32) (i : grid0.Coords) (r : Fin 512) : ℕ := (T (wordIdx i r)).toNat

/-- What the scratch holds once every copy has arrived. -/
def gathered {α : Type} (T : S32768.Idx → BitVec 32) (hT : ∀ j, (T j).toNat < 45056) (Y : S45056x2048.Idx → α) (i : grid0.Coords) (y : S512x2048.Idx) : α :=
  Y (ix2 ⟨srcOf T i (y 0), hT _⟩ (y 1))

theorem dst_inb (r : Fin 512) : ∀ a, (![r.val, 0] : Fin 2 → Nat) a + S1x2048.size a ≤ S512x2048.size a := by
  have := r.isLt; intro a; fin_cases a
  · show r.val + 1 ≤ 512; omega
  · show 0 + 2048 ≤ 2048; omega

theorem src_inb {n : ℕ} (h : n < 45056) : ∀ a, (![n, 0] : Fin 2 → Nat) a + S1x2048.size a ≤ S45056x2048.size a := by
  intro a; fin_cases a
  · show n + 1 ≤ 45056; omega
  · show 0 + 2048 ≤ 2048; omega

/-- Row `r` of the scratch, and row `n` of the results. -/
abbrev dstRow (r : Fin 512) : Memref sig .tc .vmem S1x2048 .f32 := scM.slice (Rect.unit (s := S512x2048) ![r.val, 0] S1x2048.size (dst_inb r)) (fun _ => rfl)
abbrev srcRow (n : ℕ) (h : n < 45056) : Memref sig .tc .hbm S1x2048 .f32 := ysM.slice (Rect.unit (s := S45056x2048) ![n, 0] S1x2048.size (src_inb h)) (fun _ => rfl)

/-- Their elements. -/
abbrev dstSet (r : Fin 512) : Finset S512x2048.Idx := (Rect.unit (s := S512x2048) ![r.val, 0] S1x2048.size (dst_inb r)).set
abbrev srcSet (n : ℕ) (h : n < 45056) : Finset S45056x2048.Idx := (Rect.unit (s := S45056x2048) ![n, 0] S1x2048.size (src_inb h)).set

theorem dstRow_set (r : Fin 512) : (dstRow r).view.set = dstSet r := by unfold dstRow; exact View.set_slice_whole _ _
theorem srcRow_set (n : ℕ) (h : n < 45056) : (srcRow n h).view.set = srcSet n h := by unfold srcRow; exact View.set_slice_whole _ _

theorem mem_dstSet (r : Fin 512) (y : S512x2048.Idx) : y ∈ dstSet r ↔ (y 0).val = r.val := by
  rw [Rect.mem_set_unit]
  have h1 : (y 1).val < 2048 := (y 1).isLt
  constructor
  · intro H; have a0 : r.val ≤ (y 0).val ∧ (y 0).val < r.val + 1 := H 0; omega
  · intro H a; fin_cases a
    · show r.val ≤ (y 0).val ∧ (y 0).val < r.val + 1; omega
    · show 0 ≤ (y 1).val ∧ (y 1).val < 0 + 2048; omega

theorem dstSet_disjoint : ∀ r r' : Fin 512, r ≠ r' → Disjoint (dstSet r) (dstSet r') := fun r r' hne => by
  rw [Finset.disjoint_left]; intro y hy hy'; rw [mem_dstSet] at hy hy'; exact hne (Fin.ext (by omega))

theorem dstSet_cover : Finset.univ.biUnion dstSet = Finset.univ := by
  ext y; simp only [Finset.mem_biUnion, Finset.mem_univ, true_and, iff_true]; exact ⟨y 0, (mem_dstSet _ _).mpr rfl⟩

/-! ## The batch -/

section Batch

variable (c : Dev nD) (T : S32768.Idx → BitVec 32) (hT : ∀ j, (T j).toNat < 45056) (Y : S45056x2048.Idx → Elt F .f32)
  (f : S512x2048.Idx → Elt F .f32) (i : grid0.Coords)

/-- The half of the table the body holds. -/
abbrev tabPt : sProp 𝕄 := tabM.view.loc (c : Thread nD τ) ↦{fullShare.right} T
/-- Row `r` of the scratch at given contents. -/
abbrev dstPt (g : S512x2048.Idx → Elt F .f32) (r : Fin 512) : sProp 𝕄 :=
  (dstRow r).view.loc (c : Thread nD τ) ↦[(dstRow r).view.set]{fullShare} g
/-- A share of the row that row `r` copies. -/
abbrev srcPt (r : Fin 512) : sProp 𝕄 :=
  (srcRow (srcOf T i r) (hT _)).view.loc (c : Thread nD τ) ↦[(srcRow (srcOf T i r) (hT _)).view.set]{Transfers.shareTokN fullShare r.val} Y
/-- What the copy of row `r` needs. -/
abbrev need (r : Fin 512) : sProp 𝕄 := iprop(dstPt c f r ∗ srcPt c T hT Y i r)
/-- What it delivers. -/
def deliv (r : Fin 512) : sProp 𝕄 := iprop(dstPt c (gathered T hT Y i) r ∗ srcPt c T hT Y i r)

instance deliv_storable (r : Fin 512) : BI.Storable (upEmb : UEmb _ 𝕄) (deliv c T hT Y i r) := by
  unfold deliv; infer_instance

/-- One row's credit. -/
abbrev rowCredit : ℕ := (dstRow 0).view.dmaCredit

theorem rowCredit_pos : 0 < rowCredit := by decide

theorem row_credit (r : Fin 512) : (dstRow r).view.amount cell = rowCredit := rfl

/-- The batch with `j` copies issued and `u` units taken. -/
abbrev batch (j u : ℕ) : sProp 𝕄 :=
  Transfers.Batch (countersEmb (U := UD sig nD τ)) (c : Thread nD τ) cell () rowCredit (deliv c T hT Y i) j u

/-- A copy that arrives has written the row it was to write. -/
theorem arrived (r : Fin 512) :
    iprop(((dstRow r).view.loc (c : Thread nD τ) ↦[(dstRow r).view.set]{fullShare}
        ((dstRow r).view.write (Elt F) f (ReadAs.same.apply ((srcRow (srcOf T i r) (hT _)).view.read (Elt F) Y)) Finset.univ)) ∗ srcPt c T hT Y i r)
      ⊢ (deliv c T hT Y i r : sProp 𝕄) := by
  unfold deliv
  refine BI.sep_mono (Entails.of_eq (pointsTo_congr fun y hy => ?_)) (Entails.refl _)
  obtain ⟨x, -, rfl⟩ := Finset.mem_map.mp hy
  refine (View.write_emb_of_mem (v := (dstRow r).view) _ _ (Finset.mem_univ x)).trans ?_
  show Y ((srcRow (srcOf T i r) (hT _)).view.emb x) = gathered T hT Y i ((dstRow r).view.emb x)
  unfold gathered
  have h0 : (x 0).val = 0 := by have : (x 0).val < 1 := (x 0).isLt; omega
  have e0 : ((dstRow r).view.emb x) 0 = r := Fin.ext (by
    show r.val + 1 * (x 0).val = r.val; omega)
  have e1 : (((dstRow r).view.emb x) 1).val = (x 1).val := by
    show 0 + 1 * (x 1).val = (x 1).val; omega
  refine congrArg Y (Common.eq_ix2_of ?_ ?_)
  · have e := congrArg (srcOf T i) e0
    show srcOf T i r + 1 * (x 0).val = srcOf T i ((dstRow r).view.emb x 0)
    omega
  · show 0 + 1 * (x 1).val = (((dstRow r).view.emb x) 1).val
    omega

/-- The word a unit rectangle of the table reads. -/
theorem word_read (r : Fin 512) {off : Fin 1 → ℕ} (h : off = ![512 * (i 0).val + r.val]) (inb : ∀ a, off a + S1.size a ≤ S32768.size a) (x : S1.Idx) :
    (tabM.access (Rect.unit (s := S32768) off S1.size inb)).read (Elt F) T x = T (wordIdx i r) := by
  subst h
  refine congrArg T (funext fun a => Fin.ext ?_)
  obtain rfl : a = (0 : Fin 1) := Subsingleton.elim (α := Fin 1) _ _
  have h0 : (x 0).val = 0 := by have : (x 0).val < 1 := (x 0).isLt; omega
  show 512 * (i 0).val + r.val + 1 * (x 0).val = 512 * (i 0).val + r.val
  omega

/-- One copy, as the body issues it: a word of the table read, its condition met, a row of the results sent to a row of
    the scratch. -/
abbrev copyProg (off1 : Fin 1 → ℕ) (inb1 : ∀ a, off1 a + S1.size a ≤ S32768.size a)
    (off2 : Fin 2 → ℕ) (inb2 : ∀ a, off2 a + S1x2048.size a ≤ S512x2048.size a) (P : BitVec 32 → Prop) (dec : ∀ v, Decidable (P v))
    (inb3 : ∀ v, P v → ∀ a, (![v.toNat, 0] : Fin 2 → Nat) a + S1x2048.size a ≤ S45056x2048.size a)
    (k : PUnit → Prog (TpuEff nD τ sig (Elt F) Λ₀ .tc) PUnit) : Prog (TpuEff nD τ sig (Elt F) Λ₀ .tc) PUnit :=
  smemLoadElt tabM (Rect.unit (s := S32768) off1 S1.size inb1) (View.loads_smem_one rfl numel1_S1) (Shape.Idx.first (numel1_S1.symm ▸ Nat.one_pos)) fun v =>
    .op (.assume (P v) (dec v)) fun h =>
      .op (.enqueueDmaAs (ysM.slice (Rect.unit (s := S45056x2048) ![v.toNat, 0] S1x2048.size (inb3 v h.down)) (fun _ => rfl))
        (.here (scM.slice (Rect.unit (s := S512x2048) off2 S1x2048.size inb2) (fun _ => rfl))) .same (.dma sems.sem) (View.wordExact_bits rfl) (View.wordExact_bits rfl) ⟨Or.inl rfl, trivial⟩) k

/-- One copy: the word read, its condition met, the copy issued as number `r` of the batch. -/
theorem half_wp (r : Fin 512) {off1 : Fin 1 → ℕ} (h1 : off1 = ![512 * (i 0).val + r.val]) (inb1 : ∀ a, off1 a + S1.size a ≤ S32768.size a)
    {off2 : Fin 2 → ℕ} (h2 : off2 = ![r.val, 0]) (inb2 : ∀ a, off2 a + S1x2048.size a ≤ S512x2048.size a)
    (P : BitVec 32 → Prop) (dec : ∀ v, Decidable (P v)) (hP : ∀ v, v.toNat < 45056 → P v)
    (inb3 : ∀ v, P v → ∀ a, (![v.toNat, 0] : Fin 2 → Nat) a + S1x2048.size a ≤ S45056x2048.size a)
    (k : PUnit → Prog (TpuEff nD τ sig (Elt F) Λ₀ .tc) PUnit) (Q : PUnit → sProp 𝕄) :
    iprop(tabPt c T ∗ batch c T hT Y i r.val 0 ∗ need c T hT Y f i r
        ∗ (iprop(tabPt c T ∗ batch c T hT Y i (r.val + 1) 0) -∗ wp frame (wpE (defs₀ (F := F)) Variants.none c none) Set.univ (k ⟨⟩) Q))
      ⊢ wp frame (wpE (defs₀ (F := F)) Variants.none c none) Set.univ
          (copyProg off1 inb1 off2 inb2 P dec inb3 k) Q := by
  subst h2
  iintro ⟨HT, HB, ⟨HD, HS⟩, Hk⟩
  iapply (wp_smemLoadElt Variants.none (c : Thread nD τ) none Set.univ (m := tabM) (r := Rect.unit (s := S32768) off1 S1.size inb1) (Finset.subset_univ _)) $$ HT
  iintro HT
  rw [word_read T i r h1 inb1]
  iapply (wp_assume Variants.none (c : Thread nD τ) none Set.univ (hP _ (hT (wordIdx i r))))
  iapply (Transfers.wp_dmaBatch (countersEmb (U := UD sig nD τ)) Variants.none (c : Thread nD τ) none (src := srcRow (srcOf T i r) (hT _)) (dst := dstRow r) () rowCredit (row_credit r) subset_rfl
    (D := deliv c T hT Y i) (j := r.val) (u := 0) r.isLt (Nat.zero_le _) (arrived c T hT Y f i r)) $$ [HD HS HB]
  · isplitl [HS]; · iexact HS
    isplitl [HD]; · iexact HD
    iexact HB
  iintro HB
  iapply Hk
  isplitl [HT]; · iexact HT
  iexact HB

/-! ## The first loop -/

variable (arg3 : Memref sig .tc .vmem S512x2048 .f32) (harg3 : arg3.IsWhole) (arg4 : Memref sig .tc .vmem S512x2048 .f32) (harg4 : arg4.IsWhole)

/-- A trip of the first loop. -/
abbrev fillBody : Fin k0_t1_loop.trips → Unit → Prog (TpuEff nD τ sig (Elt F) Λ₀ .tc) Unit :=
  k0_t1_body i tabM (Memref.isWhole_whole _) ysM (Memref.isWhole_whole _) arg3 harg3 arg4 harg4 scM (Memref.isWhole_whole _) sems

theorem fill_trips : k0_t1_loop.trips = 256 := by decide

theorem chk_of (v : BitVec 32) (h : v.toNat < 45056) : ∀ a, (![v.toNat, 0] : Fin 2 → Nat) a + S1x2048.size a ≤ S45056x2048.size a := src_inb h

/-- It is two copies. -/
theorem fillBody_eq (k : Fin k0_t1_loop.trips) (u : Unit) :
    (fillBody i arg3 harg3 arg4 harg4 k u : Prog (TpuEff nD τ sig (Elt F) Λ₀ .tc) Unit)
      = copyProg (k0_off1 i k) (k0_off1_inb i k) (k0_off2 k) (k0_off2_inb k) k0_chk1 k0_chk1.dec k0_off3_inb fun _ =>
          copyProg (k0_off4 i k) (k0_off4_inb i k) (k0_off5 k) (k0_off5_inb k) k0_chk2 k0_chk2.dec k0_off6_inb fun _ => .ret ⟨⟩ := rfl

/-- Before trip `k`: the first `2k` copies issued, what the others need still in hand. -/
def fillInv (k : ℕ) (_ : Unit) : sProp 𝕄 :=
  iprop(tabPt c T ∗ batch c T hT Y i (2 * k) 0 ∗ bigSep (Ring.rangeSet 512 (2 * k) 512) (need c T hT Y f i))

theorem fill_step (k : Fin k0_t1_loop.trips) (u : Unit) :
    fillInv c T hT Y f i k.val u ⊢ wp frame (wpE (defs₀ (F := F)) Variants.none c none) Set.univ (fillBody i arg3 harg3 arg4 harg4 k u)
      (fillInv c T hT Y f i (k.val + 1)) := by
  have hk : k.val < 256 := Nat.lt_of_lt_of_eq k.isLt fill_trips
  rw [fillBody_eq]
  unfold fillInv
  rw [Ring.bigSep_rangeSet_head (Φ := need c T hT Y f i) (lo := 2 * k.val) (by omega) (by omega),
    Ring.bigSep_rangeSet_head (Φ := need c T hT Y f i) (lo := 2 * k.val + 1) (by omega) (by omega),
    show 2 * (k.val + 1) = 2 * k.val + 1 + 1 by omega]
  iintro ⟨HT, HB, HN0, HN1, HN⟩
  iapply (half_wp c T hT Y f i ⟨2 * k.val, by omega⟩ (k0_off1_eq i k) (k0_off1_inb i k) (k0_off2_eq k) (k0_off2_inb k) k0_chk1 k0_chk1.dec chk_of k0_off3_inb)
  isplitl [HT]; · iexact HT
  isplitl [HB]; · iexact HB
  isplitl [HN0]; · iexact HN0
  iintro ⟨HT, HB⟩
  iapply (half_wp c T hT Y f i ⟨2 * k.val + 1, by omega⟩ (by rw [k0_off4_eq]; rfl) (k0_off4_inb i k) (k0_off5_eq k) (k0_off5_inb k) k0_chk2 k0_chk2.dec chk_of k0_off6_inb)
  isplitl [HT]; · iexact HT
  isplitl [HB]; · iexact HB
  isplitl [HN1]; · iexact HN1
  iintro ⟨HT, HB⟩
  sl_step
  isplitl [HT]; · iexact HT
  isplitl [HB]; · iexact HB
  iexact HN

/-! ## The second loop -/

/-- A trip of the second loop. -/
abbrev drainBody : Fin k0_t2_loop.trips → Unit → Prog (TpuEff nD τ sig (Elt F) Λ₀ .tc) Unit :=
  k0_t2_body i tabM (Memref.isWhole_whole _) ysM (Memref.isWhole_whole _) arg3 harg3 arg4 harg4 scM (Memref.isWhole_whole _) sems

theorem drain_trips : k0_t2_loop.trips = 512 := by decide

theorem drainBody_eq (k : Fin k0_t2_loop.trips) (u : Unit) :
    (drainBody i arg3 harg3 arg4 harg4 k u : Prog (TpuEff nD τ sig (Elt F) Λ₀ .tc) Unit)
      = .op (.waitDma2 sems.sem (ysM.slice (Rect.unit (s := S45056x2048) ![0, 0] S1x2048.size inb_S45056x2048_S1x2048_0_0) (fun _ => rfl))
          (scM.slice (Rect.unit (s := S512x2048) ![0, 0] S1x2048.size inb_S512x2048_S1x2048_0_0) (fun _ => rfl)) (View.wordExact_bits rfl) (View.wordExact_bits rfl)) fun _ => .ret ⟨⟩ := rfl

/-- Before trip `k`: `k` rows' units taken; after the last, the cell at zero and every delivery. -/
def drainInv (k : ℕ) (_ : Unit) : sProp 𝕄 :=
  iprop((∃ W, owes (c : Thread nD τ) 0 W)
    ∗ (if k < 512 then batch c T hT Y i 512 (k * rowCredit)
       else iprop(semVal ((c : Thread nD τ), cell) 0 ∗ bigSep Finset.univ (deliv c T hT Y i))))

theorem taken_lt {C k : ℕ} (hC : 0 < C) (h : k + 1 < 512) : k * C + C < C * 512 := by
  rw [← Nat.succ_mul, Nat.mul_comm]; exact Nat.mul_lt_mul_of_pos_left h hC
theorem taken_all {C k : ℕ} (h : k + 1 = 512) : k * C + C = C * 512 := by
  rw [← Nat.succ_mul, Nat.mul_comm, Nat.succ_eq_add_one, h]

theorem drain_step (k : Fin k0_t2_loop.trips) (u : Unit) :
    drainInv c T hT Y i k.val u ⊢ wp frame (wpE (defs₀ (F := F)) Variants.none c none) Set.univ (drainBody i arg3 harg3 arg4 harg4 k u)
      (drainInv c T hT Y i (k.val + 1)) := by
  have hk : k.val < 512 := Nat.lt_of_lt_of_eq k.isLt drain_trips
  have hN : 0 < rowCredit := rowCredit_pos
  rw [drainBody_eq]
  unfold drainInv
  simp only [if_pos hk]
  rcases Nat.lt_or_ge (k.val + 1) 512 with h1 | h1
  · simp only [if_pos h1]
    iintro ⟨⟨%W, HO⟩, HB⟩
    iapply (Transfers.wp_waitBatch (countersEmb (U := UD sig nD τ)) Variants.none (c : Thread nD τ) none () rfl (D := deliv c T hT Y i) (u := k.val * rowCredit) (taken_lt hN h1)) $$ [HB HO]
    · isplitl [HB] <;> iassumption
    iintro ⟨HB, HO⟩
    sl_step
    isplitl [HO]; · iexists _; iexact HO
    rw [Nat.succ_mul]
    iexact HB
  · simp only [if_neg (Nat.not_lt.mpr h1)]
    iintro ⟨⟨%W, HO⟩, HB⟩
    iapply (Transfers.wp_waitBatchLast (countersEmb (U := UD sig nD τ)) Variants.none (c : Thread nD τ) none () rfl hN (D := deliv c T hT Y i) (u := k.val * rowCredit)
      (taken_all (by omega))) $$ [HB HO]
    · isplitl [HB] <;> iassumption
    iintro ⟨HD, Hv, HO⟩
    sl_step
    isplitl [HO]; · iexists _; iexact HO
    isplitl [Hv]; · iexact Hv
    iexact HD

/-! ## The scratch and the results, whole and in rows -/

/-- The scratch whole is its rows. -/
theorem scratch_rows (g : S512x2048.Idx → Elt F .f32) :
    (scM.view.loc (c : Thread nD τ) ↦{fullShare} g : sProp 𝕄) = bigSep Finset.univ (dstPt c g) := by
  refine (Ring.pointsTo_blocks (ℓ := scM.view.loc (c : Thread nD τ)) (q := fullShare) dstSet dstSet_disjoint dstSet_cover g).trans ?_
  refine congrArg _ (funext fun r => ?_)
  unfold dstPt; rw [dstRow_set]

/-- What no copy takes of the results: the share left after the 512 that the copies read under, and the other rows of
    each of those. -/
def srcRest : sProp 𝕄 :=
  iprop((ysM.view.loc (c : Thread nD τ) ↦{Transfers.shareDrop fullShare 512} Y)
    ∗ bigSep Finset.univ fun r : Fin 512 =>
        ysM.view.loc (c : Thread nD τ) ↦[Finset.univ \ srcSet (srcOf T i r) (hT _)]{Transfers.shareTokN fullShare r.val} Y)

/-- The results whole are the rows the copies read, and the rest. -/
theorem results_rows : (ysM.view.loc (c : Thread nD τ) ↦{fullShare} Y : sProp 𝕄)
    ⊣⊢ iprop(bigSep Finset.univ (srcPt c T hT Y i) ∗ srcRest c T hT Y i) := by
  have e : (bigSep (Finset.range 512) (fun t => (ysM.view.loc (c : Thread nD τ) ↦{Transfers.shareTokN fullShare t} Y : sProp 𝕄)))
      = iprop(bigSep Finset.univ (srcPt c T hT Y i) ∗ bigSep Finset.univ fun r : Fin 512 =>
        (ysM.view.loc (c : Thread nD τ) ↦[Finset.univ \ srcSet (srcOf T i r) (hT _)]{Transfers.shareTokN fullShare r.val} Y : sProp 𝕄)) := by
    refine (Ring.bigSep_fin_eq_range 512 (fun r : Fin 512 => (ysM.view.loc (c : Thread nD τ) ↦{Transfers.shareTokN fullShare r.val} Y : sProp 𝕄)) _ (fun t h => rfl)).symm.trans ?_
    refine Eq.trans ?_ (BI.bigSep_sep _ _ _)
    refine congrArg _ (funext fun r => ?_)
    have h : (ysM.view.loc (c : Thread nD τ) ↦{Transfers.shareTokN fullShare r.val} Y : sProp 𝕄) ⊣⊢ _ := pointsTo_split_subset (Finset.subset_univ (srcSet (srcOf T i r) (hT _)))
    unfold srcPt; rw [srcRow_set]
    exact Entails.antisymm h.1 h.2
  have h : (ysM.view.loc (c : Thread nD τ) ↦{fullShare} Y : sProp 𝕄) ⊣⊢ _ := Transfers.pointsTo_toks_range fullShare 512
  rw [e] at h
  unfold srcRest
  constructor
  · refine h.1.trans ?_
    iintro ⟨H1, H2, H3⟩
    isplitl [H2]; · iexact H2
    isplitl [H1]; · iexact H1
    iexact H3
  · refine BIBase.Entails.trans ?_ h.2
    iintro ⟨H2, H1, H3⟩
    isplitl [H1]; · iexact H1
    isplitl [H2]; · iexact H2
    iexact H3

/-! ## The body -/

theorem zero2 : (![0, 0] : Fin 2 → Nat) = fun _ => 0 := by funext a; fin_cases a <;> rfl

/-- A store of a whole block is what a read of the buffer gives. -/
theorem read_stored {sp : Space} {S : Shape} {e : EltTy} (v : View sig .tc sp S e) (g : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) g ((⟨Rect.unit off S.size inb, w⟩ : View.Piece (Elt F) S e) :: L)) = w := by
  subst h
  funext y
  have e := View.read_writes_cons_emb v g (Rect.whole S) w L y
  rwa [Rect.emb_whole_apply] at e

set_option maxHeartbeats 4000000 in
/-- The printed body: the output tile becomes the sum of the input tile and the gathered rows; the scratch holds those
    rows, the semaphore is at zero again, and everything else is as it was. -/
theorem body_wp (x o : Vec F S512x2048 .f32) (K : PUnit → sProp 𝕄) :
    iprop(owns (c : Thread nD τ) arg3 fullShare x ∗ owns (c : Thread nD τ) arg4 fullShare o ∗ tabPt c T
        ∗ (scM.view.loc (c : Thread nD τ) ↦{fullShare} f) ∗ (ysM.view.loc (c : Thread nD τ) ↦{fullShare} Y)
        ∗ semVal ((c : Thread nD τ), cell) 0 ∗ (∃ W, owes (c : Thread nD τ) 0 W)
        ∗ (iprop(owns (c : Thread nD τ) arg3 fullShare x ∗ owns (c : Thread nD τ) arg4 fullShare (k0_pay1 x (gathered T hT Y i)) ∗ tabPt c T
            ∗ (scM.view.loc (c : Thread nD τ) ↦{fullShare} gathered T hT Y i) ∗ (ysM.view.loc (c : Thread nD τ) ↦{fullShare} Y)
            ∗ semVal ((c : Thread nD τ), cell) 0 ∗ (∃ W, owes (c : Thread nD τ) 0 W)) -∗ K ⟨⟩))
      ⊢ wp frame (wpE (defs₀ (F := F)) Variants.none c none) Set.univ
          (cc0_moe_collect i tabM (Memref.isWhole_whole _) ysM (Memref.isWhole_whole _) arg3 harg3 arg4 harg4 scM (Memref.isWhole_whole _) sems) K := by
  simp only [cc0_moe_collect_eq_skeleton]; unfold cc0_moe_collect_skel
  iintro ⟨H3, H4, HT, HS, HY, Hv, HO, Hk⟩
  ihave HS := (Entails.of_eq (scratch_rows c f)) $$ HS
  ihave HY := (results_rows c T hT Y i).1 $$ HY
  icases HY with ⟨HY, HR⟩
  ihave HN := (show iprop(bigSep Finset.univ (dstPt c f) ∗ bigSep Finset.univ (srcPt c T hT Y i)) ⊢ bigSep Finset.univ (need c T hT Y f i) from
    Entails.of_eq (BI.bigSep_sep Finset.univ (dstPt c f) (srcPt c T hT Y i)).symm) $$ [HS HY]
  · isplitl [HS] <;> iassumption
  imod (Transfers.batch_alloc' (Lvl := ℕ) (countersEmb (U := UD sig nD τ)) (c : Thread nD τ) () rowCredit (deliv c T hT Y i) (sm := cell) (E := Set.univ)) $$ Hv with HB
  sl_for (fillInv c T hT Y f i) $$ [HT HB HN]
  · exact fill_step c T hT Y f i arg3 harg3 arg4 harg4
  · unfold fillInv
    rw [Nat.mul_zero, Ring.rangeSet_univ]
    isplitl [HT]; · iexact HT
    isplitl [HB]; · iexact HB
    iexact HN
  rw [show Scf.trips k0_t1_loop.lb k0_t1_loop.ub k0_t1_loop.st = 256 from fill_trips]
  iintro %a HI
  unfold fillInv
  icases HI with ⟨HT, HB, -⟩
  sl_for (drainInv c T hT Y i) $$ [HO HB]
  · exact drain_step c T hT Y i arg3 harg3 arg4 harg4
  · unfold drainInv
    rw [if_pos (by decide), Nat.zero_mul]
    isplitl [HO]; · iexact HO
    iexact HB
  rw [show Scf.trips k0_t2_loop.lb k0_t2_loop.ub k0_t2_loop.st = 512 from drain_trips]
  iintro %b HI
  unfold drainInv
  rw [if_neg (by decide)]
  icases HI with ⟨HO, Hv, HD⟩
  ihave HD := (show bigSep Finset.univ (deliv c T hT Y i) ⊢ iprop(bigSep Finset.univ (dstPt c (gathered T hT Y i)) ∗ bigSep Finset.univ (srcPt c T hT Y i)) from
    Entails.of_eq (BI.bigSep_sep Finset.univ (dstPt c (gathered T hT Y i)) (srcPt c T hT Y i))) $$ HD
  icases HD with ⟨HS, HY⟩
  ihave HS := (Entails.of_eq (scratch_rows c (gathered T hT Y i)).symm) $$ HS
  ihave HY := (results_rows c T hT Y i).2 $$ [HY HR]
  · isplitl [HY] <;> iassumption
  unfold owns
  icases H3 with ⟨%g3, %hg3, H3⟩
  icases H4 with ⟨%g4, %hg4, H4⟩
  obtain rfl := harg3.eq_unread hg3; obtain rfl := harg4.eq_unread hg4
  sl_exec
  sl_step
  iapply Hk
  isplitl [H3]
  · iexists _; isplitr; · ipureintro; exact harg3.read_unread _
    iexact H3
  isplitl [H4]
  · iexists _; isplitr
    swap; · iexact H4
    ipureintro
    sl_unfold_words
    rw [read_stored _ _ zero2]
    simp (disch := decide) only [View.readAt_eq_ld, harg3.read_unread, harg4.read_unread, View.ld_unit_lit, View.readCov_unit_lit]
    rfl
  isplitl [HT]; · iexact HT
  isplitl [HS]; · iexact HS
  isplitl [HY]; · iexact HY
  isplitl [Hv]; · iexact Hv
  iexact HO

end Batch

end Cert.Collecting
-- ==== Proof.Collecting.Run.lean ====
/- The launch of the collecting call: what its buffers hold point by point, and the run.

   Everything is stated at any float instance `F`, so that the run serves both readings of the program. -/
module

public import proofs.«01_k».proof.Proof.Collecting.Body
public import Idealize.ShloMosaic.Lib.Pipeline.TableIdle
public import Idealize.ShloMosaic.Lib.Claim

@[expose] public section

set_option maxRecDepth 16384

noncomputable section

namespace Cert.Collecting

open Cert.CollectIdeal Cert.CollectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## The arrays when the call is entered -/

/-- Core `c`'s buffers when the call is entered: after the host operation before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer the host operation does not write is found as launched. -/
theorem V_kept (c : Dev nD) (r : Ref sig .tc) (h : r ≠ main_v0) : V m c r = m ((c : Thread nD τ).loc r) :=
  StableHlo.after_of_forall_not_mem (b := Proc.devRef .tc r) _ _ (List.forall_iff_forall_mem.mp (by
    simp only [hostOps0, List.Forall, StableHlo.reshape_writes, Finset.mem_singleton]
    exact StableHlo.devRef_ne_of_ne h))

/-- The contents of the table when the call is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The table's words. -/
abbrev places : S32768.Idx → BitVec 32 := tbl m 0
/-- Every word of the table names a row of the results. -/
abbrev Placed : Prop := ∀ j : S32768.Idx, (places m j).toNat < 45056
abbrev adm : (pcfg0 (F := F)).Adm := ⟨tbl m, trivial⟩
abbrev cfgM : Pipeline.Cfg sig Λ₀ := cfg0 (adm m)

theorem ΦT_eq (c : Dev nD) : (Pipeline.ΦT pre0 (tbl m) c : sProp 𝕄) = tabPt (F := F) c (places m) := by
  unfold Pipeline.ΦT Pipeline.prefHeld
  rw [show (Finset.univ : Finset (Fin 1)) = {(0 : Fin 1)} from by decide, bigSep_singleton]
  rfl

/-! ## The proof data -/

/-- The body's own semaphore. -/
abbrev osem : Unit → SemLoc sig := fun _ => cell

/-- The experts' results as the body reads them. -/
abbrev ysAt (c : Dev nD) : S45056x2048.Idx → F .f32 := V m c main_arg1

/-- What the body keeps between points: the scratch at anything, the generator register, its semaphore at zero, the
    experts' results. -/
abbrev held (c : Dev nD) : sProp 𝕄 := Pipeline.ΦD osem spec0 {main_arg1} (V m) c

theorem held_eq (c : Dev nD) : held m c
    = iprop((∃ f, scM.view.loc (c : Thread nD τ) ↦{fullShare} f) ∗ (∃ r, prngReg c r) ∗ semVal ((c : Thread nD τ), cell) 0
        ∗ (ysM.view.loc (c : Thread nD τ) ↦{fullShare} ysAt m c)) := by
  unfold held
  rw [Pipeline.ΦD_eq, scopedRest0_eq, bigSep_singleton]
  unfold Pipeline.ownSems0
  rw [show (Finset.univ : Finset Unit) = {()} from by decide, bigSep_singleton]

/-- Window `w`'s block at point `t`, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The tile a point leaves in its output buffer: its own rows and the gathered ones, added. -/
def outTile (hT : Placed m) (c : Dev nD) (t : Fin (cfgM m).N) : Vec F S512x2048 .f32 :=
  k0_pay1 (iblk m c 0 t) (gathered (places m) hT (ysAt m c) (grid0.coords t))

/-- The proof data: arrays as found, the input buffer at its block, the output buffer at the tile's sum. -/
def dats (hT : Placed m) (_ : Fin 1) (c : Dev nD) : Dat τ (Elt F) Unit ℕ (UD sig nD τ) ℕ (cfgM m) c where
  A w := V m c (Pipeline.arrRef spec0 w)
  after w t := match w with
    | ⟨0, _⟩ => iblk m c 0 t
    | ⟨1, _⟩ => outTile m hT c t
  Φ _ := iprop(held m c ∗ Pipeline.ΦT pre0 (tbl m) c)
  q _ := fullShare
  owed _ := 0

theorem A_eq (hT : Placed m) (c : Dev nD) (w : Fin (cfgM m).W) : (dats m hT 0 c).A w = V m c (Pipeline.arrRef spec0 w) := by
  dsimp only [dats]

theorem Φ_eq (hT : Placed m) (c : Dev nD) (t : Fin ((cfgM m).N + 1)) :
    (dats m hT 0 c).Φ t = iprop(held m c ∗ Pipeline.ΦT pre0 (tbl m) c) := by
  dsimp only [dats]

theorem after_0 (hT : Placed m) (c : Dev nD) (t : Fin (cfgM m).N) : (dats m hT 0 c).after 0 t = iblk m c 0 t := by dsimp only [dats]; try rfl
theorem after_1 (hT : Placed m) (c : Dev nD) (t : Fin (cfgM m).N) : (dats m hT 0 c).after 1 t = outTile m hT c t := by dsimp only [dats]; try rfl

theorem before_0 (hT : Placed m) (c : Dev nD) (t : Fin (cfgM m).N) (d) : (dats m hT 0 c).before 0 t d = iblk m c 0 t :=
  ((dats m hT 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-! ## The body obligation -/

/-- The body at point `t` on the memrefs the pipeline hands it. -/
abbrev bodyAt (t : Fin (cfgM m).N) : Prog (TpuEff nD τ sig (Elt F) Λ₀ .tc) PUnit :=
  cc0_moe_collect (grid0.coords t) (Memref.whole main_arg0) (Memref.isWhole_whole _) (Memref.whole main_arg1) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (Memref.whole cc0_scratch0) (Memref.isWhole_whole _) cc0_scratch1

/-- What the body is handed at point `t`, and what it hands back. -/
def bodyPre (hT : Placed m) (c : Dev nD) (t : Fin (cfgM m).N) : sProp 𝕄 :=
  iprop((dats m hT 0 c).Φ t.castSucc ∗ (dats m hT 0 c).owesAt () t.castSucc
    ∗ (∃ d, owns (c : Thread nD τ) (spec0_0.stage ((cfgM m).slots t 0)) fullShare ((dats m hT 0 c).before 0 t d))
    ∗ (∃ d, owns (c : Thread nD τ) (spec0_1.stage ((cfgM m).slots t 1)) fullShare ((dats m hT 0 c).before 1 t d)))

def bodyPost (hT : Placed m) (c : Dev nD) (t : Fin (cfgM m).N) : sProp 𝕄 :=
  iprop((dats m hT 0 c).Φ t.succ ∗ (dats m hT 0 c).owesAt () t.succ
    ∗ owns (c : Thread nD τ) (spec0_0.stage ((cfgM m).slots t 0)) fullShare ((dats m hT 0 c).after 0 t)
    ∗ owns (c : Thread nD τ) (spec0_1.stage ((cfgM m).slots t 1)) fullShare ((dats m hT 0 c).after 1 t))

/-- The debts the pipeline records at a point are none, whatever has been waited for. -/
theorem owesAt_elim (hT : Placed m) (c : Dev nD) (t : Fin ((cfgM m).N + 1)) :
    (dats m hT 0 c).owesAt () t ⊢ (∃ W, owes (c : Thread nD τ) 0 W : sProp 𝕄) := by
  unfold Dat.owesAt Pipeline.owesWithin
  iintro ⟨%W, -, H⟩
  iexists W
  iexact H

theorem owesAt_intro (hT : Placed m) (c : Dev nD) (t : Fin ((cfgM m).N + 1)) :
    (∃ W, owes (c : Thread nD τ) 0 W : sProp 𝕄) ⊢ (dats m hT 0 c).owesAt () t := by
  unfold Dat.owesAt Pipeline.owesWithin
  iintro ⟨%W, H⟩
  iexists W
  isplitr [H]
  · ipureintro; exact fun _ _ => Or.inl trivial
  iexact H

theorem sound_body (hT : Placed m) (c : Dev nD) (t : Fin (cfgM m).N) :
    bodyPre m hT c t ⊢ wp frame (wpE (defs₀ (F := F)) Variants.none c none) Set.univ (bodyAt m t) (fun _ => bodyPost m hT c t) := by
  unfold bodyPre bodyPost bodyAt
  simp only [before_0]
  rw [after_0, after_1, Φ_eq, Φ_eq, ΦT_eq, held_eq]
  iintro ⟨⟨⟨⟨%f, HS⟩, Hg, Hc, HY⟩, HT⟩, Ho, ⟨%d0, H0⟩, ⟨%d1, H1⟩⟩
  ihave Ho := (owesAt_elim m hT c t.castSucc) $$ Ho
  iapply (body_wp c (places m) hT (ysAt m c) f (grid0.coords t) _ _ _ _ (iblk m c 0 t) ((dats m hT 0 c).before 1 t d1) _)
  isplitl [H0]; · iexact H0
  isplitl [H1]; · iexact H1
  isplitl [HT]; · iexact HT
  isplitl [HS]; · iexact HS
  isplitl [HY]; · iexact HY
  isplitl [Hc]; · iexact Hc
  isplitl [Ho]; · iexact Ho
  iintro ⟨H0, H1, HT, HS, HY, Hc, Ho⟩
  isplitl [HS Hg Hc HY HT]
  · isplitl [HS Hg Hc HY]
    · isplitl [HS]; · iexists _; iexact HS
      isplitl [Hg]; · iexact Hg
      isplitl [Hc]; · iexact Hc
      iexact HY
    iexact HT
  isplitl [Ho]; · iapply (owesAt_intro m hT c t.succ); iexact Ho
  isplitl [H0]; · iexact H0
  iexact H1

theorem defs₀_row (t : Fin (cfgM m).N) :
    defs₀ (F := F) .tc (cfgM m).body ((cfgM m).bodyArgs t ((cfgM m).slots t)) = bodyAt m t := by
  unfold defs₀; rw [Defs.onTc_tc]

theorem body_obligation (hT : Placed m) (c : Dev nD) : BodyObligation (dats (F := F) m hT 0 c) (defs₀ (F := F)) Variants.none () Set.univ := fun t => by
  rw [bigSep_W0, bigSep_W0, defs₀_row m]
  exact triple_restated (sound_body m hT c t) rfl .rfl fun _ => .rfl

/-! ## The run -/

theorem hin (hT : Placed m) (c : Dev nD) : iprop(held m c ∗ Pipeline.ΦT pre0 (tbl m) c) ⊢ (dats m hT 0 c).Φ 0 := by
  rw [Φ_eq]
  try exact Idealize.SL.BI.Entails.refl _

theorem hout (hT : Placed m) (c : Dev nD) : (dats m hT 0 c).Φ (Fin.last (cfgM m).N) ⊢ held m c := by
  rw [Φ_eq]
  iintro ⟨H, -⟩
  iexact H

theorem own_sems : Pipeline.OwnSemFacts spec0 osem := by decide

theorem results_rest : {main_arg1} ⊆ Pipeline.restRefsP sig pre0 spec0 := by decide

set_option backward.isDefEq.respectTransparency.types false in
/-- Every execution ends, each array of the call at what the proof data says, every other buffer as found, every
    counter at zero. -/
theorem run_quiescent (hT : Placed m) : θ_run defs (onTc (τ := τ) (main (F := F))) (s₀ m ρ) (fun r => (Pipeline.FramePost (Pipeline.pin pcfgs fun _ => adm m) (dats m hT) 0 (V m)) r ∧ r.2.sem = fun _ => 0) :=
  Pipeline.θ_run_frameP_dma (Q' := _) pcfgs (fun _ => adm m) (dats m hT) (0 : Fin 1) launch0 osem defs₀ Variants.none own_sems {main_arg1} results_rest m ρ main
    (hbody := fun c => (body_obligation m hT c).loose) (hshare := fun c => (dats m hT 0 c).share_full fun _ => rfl)
    (howed := fun _ _ => rfl) (V := V m) (hmain := hmain m Variants.none) (hA := A_eq m hT) (hpf := V_pre m)
    (hin := hin m hT) (hout := hout m hT)

/-- The argument arrays at the end of such a run are as launched. -/
theorem args_of_post (hT : Placed m) {r} (h : Pipeline.FramePost (Pipeline.pin pcfgs fun _ => adm m) (dats m hT) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (by decide : main_arg0 ∈ Pipeline.restRefs sig spec0)).trans (V_kept m c _ (by decide)),
    ((h c).2 main_arg1 (by decide : main_arg1 ∈ Pipeline.restRefs sig spec0)).trans (V_kept m c _ (by decide)),
    ((h c).2 main_arg2 (by decide : main_arg2 ∈ Pipeline.restRefs sig spec0)).trans (V_kept m c _ (by decide))⟩

/-- The call leaves its arguments unchanged and every counter at zero. -/
theorem frame (hT : Placed m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => args_of_post m hT h.1 c, h.2⟩) (run_quiescent m ρ hT)

end Cert.Collecting

end
-- ==== Proof.Collecting.Value.lean ====
/- The collecting call of the layer: each token row of the residual stream and, added to it, the row of the experts'
   results that the table names for it. -/
module

public import proofs.«01_k».proof.Defs
public import proofs.«01_k».proof.Proof.Collecting.Run
public import proofs.«01_k».proof.Proof.Gen.CollectReferenceIdeal.Run
public import proofs.«01_k».proof.Proof.Gen.CollectReferenceIdeal.Read
public import proofs.«01_k».proof.Proof.Gen.Pre_placed
public import proofs.«01_k».proof.Proof.Common.Index
public import Idealize.ShloMosaic.Lib.Pointwise
public import Idealize.ShloMosaic.Lib.Pipeline.ValueKit.Geometry
public import Idealize.ShloMosaic.Lib.Pipeline.ValueKit.Acc

@[expose] public section

noncomputable section

namespace Cert.Collecting

open Cert.CollectIdeal Cert.CollectIdeal.Gen
open Cert.Common
open Idealize.ShloMosaic Idealize.ShloMosaic.TcCoe Idealize.SL.Sem

variable {F : FTy → Type} [FloatOps F]

/-- The result at one row and column. -/
def outAt (p : S32768.Idx → BitVec 32) (y : S45056x2048.Idx → F .f32) (x : S8x4096x2048.Idx → F .f32) (hT : ∀ j, (p j).toNat < 45056)
    (R : Fin 32768) (q : Fin 2048) : F .f32 :=
  FloatOps.addf (x (ix3 ⟨R.val / 4096, by omega⟩ ⟨R.val % 4096, by omega⟩ q)) (y (ix2 ⟨(p (ix1 R)).toNat, hT _⟩ q))

/-- The result of the call. -/
def out (p : S32768.Idx → BitVec 32) (y : S45056x2048.Idx → F .f32) (x : S8x4096x2048.Idx → F .f32) (hT : ∀ j, (p j).toNat < 45056) :
    S32768x2048.Idx → F .f32 :=
  fun j => outAt p y x hT (j 0) (j 1)

theorem pay_apply (x g : Vec F S512x2048 .f32) (j : S512x2048.Idx) : k0_pay1 (F := F) x g j = FloatOps.addf (x j) (g j) := by
  unfold k0_pay1
  simp only [pointwise]

/-! ## The precondition -/

section Entry

/-- A word that is at least 0 and below 45056 as signed numbers is below 45056. -/
theorem lt_of_signed (w : BitVec 32) (h : (BitVec.sle 0#32 w && BitVec.slt w 45056#32) = true) : w.toNat < 45056 := by
  rw [Bool.and_eq_true] at h
  obtain ⟨hge, hlt⟩ := h
  simp only [BitVec.sle, BitVec.slt, decide_eq_true_eq, BitVec.toInt, BitVec.toNat_ofNat] at hge hlt
  omega

theorem and_of_bools (p q : Bool) : IntOp.andi (BitVec.ofBool p) (BitVec.ofBool q) = BitVec.ofBool (p && q) := by
  cases p <;> cases q <;> decide

theorem ofBool_one (p : Bool) : (BitVec.ofBool p = 1#1) ↔ p = true := by cases p <;> decide

theorem lt_of_placed [Cert.Pre_placed.Facts] {a0 a1 a2} (h : Cert.Pre_placed.fn (F := F) a0 a1 a2 = fun _ => 1#1) (y : S32768.Idx) :
    (a0 y).toNat < 45056 := by
  have e := congrFun h y
  simp only [Cert.Pre_placed.fn, andi, cmpi, broadcastInDim, constantI, IntOp.cmpi, and_of_bools, ofBool_one] at e
  exact lt_of_signed _ e

variable (m : (ℓ : Loc nD τ sig) → Buf (Elt F) ℓ)

/-- The table is found as launched. -/
theorem places_eq : places m = (m (((0 : Dev nD) : Thread nD τ).loc main_arg0) : S32768.Idx → BitVec 32) :=
  V_kept m 0 main_arg0 (by decide)

theorem placed_of_lt (h : ∀ y : S32768.Idx, BitVec.toNat (w := 32) (m (((0 : Dev nD) : Thread nD τ).loc main_arg0) y) < 45056) : Placed m := fun j => by
  rw [places_eq]; exact h j

end Entry

/-! ## The array after the run -/

variable (m : (ℓ : Loc nD τ sig) → Buf (Elt F) ℓ)

/-- The argument arrays as launched. -/
abbrev yOf : S45056x2048.Idx → F .f32 := m (((0 : Dev nD) : Thread nD τ).loc main_arg1)
abbrev xOf : S8x4096x2048.Idx → F .f32 := m (((0 : Dev nD) : Thread nD τ).loc main_arg2)

theorem lt_points (t : Fin grid0.N) : t.val < 64 := Nat.lt_of_lt_of_eq t.isLt N_0
/-- A row of the array from a row of a point's block. -/
abbrev rowOf (t : Fin grid0.N) (r : Fin 512) : Fin 32768 := ⟨512 * t.val + r.val, by have := lt_points t; omega⟩

theorem V_x (c : Dev nD) : (V m c main_v0 : S32768x2048.Idx → F .f32)
    = shapeCast S32768x2048 (m ((c : Thread nD τ).loc main_arg2) : S8x4096x2048.Idx → F .f32) shapeCasts_S8x4096x2048_S32768x2048 := by
  unfold_abbrev_sides
  after_results
  rfl

theorem ys_eq : ysAt m 0 = yOf m := V_kept m 0 main_arg1 (by decide)

theorem index_rows : ∀ t : Fin (cfgM m).N, ((cfgM m).win 0).index t = ![t.val, 0] ∧ ((cfgM m).win 1).index t = ![t.val, 0] :=
  (by decide +kernel : ∀ t : Fin grid0.N, (fun a => cc0_transform_1 (grid0.coords t) a) = ![t.val, 0] ∧ (fun a => cc0_transform_2 (grid0.coords t) a) = ![t.val, 0])

theorem point_coord (t : Fin grid0.N) : (grid0.coords t 0).val = t.val := by
  have h : (grid0.coords t 0).val = t.val / 1 % 64 := Pipeline.Grid.coords_val t 0 (by decide) rfl
  have := lt_points t
  omega

theorem iblk_x (t : Fin (cfgM m).N) (r : Fin 512) (q : Fin 2048) :
    iblk m 0 0 t (ix2 r q) = xOf m (ix3 ⟨(rowOf t r).val / 4096, by have := (rowOf t r).isLt; omega⟩ ⟨(rowOf t r).val % 4096, by omega⟩ q) := by
  have h := (index_rows m t).1
  have e : ((((cfgM m).win 0).blk t).view.emb (ix2 r q) : S32768x2048.Idx) = ix2 (rowOf t r) q := by
    refine eq_ix2_of ?_ ?_
    · exact coord_of (congrFun h (0 : Fin 2)) (by show t.val * 512 + r.val = 512 * t.val + r.val; omega)
    · exact coord_of (congrFun h (1 : Fin 2)) (by show 0 * 2048 + q.val = q.val; omega)
  refine (congrArg (V m 0 main_v0 : S32768x2048.Idx → F .f32) e).trans ((congrFun (V_x m 0) _).trans ?_)
  simp only [pointwise]

/-- The gathered tile, read at an element. -/
theorem gathered_apply (p : S32768.Idx → BitVec 32) (hT : ∀ j, (p j).toNat < 45056) (Y : S45056x2048.Idx → F .f32) (t : Fin grid0.N) (r : Fin 512) (q : Fin 2048) :
    gathered p hT Y (grid0.coords t) (ix2 r q) = Y (ix2 ⟨(p (ix1 (rowOf t r))).toNat, hT _⟩ q) := by
  have e : wordIdx (grid0.coords t) r = ix1 (rowOf t r) := by
    funext a
    obtain rfl : a = (0 : Fin 1) := Subsingleton.elim (α := Fin 1) _ _
    refine Fin.ext ?_
    show 512 * (grid0.coords t 0).val + r.val = 512 * t.val + r.val
    rw [point_coord]
  refine congrArg Y (congrArg₂ ix2 (Fin.ext ?_) rfl)
  show (p (wordIdx (grid0.coords t) r)).toNat = _
  rw [e]

/-- Where an element of a point's output block lies in the array. -/
theorem emb_out (t : Fin (cfgM m).N) (r : Fin 512) (q : Fin 2048) : ((((cfgM m).win 1).blk t).view.emb (ix2 r q) : S32768x2048.Idx) = ix2 (rowOf t r) q := by
  have h := (index_rows m t).2
  refine eq_ix2_of ?_ ?_
  · exact coord_of (congrFun h (0 : Fin 2)) (by show t.val * 512 + r.val = 512 * t.val + r.val; omega)
  · exact coord_of (congrFun h (1 : Fin 2)) (by show 0 * 2048 + q.val = q.val; omega)

/-- What a point leaves in the output buffer, at an index of the block. -/
theorem block_value (hT : Placed m) (t : Fin (cfgM m).N) (y : S512x2048.Idx) :
    outTile m hT 0 t y = out (places m) (yOf m) (xOf m) hT ((((cfgM m).win 1).blk t).view.emb y : S32768x2048.Idx) := by
  obtain ⟨r, q, rfl⟩ : ∃ (r : Fin 512) (q : Fin 2048), y = ix2 r q := ⟨y 0, y 1, eq_ix2 y⟩
  refine Eq.trans ?_ (congrArg (out (places m) (yOf m) (xOf m) hT) (emb_out m t r q)).symm
  unfold outTile
  refine (pay_apply _ _ _).trans ?_
  refine congrArg₂ FloatOps.addf (iblk_x m t r q) ?_
  refine (gathered_apply (places m) hT (ysAt m 0) t r q).trans ?_
  exact congrFun (ys_eq m) _

/-- A table of zeros: no block index of the call reads the table. -/
abbrev zeroTables : (pcfg0 (F := Ideal)).Adm := ⟨fun | 0 => fun _ => 0#32, trivial⟩

/-- Every element of the array is in some point's block. -/
theorem covers_out : ((cfgM m).win 1).Covers :=
  (by decide +kernel : ((cfg0 (F := Ideal) zeroTables).win 1).Covers)

/-- The call's array after the run. -/
theorem array_value (hT : Placed m) : (dats m hT 0 0).arrAt 1 (cfgM m).N = out (places m) (yOf m) (xOf m) hT :=
  Pipeline.Dat.arrAt_eq_of_covers (dats m hT 0 0) 1 _ (covers_out m)
    fun t _ y => (congrFun (after_1 m hT 0 t) y).trans (block_value m hT t y)

/-! ## The reference -/

namespace Ref

open Cert.CollectReferenceIdeal.Read

/-- A row of the gather: the operand's row at the start index, clamped to the operand. -/
theorem gather_rows {α : Type} (x : S45056x2048.Idx → α) (idx : IVec Cert.CollectReferenceIdeal.S32768x1 32) (R : Fin 32768) (q : Fin 2048) :
    Host.gather Cert.CollectReferenceIdeal.gather_S45056x2048_S32768x1_S32768x2048_1_0_n_n_0_1_12048 x idx (ix2 R q)
      = x (ix2 ⟨min (idx (ix2 R (0 : Fin 1))).toInt.toNat 45055, by omega⟩ q) := by
  unfold Host.gather
  refine congrArg x (eq_ix2_of ?_ ?_)
  · show Cert.CollectReferenceIdeal.gather_S45056x2048_S32768x1_S32768x2048_1_0_n_n_0_1_12048.start (ix2 R q) idx 0
      + Cert.CollectReferenceIdeal.gather_S45056x2048_S32768x1_S32768x2048_1_0_n_n_0_1_12048.batchCoord (ix2 R q) 0
      + Cert.CollectReferenceIdeal.gather_S45056x2048_S32768x1_S32768x2048_1_0_n_n_0_1_12048.offCoord (ix2 R q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.CollectReferenceIdeal.gather_S45056x2048_S32768x1_S32768x2048_1_0_n_n_0_1_12048.startIndexMap from List.mem_singleton.mpr rfl)]
    refine congrArg (fun k => min (idx k).toInt.toNat 45055) ?_
    refine eq_ix2_of ?_ ?_
    · rfl
    · rfl
  · show Cert.CollectReferenceIdeal.gather_S45056x2048_S32768x1_S32768x2048_1_0_n_n_0_1_12048.start (ix2 R q) idx 1
      + Cert.CollectReferenceIdeal.gather_S45056x2048_S32768x1_S32768x2048_1_0_n_n_0_1_12048.batchCoord (ix2 R q) 1
      + Cert.CollectReferenceIdeal.gather_S45056x2048_S32768x1_S32768x2048_1_0_n_n_0_1_12048.offCoord (ix2 R q) 1 = _
    rw [GatherDims.batchCoord_eq_zero _ _ _ List.not_mem_nil]
    unfold GatherDims.start
    rw [dif_neg (by decide)]
    simp only [Nat.zero_add]
    rfl

/-- A word that names a row stays as it is: it is not negative. -/
theorem wrap (p : S32768.Idx → BitVec 32) (hT : ∀ j, (p j).toNat < 45056) (i : S32768.Idx) : val_main_v5 (F := F) p i = p i := by
  have h := hT i
  rw [val_main_v5_apply, val_main_v2_apply, val_main_v1_apply, val_main_c_apply]
  have e : IntOp.cmpi .slt (p i) 0#32 = 0#1 := by
    show BitVec.ofBool (BitVec.slt (p i) 0#32) = 0#1
    have : BitVec.slt (p i) 0#32 = false := by
      simp only [BitVec.slt, BitVec.toInt, BitVec.toNat_ofNat, decide_eq_false_iff_not]
      omega
    rw [this]; rfl
  rw [e]
  rfl

/-- The reference computes the same function. -/
theorem value (p : S32768.Idx → BitVec 32) (y : S45056x2048.Idx → F .f32) (x : S8x4096x2048.Idx → F .f32) (hT : ∀ j, (p j).toNat < 45056) :
    val_main_v8 (F := F) p y x = out p y x hT := by
  funext j
  obtain ⟨R, q, rfl⟩ : ∃ (R : Fin 32768) (q : Fin 2048), j = ix2 R q := ⟨j 0, j 1, eq_ix2 j⟩
  show _ = outAt p y x hT R q
  rw [val_main_v8_apply]
  unfold outAt
  refine congrArg₂ FloatOps.addf ?_ ?_
  · simp only [pointwise, val_main_v0]
  · unfold val_main_v7
    refine (gather_rows y _ R q).trans (congrArg y (congrArg₂ ix2 (Fin.ext ?_) rfl))
    have e : val_main_v6 (F := F) p (ix2 R (0 : Fin 1)) = p (ix1 R) := by
      rw [val_main_v6_apply, wrap p hT]
      refine congrArg p ?_
      funext a
      obtain rfl : a = (0 : Fin 1) := Subsingleton.elim (α := Fin 1) _ _
      rfl
    show min (val_main_v6 (F := F) p (ix2 R (0 : Fin 1))).toInt.toNat 45055 = (p (ix1 R)).toNat
    rw [e]
    have h := hT (ix1 R)
    have ht : (p (ix1 R)).toInt = ((p (ix1 R)).toNat : ℤ) := by
      rw [BitVec.toInt, if_pos (by omega)]
    rw [ht, Int.toNat_natCast]
    omega

end Ref

end Cert.Collecting

end
-- ==== Proof.Collecting.Claims.lean ====
/- The claims of the collecting call: the frames of its programs, and that kernel and reference agree, over the extended
   reals and bit for bit. -/
module

public import proofs.«01_k».proof.Proof.Ffn.Same
public import proofs.«01_k».proof.Proof.Collecting.Value
public import proofs.«01_k».proof.Proof.Gen.Collect
public import proofs.«01_k».proof.Proof.Gen.CollectReferenceIdeal
public import proofs.«01_k».proof.Proof.Gen.CollectReference

@[expose] public section

noncomputable section

namespace Cert.Collecting

open Idealize.ShloMosaic Idealize.SL.Sem

section Same
variable {F : FTy → Type} [FloatOps F]

/-- The two readings of the kernel run the same body. -/
theorem bodies_eq : (Cert.Collect.defs₀ (F := F)) = (Cert.CollectIdeal.defs₀ (F := F)) := by
  unfold Cert.Collect.defs₀ Cert.CollectIdeal.defs₀
  refine congrArg Defs.onTc ?_
  funext l a
  match l, a with
  | ⟨0, _⟩, (t, s) => rfl

theorem defs_eq : (Cert.Collect.defs (F := F)) = (Cert.CollectIdeal.defs (F := F)) :=
  congrArg (Pipeline.defs (Cert.Collect.pcfgs (F := F))) bodies_eq

/-- The two readings of the kernel run the same host program. -/
theorem main_eq : (Cert.Collect.main (F := F)) = (Cert.CollectIdeal.main (F := F)) := by
  delta Cert.Collect.main Cert.CollectIdeal.main
  with_unfolding_all rfl

/-- So do the two readings of the reference. -/
theorem ref_defs_eq : (Cert.CollectReference.defs (F := F)) = (Cert.CollectReferenceIdeal.defs (F := F)) := by
  delta Cert.CollectReference.defs Cert.CollectReferenceIdeal.defs
  with_unfolding_all rfl

theorem ref_main_eq : (Cert.CollectReference.main (F := F)) = (Cert.CollectReferenceIdeal.main (F := F)) := by
  delta Cert.CollectReference.main Cert.CollectReferenceIdeal.main
  with_unfolding_all rfl

end Same

theorem frame_kernel : Cert.quiescent_Collect := fun m ρ h =>
  Cert.Ffn.run_eq defs_eq main_eq (frame (F := Bits) m ρ (placed_of_lt m (lt_of_placed (h 0))))

theorem frame_ideal : Cert.quiescent_CollectIdeal := fun m ρ h => frame m ρ (placed_of_lt m (lt_of_placed (h 0)))

theorem frame_reference : Cert.quiescent_CollectReferenceIdeal := fun m ρ _ =>
  (θ_run Cert.CollectReferenceIdeal.defs _ _).mono (fun r h => ⟨fun c => (h c).2, sem_eq_zero_of_no_sems (by decide) r.2⟩)
    (Cert.CollectReferenceIdeal.Value.run m ρ)

theorem frame_reference_bits : Cert.quiescent_CollectReference := fun m ρ _ =>
  Cert.Ffn.run_eq ref_defs_eq ref_main_eq
    ((θ_run Cert.CollectReferenceIdeal.defs _ _).mono (fun r h => ⟨fun c => (h c).2, sem_eq_zero_of_no_sems (by decide) r.2⟩)
      (Cert.CollectReferenceIdeal.Value.run (F := Bits) m ρ))

section Values
variable {F : FTy → Type} [FloatOps F]
variable (m : (ℓ : Loc Cert.CollectIdeal.nD Cert.CollectIdeal.τ Cert.CollectIdeal.sig) → Buf (Elt F) ℓ) (g : Dev Cert.CollectIdeal.nD → PrngReg)
  (m' : (ℓ : Loc Cert.CollectReferenceIdeal.nD Cert.CollectReferenceIdeal.τ Cert.CollectReferenceIdeal.sig) → Buf (Elt F) ℓ) (g' : Dev Cert.CollectReferenceIdeal.nD → PrngReg)

/-- The kernel leaves the sum in its result, over any values. -/
theorem kernel_value (hT : Placed m) :
    θ_run (Cert.CollectIdeal.defs (F := F)) (onTc (τ := Cert.CollectIdeal.τ) (Cert.CollectIdeal.main (F := F))) ⟨m, fun _ => 0, g⟩ (fun r => ∀ c : Dev Cert.CollectIdeal.nD,
      r.2.mem ((c.tc : Thread Cert.CollectIdeal.nD Cert.CollectIdeal.τ).loc Cert.CollectIdeal.main_v1) = out (places m) (yOf m) (xOf m) hT
      ∧ r.2.mem ((c.tc : Thread Cert.CollectIdeal.nD Cert.CollectIdeal.τ).loc Cert.CollectIdeal.main_arg0) = m ((c.tc : Thread Cert.CollectIdeal.nD Cert.CollectIdeal.τ).loc Cert.CollectIdeal.main_arg0)
      ∧ r.2.mem ((c.tc : Thread Cert.CollectIdeal.nD Cert.CollectIdeal.τ).loc Cert.CollectIdeal.main_arg1) = m ((c.tc : Thread Cert.CollectIdeal.nD Cert.CollectIdeal.τ).loc Cert.CollectIdeal.main_arg1)
      ∧ r.2.mem ((c.tc : Thread Cert.CollectIdeal.nD Cert.CollectIdeal.τ).loc Cert.CollectIdeal.main_arg2) = m ((c.tc : Thread Cert.CollectIdeal.nD Cert.CollectIdeal.τ).loc Cert.CollectIdeal.main_arg2)) := by
  refine (θ_run Cert.CollectIdeal.defs _ _).mono (fun r hr c => ?_) (run_quiescent m g hT)
  obtain rfl : c = 0 := Subsingleton.elim c 0
  exact ⟨((hr.1 0).1 1).trans (array_value m hT), args_of_post m hT hr.1 0⟩

/-- So does the reference. -/
theorem reference_value (hT : Placed m)
    (e0 : m' (((0 : Dev Cert.CollectReferenceIdeal.nD).tc : Thread Cert.CollectReferenceIdeal.nD Cert.CollectReferenceIdeal.τ).loc Cert.CollectReferenceIdeal.main_arg0) = (places m : Cert.CollectIdeal.S32768.Idx → BitVec 32))
    (e1 : m' (((0 : Dev Cert.CollectReferenceIdeal.nD).tc : Thread Cert.CollectReferenceIdeal.nD Cert.CollectReferenceIdeal.τ).loc Cert.CollectReferenceIdeal.main_arg1) = yOf m)
    (e2 : m' (((0 : Dev Cert.CollectReferenceIdeal.nD).tc : Thread Cert.CollectReferenceIdeal.nD Cert.CollectReferenceIdeal.τ).loc Cert.CollectReferenceIdeal.main_arg2) = xOf m) :
    θ_run (Cert.CollectReferenceIdeal.defs (F := F)) (onTc (τ := Cert.CollectReferenceIdeal.τ) (Cert.CollectReferenceIdeal.main (F := F))) ⟨m', fun _ => 0, g'⟩ (fun r => ∀ c : Dev Cert.CollectReferenceIdeal.nD,
      r.2.mem ((c.tc : Thread Cert.CollectReferenceIdeal.nD Cert.CollectReferenceIdeal.τ).loc Cert.CollectReferenceIdeal.main_v8) = out (places m) (yOf m) (xOf m) hT
      ∧ r.2.mem ((c.tc : Thread Cert.CollectReferenceIdeal.nD Cert.CollectReferenceIdeal.τ).loc Cert.CollectReferenceIdeal.main_arg0) = m' ((c.tc : Thread Cert.CollectReferenceIdeal.nD Cert.CollectReferenceIdeal.τ).loc Cert.CollectReferenceIdeal.main_arg0)
      ∧ r.2.mem ((c.tc : Thread Cert.CollectReferenceIdeal.nD Cert.CollectReferenceIdeal.τ).loc Cert.CollectReferenceIdeal.main_arg1) = m' ((c.tc : Thread Cert.CollectReferenceIdeal.nD Cert.CollectReferenceIdeal.τ).loc Cert.CollectReferenceIdeal.main_arg1)
      ∧ r.2.mem ((c.tc : Thread Cert.CollectReferenceIdeal.nD Cert.CollectReferenceIdeal.τ).loc Cert.CollectReferenceIdeal.main_arg2) = m' ((c.tc : Thread Cert.CollectReferenceIdeal.nD Cert.CollectReferenceIdeal.τ).loc Cert.CollectReferenceIdeal.main_arg2)) := by
  refine (θ_run Cert.CollectReferenceIdeal.defs _ _).mono (fun r hr c => ⟨(hr c).1.trans ?_, (hr c).2⟩) (Cert.CollectReferenceIdeal.Value.run m' g')
  obtain rfl : c = 0 := Subsingleton.elim c 0
  refine (Cert.CollectReferenceIdeal.Read.val_main_v8_eq _ _ _).trans ?_
  have key : ∀ (p : Cert.CollectIdeal.S32768.Idx → BitVec 32) (y : Cert.CollectIdeal.S45056x2048.Idx → F .f32) (x : Cert.CollectIdeal.S8x4096x2048.Idx → F .f32),
      p = places m → y = yOf m → x = xOf m →
      Cert.CollectReferenceIdeal.Read.val_main_v8 (F := F) p y x = out (places m) (yOf m) (xOf m) hT := by
    intro p y x h0 h1 h2
    subst h0 h1 h2
    exact Ref.value _ _ _ hT
  exact key _ _ _ e0 e1 e2

end Values

/-- Kernel and reference compute the same function over the extended reals. -/
theorem algebraic : Cert.algebraic_CollectIdeal_CollectReferenceIdeal := by
  intro m g m' g' h hargs
  have hT : Placed m := placed_of_lt m (lt_of_placed (h 0))
  obtain ⟨e0, e1, e2⟩ := hargs 0
  exact ⟨fun _ => out (places m) (yOf m) (xOf m) hT, kernel_value m g hT, reference_value m m' g' hT (e0.trans (places_eq m).symm) e1 e2⟩

/-- Kernel and reference compute the same bits. -/
theorem bitexact : Cert.bitexact_Collect_CollectReference := by
  intro m g m' g' h hargs
  have hT : Placed (F := Bits) m := placed_of_lt (F := Bits) m (lt_of_placed (h 0))
  obtain ⟨e0, e1, e2⟩ := hargs 0
  exact ⟨fun _ => out (places (F := Bits) m) (yOf (F := Bits) m) (xOf (F := Bits) m) hT, Cert.Ffn.run_eq defs_eq main_eq (kernel_value (F := Bits) m g hT),
    Cert.Ffn.run_eq ref_defs_eq ref_main_eq (reference_value (F := Bits) m m' g' hT (e0.trans (places_eq (F := Bits) m).symm) e1 e2)⟩

end Cert.Collecting

end
-- ==== Proof.Dispatching.Body.lean ====
/- The kernel body of the dispatching call at one grid point.

   At a point the body copies the 512 rows of its tile into the sorted array, each to the row that a word of the table
   names; all copies signal one semaphore.  It then waits for the 512 of them.  The copies are one batch (`half_wp`: one
   copy; `fill_step`: a trip of the first loop; `drain_step`: of the second; `loops_wp`: both loops), whatever lets a
   copy write its row (`Writes`).  The body has two triples.  `body_wp`: no two words of the table name the same row, so
   each copy owns the row it writes, and what the result holds afterwards is known.  `body_any_wp`: words may name the
   same row; the result then lies in an invariant that every copy opens to write, and some contents come back. -/
module

public import proofs.«01_k».proof.Proof.Gen.DispatchIdeal.Launch
public import proofs.«01_k».proof.Proof.Gen.DispatchIdeal.Skeleton
public import proofs.«01_k».proof.Proof.Common.Index
public import Idealize.ShloMosaic.Lib.Pipeline.FrameBody
public import Idealize.ShloMosaic.Lib.Pipeline.ValueKit.Basic
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Dispatching

open Cert.DispatchIdeal Cert.DispatchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The table, the result (which the body is handed twice, as the array it starts from and as the one it writes) and the
    semaphore. -/
abbrev tabM : Memref sig .tc .smem S32768 .i32 := Memref.whole main_arg0
abbrev outM : Memref sig .tc .hbm S45056x2304 .f32 := Memref.whole main_v1
abbrev sems : DmaSems sig S_ := cc0_scratch0
abbrev cell : SemLoc sig := .dma sems.sem

/-! ## Rows -/

theorem point_lt (i : grid0.Coords) : (i 0).val < 64 := (i 0).isLt

/-- The word of the table that row `r` of a point's tile reads. -/
def wordIdx (i : grid0.Coords) (r : Fin 512) : S32768.Idx :=
  fun a => ⟨512 * (i 0).val + r.val, by
    obtain rfl : a = (0 : Fin 1) := Subsingleton.elim (α := Fin 1) _ _
    have := point_lt i; have := r.isLt; show 512 * (i 0).val + r.val < 32768; omega⟩

/-- The row of the result that row `r` of a point's tile goes to. -/
abbrev rowOf (T : S32768.Idx → BitVec 32) (i : grid0.Coords) (r : Fin 512) : ℕ := (T (wordIdx i r)).toNat

theorem wordIdx_inj (i : grid0.Coords) {r r' : Fin 512} (h : wordIdx i r = wordIdx i r') : r = r' := by
  have e := congrArg Fin.val (congrFun h (0 : Fin 1))
  change 512 * (i 0).val + r.val = 512 * (i 0).val + r'.val at e
  exact Fin.ext (by omega)

open Classical in
/-- The result `f` once every copy of a point has arrived: a row that a word names holds the tile's row. -/
def scattered {α : Type} (T : S32768.Idx → BitVec 32) (X : S512x2304.Idx → α) (f : S45056x2304.Idx → α) (i : grid0.Coords) (y : S45056x2304.Idx) : α :=
  if h : ∃ r : Fin 512, rowOf T i r = (y 0).val then X (ix2 (Classical.choose h) (y 1)) else f y

theorem scattered_hit {α : Type} (T : S32768.Idx → BitVec 32) (hD : Function.Injective fun j => (T j).toNat) (X : S512x2304.Idx → α) (f : S45056x2304.Idx → α)
    (i : grid0.Coords) (y : S45056x2304.Idx) (r : Fin 512) (h : rowOf T i r = (y 0).val) : scattered T X f i y = X (ix2 r (y 1)) := by
  have h' : ∃ r : Fin 512, rowOf T i r = (y 0).val := ⟨r, h⟩
  unfold scattered
  rw [dif_pos h']
  have e : Classical.choose h' = r := wordIdx_inj i (hD ((Classical.choose_spec h').trans h.symm))
  rw [e]

theorem scattered_miss {α : Type} (T : S32768.Idx → BitVec 32) (X : S512x2304.Idx → α) (f : S45056x2304.Idx → α)
    (i : grid0.Coords) (y : S45056x2304.Idx) (h : ∀ r : Fin 512, rowOf T i r ≠ (y 0).val) : scattered T X f i y = f y := by
  unfold scattered
  exact dif_neg fun ⟨r, hr⟩ => h r hr

theorem src_inb (r : Fin 512) : ∀ a, (![r.val, 0] : Fin 2 → Nat) a + S1x2304.size a ≤ S512x2304.size a := by
  have := r.isLt; intro a; fin_cases a
  · show r.val + 1 ≤ 512; omega
  · show 0 + 2304 ≤ 2304; omega

theorem dst_inb {n : ℕ} (h : n < 45056) : ∀ a, (![n, 0] : Fin 2 → Nat) a + S1x2304.size a ≤ S45056x2304.size a := by
  intro a; fin_cases a
  · show n + 1 ≤ 45056; omega
  · show 0 + 2304 ≤ 2304; omega

/-- Row `r` of a tile, and row `n` of the result. -/
abbrev srcRow (arg2 : Memref sig .tc .vmem S512x2304 .f32) (r : Fin 512) : Memref sig .tc .vmem S1x2304 .f32 :=
  arg2.slice (Rect.unit (s := S512x2304) ![r.val, 0] S1x2304.size (src_inb r)) (fun _ => rfl)
abbrev dstRow (n : ℕ) (h : n < 45056) : Memref sig .tc .hbm S1x2304 .f32 := outM.slice (Rect.unit (s := S45056x2304) ![n, 0] S1x2304.size (dst_inb h)) (fun _ => rfl)

/-- The elements of a row of the result. -/
abbrev dstSet (n : ℕ) (h : n < 45056) : Finset S45056x2304.Idx := (Rect.unit (s := S45056x2304) ![n, 0] S1x2304.size (dst_inb h)).set

theorem dstRow_set (n : ℕ) (h : n < 45056) : (dstRow n h).view.set = dstSet n h := by unfold dstRow; exact View.set_slice_whole _ _

theorem mem_dstSet (n : ℕ) (h : n < 45056) (y : S45056x2304.Idx) : y ∈ dstSet n h ↔ (y 0).val = n := by
  rw [Rect.mem_set_unit]
  have h1 : (y 1).val < 2304 := (y 1).isLt
  constructor
  · intro H; have a0 : n ≤ (y 0).val ∧ (y 0).val < n + 1 := H 0; omega
  · intro H a; fin_cases a
    · show n ≤ (y 0).val ∧ (y 0).val < n + 1; omega
    · show 0 ≤ (y 1).val ∧ (y 1).val < 0 + 2304; omega

/-! ## The batch -/

section Batch

variable (c : Dev nD) (T : S32768.Idx → BitVec 32) (hT : ∀ j, (T j).toNat < 45056) (hD : Function.Injective fun j => (T j).toNat)
  (arg2 : Memref sig .tc .vmem S512x2304 .f32) (g : Buf (Elt F) (arg2.view.loc (c : Thread nD τ)))
  (f : S45056x2304.Idx → Elt F .f32) (i : grid0.Coords)

/-- What the tile's buffer holds, read as the tile. -/
abbrev tile : S512x2304.Idx → Elt F .f32 := arg2.view.read (Elt F) g

/-- The half of the table the body holds. -/
abbrev tabPt : sProp 𝕄 := tabM.view.loc (c : Thread nD τ) ↦{fullShare.right} T
/-- The row of the result that row `r` goes to, at given contents. -/
abbrev dstPt (h : S45056x2304.Idx → Elt F .f32) (r : Fin 512) : sProp 𝕄 :=
  (dstRow (rowOf T i r) (hT _)).view.loc (c : Thread nD τ) ↦[(dstRow (rowOf T i r) (hT _)).view.set]{fullShare} h
/-- A share of row `r` of the tile. -/
abbrev srcPt (r : Fin 512) : sProp 𝕄 :=
  (srcRow arg2 r).view.loc (c : Thread nD τ) ↦[(srcRow arg2 r).view.set]{Transfers.shareTokN fullShare r.val} g
/-- `W r`, beside the share of row `r` of the tile: what the copy of row `r` needs, or what it delivers. -/
def beside (W : Fin 512 → sProp 𝕄) (r : Fin 512) : sProp 𝕄 := iprop(W r ∗ srcPt c arg2 g r)

theorem beside_all (W : Fin 512 → sProp 𝕄) :
    bigSep Finset.univ (beside c arg2 g W) = iprop(bigSep Finset.univ W ∗ bigSep Finset.univ (srcPt c arg2 g)) :=
  BI.bigSep_sep Finset.univ W (srcPt c arg2 g)

instance beside_storable (W : Fin 512 → sProp 𝕄) [∀ r, BI.Storable (upEmb : UEmb _ 𝕄) (W r)] (r : Fin 512) :
    BI.Storable (upEmb : UEmb _ 𝕄) (beside c arg2 g W r) := by
  unfold beside; infer_instance

/-- `W r` lets the copy of row `r` write the row it is to write, and the copy leaves `W' r`. -/
abbrev Writes (W W' : Fin 512 → sProp 𝕄) : Prop := ∀ r : Fin 512,
  W r ⊢ writeUpdate (c : Thread nD τ) (dstRow (rowOf T i r) (hT _)).view (ReadAs.same.apply ((srcRow arg2 r).view.read (Elt F) g)) (W' r)

/-- One row's credit. -/
abbrev rowCredit : ℕ := (dstRow 0 (by decide)).view.dmaCredit

theorem rowCredit_pos : 0 < rowCredit := by decide

theorem row_credit (n : ℕ) (h : n < 45056) : (dstRow n h).view.amount cell = rowCredit := rfl

/-- The batch with `j` copies issued and `u` units taken. -/
abbrev batch (W' : Fin 512 → sProp 𝕄) (j u : ℕ) : sProp 𝕄 :=
  Transfers.Batch (countersEmb (U := UD sig nD τ)) (c : Thread nD τ) cell () rowCredit (beside c arg2 g W') j u

/-- The word a unit rectangle of the table reads. -/
theorem word_read (r : Fin 512) {off : Fin 1 → ℕ} (h : off = ![512 * (i 0).val + r.val]) (inb : ∀ a, off a + S1.size a ≤ S32768.size a) (x : S1.Idx) :
    (tabM.access (Rect.unit (s := S32768) off S1.size inb)).read (Elt F) T x = T (wordIdx i r) := by
  subst h
  refine congrArg T (funext fun a => Fin.ext ?_)
  obtain rfl : a = (0 : Fin 1) := Subsingleton.elim (α := Fin 1) _ _
  have h0 : (x 0).val = 0 := by have : (x 0).val < 1 := (x 0).isLt; omega
  show 512 * (i 0).val + r.val + 1 * (x 0).val = 512 * (i 0).val + r.val
  omega

/-- One copy, as the body issues it: a word of the table read, its condition met, a row of the tile sent to a row of the
    result. -/
abbrev copyProg (off1 : Fin 1 → ℕ) (inb1 : ∀ a, off1 a + S1.size a ≤ S32768.size a)
    (off2 : Fin 2 → ℕ) (inb2 : ∀ a, off2 a + S1x2304.size a ≤ S512x2304.size a) (P : BitVec 32 → Prop) (dec : ∀ v, Decidable (P v))
    (inb3 : ∀ v, P v → ∀ a, (![v.toNat, 0] : Fin 2 → Nat) a + S1x2304.size a ≤ S45056x2304.size a)
    (k : PUnit → Prog (TpuEff nD τ sig (Elt F) Λ₀ .tc) PUnit) : Prog (TpuEff nD τ sig (Elt F) Λ₀ .tc) PUnit :=
  smemLoadElt tabM (Rect.unit (s := S32768) off1 S1.size inb1) (View.loads_smem_one rfl numel1_S1) (Shape.Idx.first (numel1_S1.symm ▸ Nat.one_pos)) fun v =>
    .op (.assume (P v) (dec v)) fun h =>
      .op (.enqueueDmaAs (arg2.slice (Rect.unit (s := S512x2304) off2 S1x2304.size inb2) (fun _ => rfl))
        (.here (outM.slice (Rect.unit (s := S45056x2304) ![v.toNat, 0] S1x2304.size (inb3 v h.down)) (fun _ => rfl))) .same (.dma sems.sem) (View.wordExact_bits rfl) (View.wordExact_bits rfl) ⟨Or.inl rfl, trivial⟩) k

/-- One copy: the word read, its condition met, the copy issued as number `r` of the batch. -/
theorem half_wp {W W' : Fin 512 → sProp 𝕄} [∀ r, BI.Storable (upEmb : UEmb _ 𝕄) (W' r)] (hW : Writes c T hT arg2 g i W W') (r : Fin 512) {off1 : Fin 1 → ℕ} (h1 : off1 = ![512 * (i 0).val + r.val]) (inb1 : ∀ a, off1 a + S1.size a ≤ S32768.size a)
    {off2 : Fin 2 → ℕ} (h2 : off2 = ![r.val, 0]) (inb2 : ∀ a, off2 a + S1x2304.size a ≤ S512x2304.size a)
    (P : BitVec 32 → Prop) (dec : ∀ v, Decidable (P v)) (hP : ∀ v, v.toNat < 45056 → P v)
    (inb3 : ∀ v, P v → ∀ a, (![v.toNat, 0] : Fin 2 → Nat) a + S1x2304.size a ≤ S45056x2304.size a)
    (k : PUnit → Prog (TpuEff nD τ sig (Elt F) Λ₀ .tc) PUnit) (Q : PUnit → sProp 𝕄) :
    iprop(tabPt c T ∗ batch c arg2 g W' r.val 0 ∗ beside c arg2 g W r
        ∗ (iprop(tabPt c T ∗ batch c arg2 g W' (r.val + 1) 0) -∗ wp frame (wpE (defs₀ (F := F)) Variants.none c none) Set.univ (k ⟨⟩) Q))
      ⊢ wp frame (wpE (defs₀ (F := F)) Variants.none c none) Set.univ
          (copyProg arg2 off1 inb1 off2 inb2 P dec inb3 k) Q := by
  subst h2
  iintro ⟨HT, HB, HN, Hk⟩
  iapply (wp_smemLoadElt Variants.none (c : Thread nD τ) none Set.univ (m := tabM) (r := Rect.unit (s := S32768) off1 S1.size inb1) (Finset.subset_univ _)) $$ HT
  iintro HT
  rw [word_read T i r h1 inb1]
  iapply (wp_assume Variants.none (c : Thread nD τ) none Set.univ (hP _ (hT (wordIdx i r))))
  unfold batch Transfers.Batch
  icases HB with ⟨%γ, %γ₀, %κ, #Hinv, HI, H0, Hcred⟩
  ihave HI := (Entails.of_eq (Transfers.bigSep_pending_step (fun t => count (countersEmb (U := UD sig nD τ)) (γ t) 0) r.val r.isLt)) $$ HI
  icases HI with ⟨Ht, HI⟩
  ihave HN := (show beside c arg2 g W r ⊢ iprop(W r ∗ srcPt c arg2 g r) from .rfl) $$ HN
  icases HN with ⟨HD, HS⟩
  iapply (wp_enqueueDmaAs Variants.none (c : Thread nD τ) none Set.univ (src := srcRow arg2 r) (dst := dstRow (rowOf T i r) (hT _)) (via := .same)
    () rowCredit (row_credit _ _)) $$ [HS HD] [Ht]
  · isplitl [HS]; · iexact HS
    iapply (hW r); iexact HD
  · iapply (Transfers.batch_creditUpdate (countersEmb (U := UD sig nD τ)) (⟨r.val, r.isLt⟩ : Fin 512) (D := beside c arg2 g W') .rfl)
    isplitr; · iexact Hinv
    iexact Ht
  iintro Hcred'
  iapply Hk
  isplitl [HT]; · iexact HT
  iexists γ, γ₀, κ
  isplitr; · iexact Hinv
  isplitl [HI]; · iexact HI
  isplitl [H0]; · iexact H0
  rw [show (r.val + 1) * rowCredit - 0 = (r.val * rowCredit - 0) + rowCredit by rw [Nat.succ_mul]; omega, ← tallyAt_add]
  icombine Hcred Hcred' as H
  iexact H

/-! ## The first loop -/

variable (harg2 : arg2.IsWhole)

/-- A trip of the first loop. -/
abbrev fillBody : Fin k0_t1_loop.trips → Unit → Prog (TpuEff nD τ sig (Elt F) Λ₀ .tc) Unit :=
  k0_t1_body i tabM (Memref.isWhole_whole _) arg2 harg2 outM (Memref.isWhole_whole _) outM (Memref.isWhole_whole _) sems

theorem fill_trips : k0_t1_loop.trips = 256 := by decide

theorem chk_of (v : BitVec 32) (h : v.toNat < 45056) : ∀ a, (![v.toNat, 0] : Fin 2 → Nat) a + S1x2304.size a ≤ S45056x2304.size a := dst_inb h

/-- It is two copies. -/
theorem fillBody_eq (k : Fin k0_t1_loop.trips) (u : Unit) :
    (fillBody arg2 i harg2 k u : Prog (TpuEff nD τ sig (Elt F) Λ₀ .tc) Unit)
      = copyProg arg2 (k0_off1 i k) (k0_off1_inb i k) (k0_off3 k) (k0_off3_inb k) k0_chk1 k0_chk1.dec k0_off2_inb fun _ =>
          copyProg arg2 (k0_off4 i k) (k0_off4_inb i k) (k0_off6 k) (k0_off6_inb k) k0_chk2 k0_chk2.dec k0_off5_inb fun _ => .ret ⟨⟩ := rfl

/-- Before trip `k`: the first `2k` copies issued, what the others need still in hand. -/
def fillInv (W W' : Fin 512 → sProp 𝕄) (k : ℕ) (_ : Unit) : sProp 𝕄 :=
  iprop(tabPt c T ∗ batch c arg2 g W' (2 * k) 0 ∗ bigSep (Ring.rangeSet 512 (2 * k) 512) (beside c arg2 g W))

theorem fill_step {W W' : Fin 512 → sProp 𝕄} [∀ r, BI.Storable (upEmb : UEmb _ 𝕄) (W' r)] (hW : Writes c T hT arg2 g i W W') (k : Fin k0_t1_loop.trips) (u : Unit) :
    fillInv c T arg2 g W W' k.val u ⊢ wp frame (wpE (defs₀ (F := F)) Variants.none c none) Set.univ (fillBody arg2 i harg2 k u)
      (fillInv c T arg2 g W W' (k.val + 1)) := by
  have hk : k.val < 256 := Nat.lt_of_lt_of_eq k.isLt fill_trips
  rw [fillBody_eq]
  unfold fillInv
  rw [Ring.bigSep_rangeSet_head (Φ := beside c arg2 g W) (lo := 2 * k.val) (by omega) (by omega),
    Ring.bigSep_rangeSet_head (Φ := beside c arg2 g W) (lo := 2 * k.val + 1) (by omega) (by omega),
    show 2 * (k.val + 1) = 2 * k.val + 1 + 1 by omega]
  iintro ⟨HT, HB, HN0, HN1, HN⟩
  iapply (half_wp c T hT arg2 g i hW ⟨2 * k.val, by omega⟩ (k0_off1_eq i k) (k0_off1_inb i k) (k0_off3_eq k) (k0_off3_inb k) k0_chk1 k0_chk1.dec chk_of k0_off2_inb)
  isplitl [HT]; · iexact HT
  isplitl [HB]; · iexact HB
  isplitl [HN0]; · iexact HN0
  iintro ⟨HT, HB⟩
  iapply (half_wp c T hT arg2 g i hW ⟨2 * k.val + 1, by omega⟩ (by rw [k0_off4_eq]; rfl) (k0_off4_inb i k) (k0_off6_eq k) (k0_off6_inb k) k0_chk2 k0_chk2.dec chk_of k0_off5_inb)
  isplitl [HT]; · iexact HT
  isplitl [HB]; · iexact HB
  isplitl [HN1]; · iexact HN1
  iintro ⟨HT, HB⟩
  sl_step
  isplitl [HT]; · iexact HT
  isplitl [HB]; · iexact HB
  iexact HN

/-! ## The second loop -/

/-- A trip of the second loop. -/
abbrev drainBody : Fin k0_t2_loop.trips → Unit → Prog (TpuEff nD τ sig (Elt F) Λ₀ .tc) Unit :=
  k0_t2_body i tabM (Memref.isWhole_whole _) arg2 harg2 outM (Memref.isWhole_whole _) outM (Memref.isWhole_whole _) sems

theorem drain_trips : k0_t2_loop.trips = 512 := by decide

theorem drainBody_eq (k : Fin k0_t2_loop.trips) (u : Unit) :
    (drainBody arg2 i harg2 k u : Prog (TpuEff nD τ sig (Elt F) Λ₀ .tc) Unit)
      = .op (.waitDma2 sems.sem (arg2.slice (Rect.unit (s := S512x2304) ![0, 0] S1x2304.size inb_S512x2304_S1x2304_0_0) (fun _ => rfl))
          (outM.slice (Rect.unit (s := S45056x2304) ![0, 0] S1x2304.size inb_S45056x2304_S1x2304_0_0) (fun _ => rfl)) (View.wordExact_bits rfl) (View.wordExact_bits rfl)) fun _ => .ret ⟨⟩ := rfl

/-- Before trip `k`: `k` rows' units taken; after the last, the cell at zero and every delivery. -/
def drainInv (W' : Fin 512 → sProp 𝕄) (k : ℕ) (_ : Unit) : sProp 𝕄 :=
  iprop((∃ w, owes (c : Thread nD τ) 0 w)
    ∗ (if k < 512 then batch c arg2 g W' 512 (k * rowCredit)
       else iprop(semVal ((c : Thread nD τ), cell) 0 ∗ bigSep Finset.univ (beside c arg2 g W'))))

theorem taken_lt {C k : ℕ} (hC : 0 < C) (h : k + 1 < 512) : k * C + C < C * 512 := by
  rw [← Nat.succ_mul, Nat.mul_comm]; exact Nat.mul_lt_mul_of_pos_left h hC
theorem taken_all {C k : ℕ} (h : k + 1 = 512) : k * C + C = C * 512 := by
  rw [← Nat.succ_mul, Nat.mul_comm, Nat.succ_eq_add_one, h]

theorem drain_step {W' : Fin 512 → sProp 𝕄} [∀ r, BI.Storable (upEmb : UEmb _ 𝕄) (W' r)] (k : Fin k0_t2_loop.trips) (u : Unit) :
    drainInv c arg2 g W' k.val u ⊢ wp frame (wpE (defs₀ (F := F)) Variants.none c none) Set.univ (drainBody arg2 i harg2 k u)
      (drainInv c arg2 g W' (k.val + 1)) := by
  have hk : k.val < 512 := Nat.lt_of_lt_of_eq k.isLt drain_trips
  have hN : 0 < rowCredit := rowCredit_pos
  rw [drainBody_eq]
  unfold drainInv
  simp only [if_pos hk]
  rcases Nat.lt_or_ge (k.val + 1) 512 with h1 | h1
  · simp only [if_pos h1]
    iintro ⟨⟨%w, HO⟩, HB⟩
    iapply (Transfers.wp_waitBatch (countersEmb (U := UD sig nD τ)) Variants.none (c : Thread nD τ) none () rfl (D := beside c arg2 g W') (u := k.val * rowCredit) (taken_lt hN h1)) $$ [HB HO]
    · isplitl [HB] <;> iassumption
    iintro ⟨HB, HO⟩
    sl_step
    isplitl [HO]; · iexists _; iexact HO
    rw [Nat.succ_mul]
    iexact HB
  · simp only [if_neg (Nat.not_lt.mpr h1)]
    iintro ⟨⟨%w, HO⟩, HB⟩
    iapply (Transfers.wp_waitBatchLast (countersEmb (U := UD sig nD τ)) Variants.none (c : Thread nD τ) none () rfl hN (D := beside c arg2 g W') (u := k.val * rowCredit)
      (taken_all (by omega))) $$ [HB HO]
    · isplitl [HB] <;> iassumption
    iintro ⟨HD, Hv, HO⟩
    sl_step
    isplitl [HO]; · iexists _; iexact HO
    isplitl [Hv]; · iexact Hv
    iexact HD

/-! ## The result and the tile, whole and in rows -/

/-- The elements of the result that a point's copies write. -/
abbrev touched : Finset S45056x2304.Idx := Finset.univ.biUnion fun r : Fin 512 => dstSet (rowOf T i r) (hT _)

/-- The elements of the result that no copy of a point writes. -/
abbrev outRest (h : S45056x2304.Idx → Elt F .f32) : sProp 𝕄 :=
  outM.view.loc (c : Thread nD τ) ↦[Finset.univ \ touched T hT i]{fullShare} h

include hD in
/-- The result whole is the rows the copies write, and the rest. -/
theorem out_rows (h : S45056x2304.Idx → Elt F .f32) :
    (outM.view.loc (c : Thread nD τ) ↦{fullShare} h : sProp 𝕄) ⊣⊢ iprop(bigSep Finset.univ (dstPt c T hT i h) ∗ outRest c T hT i h) := by
  have e : (outM.view.loc (c : Thread nD τ) ↦[touched T hT i]{fullShare} h : sProp 𝕄) = bigSep Finset.univ (dstPt c T hT i h) := by
    refine (Ring.pointsTo_sub_blocks (ℓ := outM.view.loc (c : Thread nD τ)) (fun r : Fin 512 => dstSet (rowOf T i r) (hT _)) (fun r r' hne => ?_) (touched T hT i) rfl h).trans ?_
    · rw [Finset.disjoint_left]; intro y hy hy'; rw [mem_dstSet] at hy hy'
      exact hne (wordIdx_inj i (hD (hy.symm.trans hy')))
    · refine congrArg _ (funext fun r => ?_)
      unfold dstPt; rw [dstRow_set]
  have hs : (outM.view.loc (c : Thread nD τ) ↦{fullShare} h : sProp 𝕄) ⊣⊢ _ := pointsTo_split_subset (Finset.subset_univ (touched T hT i))
  rw [e] at hs
  exact hs

/-- What no copy writes is as it was. -/
theorem outRest_eq (X : S512x2304.Idx → Elt F .f32) : (outRest c T hT i f : sProp 𝕄) = outRest c T hT i (scattered T X f i) := by
  refine pointsTo_congr fun y hy => (scattered_miss T X f i y fun r hr => ?_).symm
  exact (Finset.mem_sdiff.mp hy).2 (Finset.mem_biUnion.mpr ⟨r, Finset.mem_univ _, (mem_dstSet _ _ _).mpr hr.symm⟩)

/-- What no copy takes of the tile: the share left after the 512 that the copies read under, and the other rows of each
    of those. -/
def srcRest : sProp 𝕄 :=
  iprop((arg2.view.loc (c : Thread nD τ) ↦{Transfers.shareDrop fullShare 512} g)
    ∗ bigSep Finset.univ fun r : Fin 512 =>
        arg2.view.loc (c : Thread nD τ) ↦[Finset.univ \ (srcRow arg2 r).view.set]{Transfers.shareTokN fullShare r.val} g)

/-- The tile whole is the rows the copies read, and the rest. -/
theorem tile_rows : (arg2.view.loc (c : Thread nD τ) ↦{fullShare} g : sProp 𝕄)
    ⊣⊢ iprop(bigSep Finset.univ (srcPt c arg2 g) ∗ srcRest c arg2 g) := by
  have e : (bigSep (Finset.range 512) (fun t => (arg2.view.loc (c : Thread nD τ) ↦{Transfers.shareTokN fullShare t} g : sProp 𝕄)))
      = iprop(bigSep Finset.univ (srcPt c arg2 g) ∗ bigSep Finset.univ fun r : Fin 512 =>
        (arg2.view.loc (c : Thread nD τ) ↦[Finset.univ \ (srcRow arg2 r).view.set]{Transfers.shareTokN fullShare r.val} g : sProp 𝕄)) := by
    refine (Ring.bigSep_fin_eq_range 512 (fun r : Fin 512 => (arg2.view.loc (c : Thread nD τ) ↦{Transfers.shareTokN fullShare r.val} g : sProp 𝕄)) _ (fun t h => rfl)).symm.trans ?_
    refine Eq.trans ?_ (BI.bigSep_sep _ _ _)
    refine congrArg _ (funext fun r => ?_)
    have h : (arg2.view.loc (c : Thread nD τ) ↦{Transfers.shareTokN fullShare r.val} g : sProp 𝕄) ⊣⊢ _ := pointsTo_split_subset (Finset.subset_univ (srcRow arg2 r).view.set)
    exact Entails.antisymm h.1 h.2
  have h : (arg2.view.loc (c : Thread nD τ) ↦{fullShare} g : sProp 𝕄) ⊣⊢ _ := Transfers.pointsTo_toks_range fullShare 512
  rw [e] at h
  unfold srcRest
  constructor
  · refine h.1.trans ?_
    iintro ⟨H1, H2, H3⟩
    isplitl [H2]; · iexact H2
    isplitl [H1]; · iexact H1
    iexact H3
  · refine BIBase.Entails.trans ?_ h.2
    iintro ⟨H2, H1, H3⟩
    isplitl [H1]; · iexact H1
    isplitl [H2]; · iexact H2
    iexact H3

/-! ## The body -/

/-- The body, as the skeleton has it. -/
abbrev bodyProg : Prog (TpuEff nD τ sig (Elt F) Λ₀ .tc) PUnit :=
  cc0_moe_dispatch i tabM (Memref.isWhole_whole _) arg2 harg2 outM (Memref.isWhole_whole _) outM (Memref.isWhole_whole _) sems

set_option maxHeartbeats 4000000 in
/-- Both loops: what every copy needs goes in, and what every copy leaves comes out. -/
theorem loops_wp {W W' : Fin 512 → sProp 𝕄} [∀ r, BI.Storable (upEmb : UEmb _ 𝕄) (W' r)] (hW : Writes c T hT arg2 g i W W') (K : PUnit → sProp 𝕄) :
    iprop((arg2.view.loc (c : Thread nD τ) ↦{fullShare} g) ∗ tabPt c T ∗ bigSep Finset.univ W
        ∗ semVal ((c : Thread nD τ), cell) 0 ∗ (∃ w, owes (c : Thread nD τ) 0 w)
        ∗ (iprop((arg2.view.loc (c : Thread nD τ) ↦{fullShare} g) ∗ tabPt c T ∗ bigSep Finset.univ W'
            ∗ semVal ((c : Thread nD τ), cell) 0 ∗ (∃ w, owes (c : Thread nD τ) 0 w)) -∗ |={Set.univ}=> K ⟨⟩))
      ⊢ wp frame (wpE (defs₀ (F := F)) Variants.none c none) Set.univ (bodyProg arg2 i harg2) K := by
  unfold bodyProg
  simp only [cc0_moe_dispatch_eq_skeleton]; unfold cc0_moe_dispatch_skel
  iintro ⟨H2, HT, HW, Hv, HO, Hk⟩
  ihave HY := (tile_rows c arg2 g).1 $$ H2
  icases HY with ⟨HY, HR⟩
  ihave HN := (Entails.of_eq (beside_all c arg2 g W).symm) $$ [HW HY]
  · isplitl [HW] <;> iassumption
  imod (Transfers.batch_alloc' (Lvl := ℕ) (countersEmb (U := UD sig nD τ)) (c : Thread nD τ) () rowCredit (beside c arg2 g W') (sm := cell) (E := Set.univ)) $$ Hv with HB
  sl_for (fillInv c T arg2 g W W') $$ [HT HB HN]
  · exact fill_step c T hT arg2 g i harg2 hW
  · unfold fillInv
    rw [Nat.mul_zero, Ring.rangeSet_univ]
    isplitl [HT]; · iexact HT
    isplitl [HB]; · iexact HB
    iexact HN
  rw [show Scf.trips k0_t1_loop.lb k0_t1_loop.ub k0_t1_loop.st = 256 from fill_trips]
  iintro %a HI
  unfold fillInv
  icases HI with ⟨HT, HB, -⟩
  sl_for (drainInv c arg2 g W') $$ [HO HB]
  · exact drain_step c arg2 g i harg2
  · unfold drainInv
    rw [if_pos (by decide), Nat.zero_mul]
    isplitl [HO]; · iexact HO
    iexact HB
  rw [show Scf.trips k0_t2_loop.lb k0_t2_loop.ub k0_t2_loop.st = 512 from drain_trips]
  iintro %b HI
  unfold drainInv
  rw [if_neg (by decide)]
  icases HI with ⟨HO, Hv, HD⟩
  ihave HD := (Entails.of_eq (beside_all c arg2 g W')) $$ HD
  icases HD with ⟨HW, HY⟩
  ihave HY := (tile_rows c arg2 g).2 $$ [HY HR]
  · isplitl [HY] <;> iassumption
  imod Hk $$ [HY HT HW Hv HO] with HK
  · isplitl [HY]; · iexact HY
    isplitl [HT]; · iexact HT
    isplitl [HW]; · iexact HW
    isplitl [Hv]; · iexact Hv
    iexact HO
  sl_step
  iexact HK

/-! ### Rows apart -/

include hD in
/-- A copy that owns the row it is to write leaves it written. -/
theorem arrived (r : Fin 512) :
    ((dstRow (rowOf T i r) (hT _)).view.loc (c : Thread nD τ) ↦[(dstRow (rowOf T i r) (hT _)).view.set]{fullShare}
        ((dstRow (rowOf T i r) (hT _)).view.write (Elt F) f (ReadAs.same.apply ((srcRow arg2 r).view.read (Elt F) g)) Finset.univ))
      ⊢ (dstPt c T hT i (scattered T (tile c arg2 g) f i) r : sProp 𝕄) := by
  refine Entails.of_eq (pointsTo_congr fun y hy => ?_)
  obtain ⟨x, -, rfl⟩ := Finset.mem_map.mp hy
  refine (View.write_emb_of_mem (v := (dstRow (rowOf T i r) (hT _)).view) _ _ (Finset.mem_univ x)).trans ?_
  have h0 : (x 0).val = 0 := by have : (x 0).val < 1 := (x 0).isLt; omega
  have e0 : rowOf T i r = (((dstRow (rowOf T i r) (hT _)).view.emb x) 0).val := by
    show rowOf T i r = rowOf T i r + 1 * (x 0).val; omega
  refine Eq.trans ?_ (scattered_hit T hD (tile c arg2 g) f i _ r e0).symm
  show tile c arg2 g ((Rect.unit (s := S512x2304) ![r.val, 0] S1x2304.size (src_inb r)).emb x) = _
  refine congrArg (tile c arg2 g) (Common.eq_ix2_of ?_ ?_)
  · show r.val + 1 * (x 0).val = r.val; omega
  · show 0 + 1 * (x 1).val = 0 + 1 * (x 1).val; rfl

include hD in
theorem writes_apart : Writes c T hT arg2 g i (dstPt c T hT i f) (dstPt c T hT i (scattered T (tile c arg2 g) f i)) := fun r => by
  refine (pointsTo_writeUpdate (c : Thread nD τ) (w := ReadAs.same.apply ((srcRow arg2 r).view.read (Elt F) g)) subset_rfl).trans ?_
  rw [writeUpdate, writeUpdate, writeUpdateFrom_def, writeUpdateFrom_def]
  iintro ⟨%A, HA, Hs, HR⟩
  iexists A
  isplitl [HA]; · iexact HA
  isplitl [Hs]; · iexact Hs
  iintro HA
  iapply (arrived c T hT hD arg2 g f i r)
  iapply HR; iexact HA

include hT hD in
/-- The printed body: each row of the result that a word of the point names becomes the tile's row; the semaphore is at
    zero again, and everything else is as it was. -/
theorem body_wp (x : Vec F S512x2304 .f32) (K : PUnit → sProp 𝕄) :
    iprop(owns (c : Thread nD τ) arg2 fullShare x ∗ tabPt c T
        ∗ (outM.view.loc (c : Thread nD τ) ↦{fullShare} f)
        ∗ semVal ((c : Thread nD τ), cell) 0 ∗ (∃ W, owes (c : Thread nD τ) 0 W)
        ∗ (iprop(owns (c : Thread nD τ) arg2 fullShare x ∗ tabPt c T
            ∗ (outM.view.loc (c : Thread nD τ) ↦{fullShare} scattered T x f i)
            ∗ semVal ((c : Thread nD τ), cell) 0 ∗ (∃ W, owes (c : Thread nD τ) 0 W)) -∗ K ⟨⟩))
      ⊢ wp frame (wpE (defs₀ (F := F)) Variants.none c none) Set.univ (bodyProg arg2 i harg2) K := by
  unfold owns
  rw [harg2.set_eq_univ]
  iintro ⟨⟨%g, %hg, H2⟩, HT, HO', Hv, HO, Hk⟩
  subst hg
  ihave HS := (out_rows c T hT hD i f).1 $$ HO'
  icases HS with ⟨HS, HSR⟩
  iapply (loops_wp c T hT arg2 g i harg2 (writes_apart c T hT hD arg2 g f i) K)
  isplitl [H2]; · iexact H2
  isplitl [HT]; · iexact HT
  isplitl [HS]; · iexact HS
  isplitl [Hv]; · iexact Hv
  isplitl [HO]; · iexact HO
  iintro ⟨HY, HT, HS, Hv, HO⟩
  ihave HSR := (Entails.of_eq (outRest_eq c T hT f i (tile c arg2 g))) $$ HSR
  ihave HS := (out_rows c T hT hD i (scattered T (tile c arg2 g) f i)).2 $$ [HS HSR]
  · isplitl [HS] <;> iassumption
  imodintro
  iapply Hk
  isplitl [HY]
  · iexists _; isplitr; · ipureintro; rfl
    iexact HY
  isplitl [HT]; · iexact HT
  isplitl [HS]; · iexact HS
  isplitl [Hv]; · iexact Hv
  iexact HO

/-! ### Rows that may coincide -/

/-- Copy `r`'s token. -/
abbrev token (π : Fin 512 → ℕ) (r : Fin 512) : sProp 𝕄 := Transfers.tok (countersEmb (U := UD sig nD τ)) (π r)

/-- The result at some contents, until every token is put in its place. -/
def kept (π : Fin 512 → ℕ) : sProp 𝕄 :=
  iprop((∃ h : S45056x2304.Idx → Elt F .f32, outM.view.loc (c : Thread nD τ) ↦{fullShare} h) ∨ bigSep Finset.univ (token (F := F) π))

instance kept_storable (π : Fin 512 → ℕ) : BI.Storable (upEmb : UEmb _ 𝕄) (kept (F := F) c π) := by
  unfold kept token Transfers.tok; infer_instance

/-- A token in hand and every token in the result's place cannot be. -/
theorem token_excl (π : Fin 512 → ℕ) (r : Fin 512) : iprop(token (F := F) π r ∗ bigSep Finset.univ (token (F := F) π)) ⊢ (False : sProp 𝕄) := by
  iintro ⟨H, HA⟩
  ihave H' := (show bigSep Finset.univ (token (F := F) π) ⊢ token (F := F) π r from BI.bigSep_elim (Finset.mem_univ r)) $$ HA
  iapply (Transfers.tok_tok_false (countersEmb (U := UD sig nD τ)) (π r))
  isplitl [H] <;> iassumption

theorem inv_all (κ : ℕ) (P : sProp 𝕄) (S : Finset (Fin 512)) : (inv κ P : sProp 𝕄) ⊢ bigSep S (fun _ => inv κ P) := by
  induction S using Finset.induction_on with
  | empty => rw [bigSep_empty]; iintro -; iempintro
  | insert a S ha ih =>
    rw [bigSep_insert ha]
    show _ ⊢ iprop(inv κ P ∗ bigSep S fun _ => inv κ P)
    iintro #H
    isplitr; · iexact H
    iapply ih; iexact H

/-- A copy that holds its token writes by opening the invariant. -/
theorem writes_shared (κ : ℕ) (π : Fin 512 → ℕ) :
    Writes c T hT arg2 g i (fun r => iprop(inv κ (kept (F := F) c π) ∗ token (F := F) π r)) (token (F := F) π) := fun r => by
  rw [writeUpdate, writeUpdateFrom_def]
  iintro ⟨#Hinv, Ht⟩
  iexists fun _ => token (F := F) π r
  isplitl [Ht]; · iexact Ht
  isplitr
  · rw [writeSteps_def]
    imodintro
    iintro %M %M' Ht
    imod (inv_acc (Set.mem_univ κ)) $$ Hinv with ⟨Hb, Hclose⟩
    ihave Hb := (show kept (F := F) c π ⊢ iprop((∃ h : S45056x2304.Idx → Elt F .f32, outM.view.loc (c : Thread nD τ) ↦{fullShare} h) ∨ bigSep Finset.univ (token (F := F) π)) from .rfl) $$ Hb
    icases Hb with (⟨%h, Hout⟩ | HA)
    · imodintro
      rw [storeSpec_apply]
      iexists Finset.univ, h
      isplitl [Hout]; · iexact Hout
      isplitr; · ipureintro; exact Finset.subset_univ _
      iintro Hout
      ihave Hc := Hclose $$ [Hout]
      · unfold kept; ileft; iexists _; iexact Hout
      imod Hc
      imodintro
      iexact Ht
    · iexfalso
      iapply (token_excl (F := F) π r)
      isplitl [Ht] <;> iassumption
  · iintro H; iexact H

include hT in
/-- The printed body where words of the table may name the same row: the result holds some contents afterwards, the
    semaphore is at zero again, and everything else is as it was. -/
theorem body_any_wp (x : Vec F S512x2304 .f32) (K : PUnit → sProp 𝕄) :
    iprop(owns (c : Thread nD τ) arg2 fullShare x ∗ tabPt c T
        ∗ (∃ h : S45056x2304.Idx → Elt F .f32, outM.view.loc (c : Thread nD τ) ↦{fullShare} h)
        ∗ semVal ((c : Thread nD τ), cell) 0 ∗ (∃ W, owes (c : Thread nD τ) 0 W)
        ∗ (iprop(owns (c : Thread nD τ) arg2 fullShare x ∗ tabPt c T
            ∗ (∃ h : S45056x2304.Idx → Elt F .f32, outM.view.loc (c : Thread nD τ) ↦{fullShare} h)
            ∗ semVal ((c : Thread nD τ), cell) 0 ∗ (∃ W, owes (c : Thread nD τ) 0 W)) -∗ K ⟨⟩))
      ⊢ wp frame (wpE (defs₀ (F := F)) Variants.none c none) Set.univ (bodyProg arg2 i harg2) K := by
  unfold owns
  rw [harg2.set_eq_univ]
  iintro ⟨⟨%g, %hg, H2⟩, HT, Hout, Hv, HO, Hk⟩
  subst hg
  imod (counts_alloc_family (countersEmb (U := UD sig nD τ)) (Finset.univ : Finset (Fin 512))) $$ [] with ⟨%π, -, Hπ⟩; · iempintro
  imod (inv_alloc (P := kept (F := F) c π) (E := Set.univ)) $$ [Hout] with ⟨%κ, #Hinv⟩
  · unfold kept; ileft; iexact Hout
  iapply (loops_wp c T hT arg2 g i harg2 (writes_shared c T hT arg2 g i κ π) K)
  isplitl [H2]; · iexact H2
  isplitl [HT]; · iexact HT
  isplitl [Hπ]
  · iapply (show iprop(bigSep Finset.univ (fun _ : Fin 512 => inv κ (kept (F := F) c π)) ∗ bigSep Finset.univ (token (F := F) π))
        ⊢ bigSep Finset.univ (fun r => iprop(inv κ (kept (F := F) c π) ∗ token (F := F) π r)) from Entails.of_eq (BI.bigSep_sep Finset.univ _ _).symm)
    isplitr; · iapply (inv_all κ (kept (F := F) c π) Finset.univ); iexact Hinv
    iexact Hπ
  isplitl [Hv]; · iexact Hv
  isplitl [HO]; · iexact HO
  iintro ⟨HY, HT, HA, Hv, HO⟩
  imod (inv_acc (Set.mem_univ κ)) $$ Hinv with ⟨Hb, Hclose⟩
  ihave Hb := (show kept (F := F) c π ⊢ iprop((∃ h : S45056x2304.Idx → Elt F .f32, outM.view.loc (c : Thread nD τ) ↦{fullShare} h) ∨ bigSep Finset.univ (token (F := F) π)) from .rfl) $$ Hb
  icases Hb with (Hout | HA')
  · ihave Hc := Hclose $$ [HA]
    · unfold kept; iright; iexact HA
    imod Hc
    imodintro
    iapply Hk
    isplitl [HY]
    · iexists _; isplitr; · ipureintro; rfl
      iexact HY
    isplitl [HT]; · iexact HT
    isplitl [Hout]; · iexact Hout
    isplitl [Hv]; · iexact Hv
    iexact HO
  · iexfalso
    ihave H0 := (show bigSep Finset.univ (token (F := F) π) ⊢ token (F := F) π 0 from BI.bigSep_elim (Finset.mem_univ 0)) $$ HA
    iapply (token_excl (F := F) π 0)
    isplitl [H0] <;> iassumption

end Batch

end Cert.Dispatching

end
-- ==== Proof.Dispatching.Run.lean ====
/- The launch of the dispatching call: what its buffers hold point by point, and two runs.  Where the words of the table
   are distinct rows, `run_quiescent` says what the result holds; where they are only rows of the result, `frame` says
   that the arguments are as launched and every counter is at zero.

   Everything is stated at any float instance `F`, so that the runs serve both readings of the program. -/
module

public import proofs.«01_k».proof.Proof.Dispatching.Body
public import Idealize.ShloMosaic.Lib.Pipeline.TableIdle
public import Idealize.ShloMosaic.Lib.Pipeline.FrameValue
public import Idealize.ShloMosaic.Lib.Claim

@[expose] public section

set_option maxRecDepth 16384

noncomputable section

namespace Cert.Dispatching

open Cert.DispatchIdeal Cert.DispatchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## The arrays when the call is entered -/

/-- Core `c`'s buffers when the call is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer the host operations do not write is found as launched. -/
theorem V_kept (c : Dev nD) (r : Ref sig .tc) (h : r ≠ main_cst ∧ r ≠ main_v0 ∧ r ≠ main_v1) : V m c r = m ((c : Thread nD τ).loc r) :=
  StableHlo.after_of_forall_not_mem (b := Proc.devRef .tc r) _ _ (List.forall_iff_forall_mem.mp (by
    simp only [hostOps0, List.Forall, StableHlo.nullary_writes, StableHlo.unary_writes, Finset.mem_singleton]
    exact ⟨StableHlo.devRef_ne_of_ne h.1, StableHlo.devRef_ne_of_ne h.2.1, StableHlo.devRef_ne_of_ne h.2.2⟩))

/-- The contents of the table when the call is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The table's words. -/
abbrev places : S32768.Idx → BitVec 32 := tbl m 0
/-- Every word of the table names a row of the result. -/
abbrev Inside : Prop := ∀ j : S32768.Idx, (places m j).toNat < 45056
/-- And no two name the same. -/
structure Apart : Prop where
  lt : Inside m
  inj : Function.Injective fun j : S32768.Idx => (places m j).toNat
abbrev adm : (pcfg0 (F := F)).Adm := ⟨tbl m, trivial⟩
abbrev cfgM : Pipeline.Cfg sig Λ₀ := cfg0 (adm m)

theorem ΦT_eq (c : Dev nD) : (Pipeline.ΦT pre0 (tbl m) c : sProp 𝕄) = tabPt (F := F) c (places m) := by
  unfold Pipeline.ΦT Pipeline.prefHeld
  rw [show (Finset.univ : Finset (Fin 1)) = {(0 : Fin 1)} from by decide, bigSep_singleton]
  rfl

/-! ## The proof data -/

/-- The body's own semaphore. -/
abbrev osem : Unit → SemLoc sig := fun _ => cell

/-- Window `w`'s block at point `t`, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The result as the first `n` points leave it. -/
def outUpTo (c : Dev nD) : ℕ → S45056x2304.Idx → F .f32
  | 0 => V m c main_v1
  | n + 1 => if h : n < (cfgM m).N then scattered (places m) (iblk m c 0 ⟨n, h⟩) (outUpTo c n) (grid0.coords ⟨n, h⟩) else outUpTo c n

theorem outUpTo_succ (c : Dev nD) (t : Fin (cfgM m).N) :
    outUpTo m c (t.val + 1) = scattered (places m) (iblk m c 0 t) (outUpTo m c t.val) (grid0.coords t) := by
  rw [outUpTo, dif_pos t.isLt]; rfl

/-- The buffers with the result as the first `n` points leave it. -/
abbrev bufsAt (n : ℕ) (c : Dev nD) : (b : Ref sig .tc) → Buf (Elt F) ((c : Thread nD τ).loc b) :=
  Function.update (V m c) main_v1 (outUpTo m c n)

theorem bufsAt_zero (c : Dev nD) : bufsAt m 0 c = V m c := Function.update_eq_self _ _

/-- What the body keeps between points: the generator register, its semaphore at zero, the result as the points so far
    leave it. -/
abbrev held (n : ℕ) (c : Dev nD) : sProp 𝕄 := Pipeline.ΦDRG osem spec0 ∅ {main_v1} (V m) (bufsAt m n) c

theorem held_eq (n : ℕ) (c : Dev nD) : held m n c
    = iprop(BI.emp ∗ (∃ r, prngReg c r) ∗ semVal ((c : Thread nD τ), cell) 0
        ∗ BI.emp ∗ (outM.view.loc (c : Thread nD τ) ↦{fullShare} outUpTo m c n)) := by
  unfold held
  rw [Pipeline.ΦDRG_eq, scopedRest0_eq, bigSep_empty]
  unfold Pipeline.ownSems0 Pipeline.routed
  rw [show (Finset.univ : Finset Unit) = {()} from by decide, bigSep_singleton, bigSep_singleton]
  unfold bufsAt
  rw [Function.update_self]

/-- The same, but of the result only that it holds something. -/
abbrev heldAny (_ : ℕ) (c : Dev nD) : sProp 𝕄 := Pipeline.ΦDR osem spec0 ∅ {main_v1} (V m) c

theorem heldAny_eq (n : ℕ) (c : Dev nD) : heldAny m n c
    = iprop(BI.emp ∗ (∃ r, prngReg c r) ∗ semVal ((c : Thread nD τ), cell) 0
        ∗ BI.emp ∗ (∃ h : S45056x2304.Idx → Elt F .f32, outM.view.loc (c : Thread nD τ) ↦{fullShare} h)) := by
  unfold heldAny
  rw [Pipeline.ΦDR_eq, scopedRest0_eq, bigSep_empty]
  unfold Pipeline.ownSems0 Pipeline.owned
  rw [show (Finset.univ : Finset Unit) = {()} from by decide, bigSep_singleton, bigSep_singleton]
  rfl

/-- The proof data: arrays as found, the input buffer at its block, `H n` kept when `n` points are done. -/
def dats (H : ℕ → Dev nD → sProp 𝕄) (_ : Fin 1) (c : Dev nD) : Dat τ (Elt F) Unit ℕ (UD sig nD τ) ℕ (cfgM m) c where
  A w := V m c (Pipeline.arrRef spec0 w)
  after w t := match w with
    | ⟨0, _⟩ => iblk m c 0 t
  Φ t := iprop(H t.val c ∗ Pipeline.ΦT pre0 (tbl m) c)
  q _ := fullShare
  owed _ := 0

theorem A_eq (H : ℕ → Dev nD → sProp 𝕄) (c : Dev nD) (w : Fin (cfgM m).W) : (dats m H 0 c).A w = V m c (Pipeline.arrRef spec0 w) := by
  dsimp only [dats]

theorem Φ_eq (H : ℕ → Dev nD → sProp 𝕄) (c : Dev nD) (t : Fin ((cfgM m).N + 1)) :
    (dats m H 0 c).Φ t = iprop(H t.val c ∗ Pipeline.ΦT pre0 (tbl m) c) := by
  dsimp only [dats]

theorem after_0 (H : ℕ → Dev nD → sProp 𝕄) (c : Dev nD) (t : Fin (cfgM m).N) : (dats m H 0 c).after 0 t = iblk m c 0 t := by dsimp only [dats]; try rfl

theorem before_0 (H : ℕ → Dev nD → sProp 𝕄) (c : Dev nD) (t : Fin (cfgM m).N) (d) : (dats m H 0 c).before 0 t d = iblk m c 0 t :=
  ((dats m H 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-! ## The body obligation -/

/-- The body at point `t` on the memrefs the pipeline hands it. -/
abbrev bodyAt (t : Fin (cfgM m).N) : Prog (TpuEff nD τ sig (Elt F) Λ₀ .tc) PUnit :=
  cc0_moe_dispatch (grid0.coords t) (Memref.whole main_arg0) (Memref.isWhole_whole _) (spec0_0.stage ((cfgM m).slots t 0)) (hstage0_0 (((cfgM m).slots t 0).cast nbuf0_0)) (Memref.whole main_v1) (Memref.isWhole_whole _) (Memref.whole main_v1) (Memref.isWhole_whole _) cc0_scratch0

/-- What the body is handed at point `t`, and what it hands back. -/
def bodyPre (H : ℕ → Dev nD → sProp 𝕄) (c : Dev nD) (t : Fin (cfgM m).N) : sProp 𝕄 :=
  iprop((dats m H 0 c).Φ t.castSucc ∗ (dats m H 0 c).owesAt () t.castSucc
    ∗ (∃ d, owns (c : Thread nD τ) (spec0_0.stage ((cfgM m).slots t 0)) fullShare ((dats m H 0 c).before 0 t d)))

def bodyPost (H : ℕ → Dev nD → sProp 𝕄) (c : Dev nD) (t : Fin (cfgM m).N) : sProp 𝕄 :=
  iprop((dats m H 0 c).Φ t.succ ∗ (dats m H 0 c).owesAt () t.succ
    ∗ owns (c : Thread nD τ) (spec0_0.stage ((cfgM m).slots t 0)) fullShare ((dats m H 0 c).after 0 t))

/-- The body at a point turns the one into the other. -/
abbrev Sound (H : ℕ → Dev nD → sProp 𝕄) : Prop := ∀ (c : Dev nD) (t : Fin (cfgM m).N),
  bodyPre m H c t ⊢ wp frame (wpE (defs₀ (F := F)) Variants.none c none) Set.univ (bodyAt m t) (fun _ => bodyPost m H c t)

/-- The debts the pipeline records at a point are none, whatever has been waited for. -/
theorem owesAt_elim (H : ℕ → Dev nD → sProp 𝕄) (c : Dev nD) (t : Fin ((cfgM m).N + 1)) :
    (dats m H 0 c).owesAt () t ⊢ (∃ W, owes (c : Thread nD τ) 0 W : sProp 𝕄) := by
  unfold Dat.owesAt Pipeline.owesWithin
  iintro ⟨%W, -, H⟩
  iexists W
  iexact H

theorem owesAt_intro (H : ℕ → Dev nD → sProp 𝕄) (c : Dev nD) (t : Fin ((cfgM m).N + 1)) :
    (∃ W, owes (c : Thread nD τ) 0 W : sProp 𝕄) ⊢ (dats m H 0 c).owesAt () t := by
  unfold Dat.owesAt Pipeline.owesWithin
  iintro ⟨%W, H⟩
  iexists W
  isplitr [H]
  · ipureintro; exact fun _ _ => Or.inl trivial
  iexact H

theorem defs₀_row (t : Fin (cfgM m).N) :
    defs₀ (F := F) .tc (cfgM m).body ((cfgM m).bodyArgs t ((cfgM m).slots t)) = bodyAt m t := by
  unfold defs₀; rw [Defs.onTc_tc]

theorem body_obligation (H : ℕ → Dev nD → sProp 𝕄) (hs : Sound m H) (c : Dev nD) : BodyObligation (dats (F := F) m H 0 c) (defs₀ (F := F)) Variants.none () Set.univ := fun t => by
  rw [bigSep_W0, bigSep_W0, defs₀_row m]
  exact triple_restated (hs c t) rfl .rfl fun _ => .rfl

theorem sound_apart (hT : Apart m) : Sound m (held m) := fun c t => by
  unfold bodyPre bodyPost bodyAt
  simp only [before_0]
  rw [after_0, Φ_eq, Φ_eq, ΦT_eq, held_eq, held_eq, Fin.val_castSucc, Fin.val_succ, outUpTo_succ]
  iintro ⟨⟨⟨He, Hg, Hc, He', HS⟩, HT⟩, Ho, ⟨%d0, H0⟩⟩
  ihave Ho := (owesAt_elim m (held m) c t.castSucc) $$ Ho
  iapply (body_wp c (places m) hT.lt hT.inj _ (outUpTo m c t.val) (grid0.coords t) _ (iblk m c 0 t) _)
  isplitl [H0]; · iexact H0
  isplitl [HT]; · iexact HT
  isplitl [HS]; · iexact HS
  isplitl [Hc]; · iexact Hc
  isplitl [Ho]; · iexact Ho
  iintro ⟨H0, HT, HS, Hc, Ho⟩
  isplitl [He Hg Hc He' HS HT]
  · isplitl [He Hg Hc He' HS]
    · isplitl [He]; · iexact He
      isplitl [Hg]; · iexact Hg
      isplitl [Hc]; · iexact Hc
      isplitl [He']; · iexact He'
      iexact HS
    iexact HT
  isplitl [Ho]; · iapply (owesAt_intro m (held m) c t.succ); iexact Ho
  iexact H0

theorem sound_inside (hT : Inside m) : Sound m (heldAny m) := fun c t => by
  unfold bodyPre bodyPost bodyAt
  simp only [before_0]
  rw [after_0, Φ_eq, Φ_eq, ΦT_eq, heldAny_eq]
  iintro ⟨⟨⟨He, Hg, Hc, He', HS⟩, HT⟩, Ho, ⟨%d0, H0⟩⟩
  ihave Ho := (owesAt_elim m (heldAny m) c t.castSucc) $$ Ho
  iapply (body_any_wp c (places m) hT _ (grid0.coords t) _ (iblk m c 0 t) _)
  isplitl [H0]; · iexact H0
  isplitl [HT]; · iexact HT
  isplitl [HS]; · iexact HS
  isplitl [Hc]; · iexact Hc
  isplitl [Ho]; · iexact Ho
  iintro ⟨H0, HT, HS, Hc, Ho⟩
  isplitl [He Hg Hc He' HS HT]
  · isplitl [He Hg Hc He' HS]
    · isplitl [He]; · iexact He
      isplitl [Hg]; · iexact Hg
      isplitl [Hc]; · iexact Hc
      isplitl [He']; · iexact He'
      iexact HS
    iexact HT
  isplitl [Ho]; · iapply (owesAt_intro m (heldAny m) c t.succ); iexact Ho
  iexact H0

/-! ## The runs -/

/-- How many points there are. -/
abbrev points : ℕ := (cfgM m).N

theorem hin (c : Dev nD) : iprop(Pipeline.ΦDRG osem spec0 ∅ {main_v1} (V m) (V m) c ∗ Pipeline.ΦT pre0 (tbl m) c) ⊢ (dats m (held m) 0 c).Φ 0 := by
  rw [Φ_eq]
  have h : Pipeline.ΦDRG osem spec0 ∅ {main_v1} (V m) (V m) c = held m ((0 : Fin ((cfgM m).N + 1)) : ℕ) c := by
    have e : V m = bufsAt m 0 := funext fun c => (bufsAt_zero m c).symm
    exact congrArg (fun G => Pipeline.ΦDRG osem spec0 ∅ {main_v1} (V m) G c) e
  rw [h]

theorem hout (c : Dev nD) : (dats m (held m) 0 c).Φ (Fin.last (cfgM m).N) ⊢ held m (points m) c := by
  rw [Φ_eq]
  iintro ⟨H, -⟩
  iexact H

theorem own_sems : Pipeline.OwnSemFacts spec0 osem := by decide

theorem result_rest : {main_v1} ⊆ Pipeline.restRefsP sig pre0 spec0 \ ∅ := by decide

set_option backward.isDefEq.respectTransparency.types false in
/-- Every execution ends, the result as the points leave it, every other buffer as found, every counter at zero. -/
theorem run_quiescent (hT : Apart m) : θ_run defs (onTc (τ := τ) (main (F := F))) (s₀ m ρ) (fun r => (Pipeline.FramePostRG (Pipeline.pin pcfgs fun _ => adm m) (dats m (held m)) 0 {main_v1} (V m) (bufsAt m (points m))) r ∧ r.2.sem = fun _ => 0) :=
  Pipeline.θ_run_frameP_dmaRG (Q' := _) pcfgs (fun _ => adm m) (dats m (held m)) (0 : Fin 1) launch0 osem defs₀ Variants.none own_sems ∅ {main_v1} (Finset.empty_subset _) result_rest m ρ main
    (hbody := fun c => (body_obligation m (held m) (sound_apart m hT) c).loose) (hshare := fun c => (dats m (held m) 0 c).share_full fun _ => rfl)
    (howed := fun _ _ => rfl) (V := V m) (hmain := hmain m Variants.none) (hA := A_eq m (held m)) (hpf := V_pre m) (G := bufsAt m (points m))
    (hin := hin m) (hout := hout m)

/-- The argument arrays at the end of such a run are as launched. -/
theorem args_of_post {r} (h : Pipeline.FramePostRG (Pipeline.pin pcfgs fun _ => adm m) (dats m (held m)) 0 {main_v1} (V m) (bufsAt m (points m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h.1 c).2 main_arg0 (by decide : main_arg0 ∈ Pipeline.restRefs sig spec0 \ {main_v1})).trans (V_kept m c _ (by decide)),
    (((h.1 c).1 0).trans ((dats m (held m) 0 c).arrAt_in 0 rfl _)).trans (V_kept m c main_arg1 (by decide))⟩

/-- The result at the end of such a run. -/
theorem result_of_post {r} (h : Pipeline.FramePostRG (Pipeline.pin pcfgs fun _ => adm m) (dats m (held m)) 0 {main_v1} (V m) (bufsAt m (points m)) r) (c : Dev nD) :
    r.2.mem ((c.tc : Thread nD τ).loc main_v1) = outUpTo m c (points m) :=
  (h.2 c main_v1 (Finset.mem_singleton_self _)).trans (Function.update_self _ _ _)

set_option backward.isDefEq.respectTransparency.types false in
/-- Every execution ends, every buffer but the result as found, every counter at zero. -/
theorem run_inside (hT : Inside m) : θ_run defs (onTc (τ := τ) (main (F := F))) (s₀ m ρ) (fun r => (Pipeline.FramePostR (Pipeline.pin pcfgs fun _ => adm m) (dats m (heldAny m)) 0 {main_v1} (V m)) r ∧ r.2.sem = fun _ => 0) :=
  Pipeline.θ_run_frameP_dmaR (Q' := _) pcfgs (fun _ => adm m) (dats m (heldAny m)) (0 : Fin 1) launch0 osem defs₀ Variants.none own_sems ∅ {main_v1} (Finset.empty_subset _) result_rest m ρ main
    (hbody := fun c => (body_obligation m (heldAny m) (sound_inside m hT) c).loose) (hshare := fun c => (dats m (heldAny m) 0 c).share_full fun _ => rfl)
    (howed := fun _ _ => rfl) (V := V m) (hmain := hmain m Variants.none) (hA := A_eq m (heldAny m)) (hpf := V_pre m)
    (hin := fun c => by rw [Φ_eq]) (hout := fun c => by rw [Φ_eq]; iintro ⟨H, -⟩; iexact H)

/-- The call leaves its arguments unchanged and every counter at zero. -/
theorem frame (hT : Inside m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (by decide : main_arg0 ∈ Pipeline.restRefs sig spec0 \ {main_v1})).trans (V_kept m c _ (by decide)),
      (((h.1 c).1 0).trans ((dats m (heldAny m) 0 c).arrAt_in 0 rfl _)).trans (V_kept m c main_arg1 (by decide))⟩, h.2⟩) (run_inside m ρ hT)

end Cert.Dispatching

end
-- ==== Proof.Dispatching.Value.lean ====
/- The dispatching call of the layer: the sorted array, each row the token row whose word names it, and zero where no word
   does. -/
module

public import proofs.«01_k».proof.Defs
public import proofs.«01_k».proof.Proof.Dispatching.Run
public import proofs.«01_k».proof.Proof.Collecting.Value
public import proofs.«01_k».proof.Proof.Gen.DispatchReferenceIdeal.Run
public import proofs.«01_k».proof.Proof.Gen.DispatchReferenceIdeal.Read
public import proofs.«01_k».proof.Proof.Gen.Pre_apart
public import proofs.«01_k».proof.Proof.Gen.Pre_inside
public import Idealize.ShloMosaic.Lib.Routing.OpsSet

@[expose] public section

noncomputable section

namespace Cert.Dispatching

open Cert.DispatchIdeal Cert.DispatchIdeal.Gen
open Cert.Common
open Idealize.ShloMosaic Idealize.ShloMosaic.TcCoe Idealize.SL.Sem

variable {F : FTy → Type} [FloatOps F]

/-- The zero of the array's type. -/
abbrev zero : F .f32 := FloatOps.ofBits .f32 0x00000000#32

open Classical in
/-- The result of the call: where a word names a row, the token row of that word. -/
def out (p : S32768.Idx → BitVec 32) (x : S32768x2304.Idx → F .f32) : S45056x2304.Idx → F .f32 :=
  fun y => if h : ∃ j : Fin 32768, (p (ix1 j)).toNat = (y 0).val then x (ix2 (Classical.choose h) (y 1)) else zero

theorem ix1_inj {a b : Fin 32768} (h : (ix1 a : S32768.Idx) = ix1 b) : a = b := congrFun h (0 : Fin 1)

theorem out_hit (p : S32768.Idx → BitVec 32) (x : S32768x2304.Idx → F .f32) (hD : Function.Injective fun j : S32768.Idx => (p j).toNat)
    (y : S45056x2304.Idx) (j : Fin 32768) (h : (p (ix1 j)).toNat = (y 0).val) : out p x y = x (ix2 j (y 1)) := by
  have h' : ∃ j : Fin 32768, (p (ix1 j)).toNat = (y 0).val := ⟨j, h⟩
  unfold out
  rw [dif_pos h', show Classical.choose h' = j from ix1_inj (hD ((Classical.choose_spec h').trans h.symm))]

theorem out_miss (p : S32768.Idx → BitVec 32) (x : S32768x2304.Idx → F .f32) (y : S45056x2304.Idx)
    (h : ∀ j : Fin 32768, (p (ix1 j)).toNat ≠ (y 0).val) : out p x y = zero := by
  unfold out
  exact dif_neg fun ⟨j, hj⟩ => h j hj

/-- A word that names a row is not negative: the wrap of negative words leaves it. -/
theorem wrap_word (w v : BitVec 32) (h : w.toNat < 45056) : Scalar.select (IntOp.cmpi .slt w 0#32) v w = w := by
  have e : IntOp.cmpi .slt w 0#32 = 0#1 := by
    show BitVec.ofBool (BitVec.slt w 0#32) = 0#1
    have : BitVec.slt w 0#32 = false := by
      simp only [BitVec.slt, BitVec.toInt, BitVec.toNat_ofNat, decide_eq_false_iff_not]
      omega
    rw [this]; rfl
  rw [e]
  rfl

/-! ## The precondition -/

section Entry

/-- The predicate at one word: it names a row, and the array that keeps for each row a token sent there keeps this one. -/
theorem apart_apply [Cert.Pre_apart.Facts] (a0 : IVec S32768 32) (a1 : FVec F S32768x2304 .f32) : ∃ own : IVec Cert.Pre_apart.S45056 32, ∀ y : S32768.Idx,
    Cert.Pre_apart.fn (F := F) a0 a1 y
      = IntOp.andi (IntOp.andi (IntOp.cmpi .sge (a0 y) 0#32) (IntOp.cmpi .slt (a0 y) 45056#32))
          (IntOp.cmpi .eq (Host.gather Cert.Pre_apart.gather_S45056_S32768x1_S32768_n_0_n_n_0_1_1 own
            (broadcastInDim Cert.Pre_apart.S32768x1 ![0] Cert.Pre_apart.Facts.bcast_S32768_S32768x1_0
              (fun k : S32768.Idx => Scalar.select (IntOp.cmpi .slt (a0 k) 0#32) (IntOp.addi (a0 k) 45056#32) (a0 k))) y) (iotaInDim Cert.Pre_apart.S32768 32 0 y)) :=
  ⟨_, fun y => rfl⟩

theorem apart_lt [Cert.Pre_apart.Facts] {a0 : IVec S32768 32} {a1 : FVec F S32768x2304 .f32} (h : Cert.Pre_apart.fn (F := F) a0 a1 = fun _ => 1#1) (y : S32768.Idx) : (a0 y).toNat < 45056 := by
  obtain ⟨own, hown⟩ := apart_apply a0 a1
  have e := (hown y).symm.trans (congrFun h y)
  simp only [IntOp.cmpi, Cert.Collecting.and_of_bools, Cert.Collecting.ofBool_one] at e
  exact Cert.Collecting.lt_of_signed _ ((Bool.and_eq_true _ _).mp e).1

theorem apart_inj [Cert.Pre_apart.Facts] {a0 : IVec S32768 32} {a1 : FVec F S32768x2304 .f32} (h : Cert.Pre_apart.fn (F := F) a0 a1 = fun _ => 1#1) :
    Function.Injective fun j : S32768.Idx => (a0 j).toNat := by
  obtain ⟨own, hown⟩ := apart_apply a0 a1
  have key : ∀ j : Fin 32768, own (ix1 ⟨(a0 (ix1 j)).toNat, apart_lt h _⟩) = BitVec.ofNat 32 j.val := by
    intro j
    have hj := apart_lt h (ix1 j)
    have e := (hown (ix1 j)).symm.trans (congrFun h (ix1 j))
    have hw : broadcastInDim Cert.Pre_apart.S32768x1 ![0] Cert.Pre_apart.Facts.bcast_S32768_S32768x1_0
        (fun k : S32768.Idx => Scalar.select (IntOp.cmpi .slt (a0 k) 0#32) (IntOp.addi (a0 k) 45056#32) (a0 k)) (ix2 j (0 : Fin 1))
          = BitVec.ofNat 32 (a0 (ix1 j)).toNat := by
      refine (broadcastInDim_apply _ _ _ _ (ix1 j) (fun a => ?_)).trans ((wrap_word _ _ hj).trans (BitVec.eq_of_toNat_eq ?_))
      · obtain rfl : a = (0 : Fin 1) := Subsingleton.elim (α := Fin 1) _ _
        show j.val = if (32768 : ℕ) = 1 then 0 else j.val
        rw [if_neg (by decide)]
      · rw [BitVec.toNat_ofNat]; omega
    have hg := Routing.gather_take1 Cert.Pre_apart.gather_S45056_S32768x1_S32768_n_0_n_n_0_1_1 rfl rfl rfl rfl own _ j ⟨(a0 (ix1 j)).toNat, hj⟩ hw (by decide)
    replace e := (congrArg (fun z => IntOp.andi (IntOp.andi (IntOp.cmpi .sge (a0 (ix1 j)) 0#32) (IntOp.cmpi .slt (a0 (ix1 j)) 45056#32))
      (IntOp.cmpi .eq z (iotaInDim Cert.Pre_apart.S32768 32 0 (ix1 j)))) hg).symm.trans e
    simp only [IntOp.cmpi, Cert.Collecting.and_of_bools, Cert.Collecting.ofBool_one] at e
    exact of_decide_eq_true ((Bool.and_eq_true _ _).mp e).2
  intro j j' hjj
  obtain ⟨a, rfl⟩ : ∃ a : Fin 32768, j = ix1 a := ⟨j 0, eq_ix1 j⟩
  obtain ⟨b, rfl⟩ : ∃ b : Fin 32768, j' = ix1 b := ⟨j' 0, eq_ix1 j'⟩
  have e : (BitVec.ofNat 32 a.val) = BitVec.ofNat 32 b.val :=
    (key a).symm.trans ((congrArg (fun n => own (ix1 n)) (Fin.ext hjj)).trans (key b))
  have e' := congrArg BitVec.toNat e
  simp only [BitVec.toNat_ofNat] at e'
  have ha := a.isLt
  have hb := b.isLt
  exact congrArg ix1 (Fin.ext (by omega))

variable (m : (ℓ : Loc nD τ sig) → Buf (Elt F) ℓ)

/-- The table is found as launched. -/
theorem places_eq : places m = (m (((0 : Dev nD) : Thread nD τ).loc main_arg0) : S32768.Idx → BitVec 32) :=
  V_kept m 0 main_arg0 (by decide)

/-- The range alone, as the frames ask for it. -/
theorem inside_lt [Cert.Pre_inside.Facts] {a0 : IVec S32768 32} {a1 : FVec F S32768x2304 .f32} (h : Cert.Pre_inside.fn (F := F) a0 a1 = fun _ => 1#1) (y : S32768.Idx) :
    (a0 y).toNat < 45056 := by
  have e := congrFun h y
  simp only [Cert.Pre_inside.fn, andi, cmpi, broadcastInDim, constantI, IntOp.cmpi, Cert.Collecting.and_of_bools, Cert.Collecting.ofBool_one] at e
  exact Cert.Collecting.lt_of_signed _ e

theorem inside_of (h : Cert.Pre_inside.fn (F := F) (m (((0 : Dev nD) : Thread nD τ).loc main_arg0)) (m (((0 : Dev nD) : Thread nD τ).loc main_arg1)) = fun _ => 1#1) : Inside m :=
  fun j => by rw [places_eq]; exact inside_lt h j

theorem apart_of (h : Cert.Pre_apart.fn (F := F) (m (((0 : Dev nD) : Thread nD τ).loc main_arg0)) (m (((0 : Dev nD) : Thread nD τ).loc main_arg1)) = fun _ => 1#1) : Apart m where
  lt := fun j => by rw [places_eq]; exact apart_lt h j
  inj := by rw [places_eq]; exact apart_inj h

end Entry

/-! ## The array after the run -/

variable (m : (ℓ : Loc nD τ sig) → Buf (Elt F) ℓ)

/-- The token rows as launched. -/
abbrev xOf : S32768x2304.Idx → F .f32 := m (((0 : Dev nD) : Thread nD τ).loc main_arg1)

theorem lt_points (t : Fin grid0.N) : t.val < 64 := Nat.lt_of_lt_of_eq t.isLt N_0
/-- A token row from a row of a point's tile. -/
abbrev tokenOf (t : Fin grid0.N) (r : Fin 512) : Fin 32768 := ⟨512 * t.val + r.val, by have := lt_points t; omega⟩

/-- The result starts at zero. -/
theorem V_out (y : S45056x2304.Idx) : (V m 0 main_v1 : S45056x2304.Idx → F .f32) y = zero := by
  have h : (V m 0 main_v1 : S45056x2304.Idx → F .f32)
      = broadcastInDim S45056x2304 ![] bcast_S_S45056x2304 (constant (F := F) S_ .f32 0x00000000#32) := by
    unfold_abbrev_sides
    after_results
    rfl
  exact congrFun h y

theorem index_rows : ∀ t : Fin (cfgM m).N, ((cfgM m).win 0).index t = ![t.val, 0] :=
  (by decide +kernel : ∀ t : Fin grid0.N, (fun a => cc0_transform_0 (grid0.coords t) a) = ![t.val, 0])

theorem point_coord (t : Fin grid0.N) : (grid0.coords t 0).val = t.val := by
  have h : (grid0.coords t 0).val = t.val / 1 % 64 := Pipeline.Grid.coords_val t 0 (by decide) rfl
  have := lt_points t
  omega

theorem iblk_x (t : Fin (cfgM m).N) (r : Fin 512) (q : Fin 2304) : iblk m 0 0 t (ix2 r q) = xOf m (ix2 (tokenOf t r) q) := by
  have h := index_rows m t
  have e : ((((cfgM m).win 0).blk t).view.emb (ix2 r q) : S32768x2304.Idx) = ix2 (tokenOf t r) q := by
    refine eq_ix2_of ?_ ?_
    · exact coord_of (congrFun h (0 : Fin 2)) (by show t.val * 512 + r.val = 512 * t.val + r.val; omega)
    · exact coord_of (congrFun h (1 : Fin 2)) (by show 0 * 2304 + q.val = q.val; omega)
  exact (congrArg (V m 0 main_arg1 : S32768x2304.Idx → F .f32) e).trans (congrFun (V_kept m 0 main_arg1 (by decide)) _)

theorem word_eq (t : Fin grid0.N) (r : Fin 512) : wordIdx (grid0.coords t) r = ix1 (tokenOf t r) := by
  funext a
  obtain rfl : a = (0 : Fin 1) := Subsingleton.elim (α := Fin 1) _ _
  refine Fin.ext ?_
  show 512 * (grid0.coords t 0).val + r.val = 512 * t.val + r.val
  rw [point_coord]

/-- The row of a token among the first `n` tiles, as the first `n` points leave it. -/
theorem upTo_hit (hA : Apart m) (y : S45056x2304.Idx) (j : Fin 32768) (hj : (places m (ix1 j)).toNat = (y 0).val) :
    ∀ n : ℕ, n ≤ points m → j.val < 512 * n → outUpTo m 0 n y = xOf m (ix2 j (y 1))
  | 0, _, h => absurd h (by omega)
  | n + 1, hn, h => by
    have e : outUpTo m 0 (n + 1) = scattered (places m) (iblk m 0 0 ⟨n, hn⟩) (outUpTo m 0 n) (grid0.coords ⟨n, hn⟩) := outUpTo_succ m 0 ⟨n, hn⟩
    refine (congrFun e y).trans ?_
    by_cases hlt : j.val < 512 * n
    · refine (scattered_miss _ _ _ _ _ fun r hr => ?_).trans (upTo_hit hA y j hj n (by omega) hlt)
      · have hr' : (places m (ix1 (tokenOf ⟨n, hn⟩ r))).toNat = (y 0).val := (congrArg (fun k => (places m k).toNat) (word_eq ⟨n, hn⟩ r)).symm.trans hr
        have := congrArg Fin.val (ix1_inj (hA.inj (hr'.trans hj.symm)))
        change 512 * n + r.val = j.val at this
        omega
    · have ht : tokenOf ⟨n, hn⟩ ⟨j.val - 512 * n, by omega⟩ = j := Fin.ext (by show 512 * n + (j.val - 512 * n) = j.val; omega)
      refine (scattered_hit (places m) hA.inj _ _ _ y ⟨j.val - 512 * n, by omega⟩ (by
        refine (congrArg (fun k => (places m k).toNat) (word_eq ⟨n, hn⟩ _)).trans ?_
        rw [ht]; exact hj)).trans ?_
      refine (iblk_x m ⟨n, hn⟩ _ (y 1)).trans ?_
      rw [ht]

/-- A row that no word names stays at zero. -/
theorem upTo_miss (y : S45056x2304.Idx) (hy : ∀ j : Fin 32768, (places m (ix1 j)).toNat ≠ (y 0).val) :
    ∀ n : ℕ, n ≤ points m → outUpTo m 0 n y = zero
  | 0, _ => V_out m y
  | n + 1, hn => by
    have e : outUpTo m 0 (n + 1) = scattered (places m) (iblk m 0 0 ⟨n, hn⟩) (outUpTo m 0 n) (grid0.coords ⟨n, hn⟩) := outUpTo_succ m 0 ⟨n, hn⟩
    exact (congrFun e y).trans ((scattered_miss _ _ _ _ _ fun r hr => hy (tokenOf ⟨n, hn⟩ r) ((congrArg (fun k => (places m k).toNat) (word_eq ⟨n, hn⟩ r)).symm.trans hr)).trans
      (upTo_miss y hy n (by omega)))

theorem points_eq : points m = 64 := N_0

/-- The call's array after the run. -/
theorem array_value (hA : Apart m) : outUpTo m 0 (points m) = out (places m) (xOf m) := by
  funext y
  by_cases h : ∃ j : Fin 32768, (places m (ix1 j)).toNat = (y 0).val
  · obtain ⟨j, hj⟩ := h
    rw [out_hit _ _ hA.inj y j hj]
    exact upTo_hit m hA y j hj _ le_rfl (by rw [points_eq]; omega)
  · rw [out_miss _ _ y fun j hj => h ⟨j, hj⟩]
    exact upTo_miss m y (fun j hj => h ⟨j, hj⟩) _ le_rfl

/-! ## The reference -/

namespace Ref

open Cert.DispatchReferenceIdeal.Read

abbrev dims := Cert.DispatchReferenceIdeal.scatter_S45056x2304_S32768x1_S32768x2304_1_0_0_1

/-- An element of the updates lands at its own column of the row that its index word names. -/
theorem lands (idx : IVec Cert.DispatchReferenceIdeal.S32768x1 32) (j : Fin 32768) (q : Fin 2304) (R : Fin 45056) (q' : Fin 2304) :
    dims.resultIdx? (ix2 j q) idx = some (ix2 R q') ↔ (idx (ix2 j (0 : Fin 1))).toInt = (R.val : Int) ∧ q = q' := by
  have hw0 : dims.window (ix2 j q) 0 = 0 := by
    unfold ScatterDims.window
    exact dif_neg (by decide)
  have hw1 : dims.window (ix2 j q) 1 = q.val := by
    unfold ScatterDims.window
    rw [dif_pos (by decide)]
    rfl
  have hs0 : dims.start (ix2 j q) idx 0 = (idx (ix2 j (0 : Fin 1))).toInt := by
    unfold ScatterDims.start
    rw [dif_pos (show (0 : Fin 2) ∈ dims.scatterDimsToOperandDims from List.mem_singleton.mpr rfl)]
    refine congrArg (fun k => (idx k).toInt) ?_
    refine eq_ix2_of ?_ ?_
    · rfl
    · rfl
  have hs1 : dims.start (ix2 j q) idx 1 = 0 := by
    unfold ScatterDims.start
    exact dif_neg (by decide)
  refine (Routing.resultIdx?_ix2 dims (ix2 j q) idx R q').trans ?_
  rw [hs0, hs1, hw0, hw1, Fin.ext_iff]
  omega

/-- The word an update reads. -/
theorem word (p : S32768.Idx → BitVec 32) (hT : ∀ j, (p j).toNat < 45056) (j : Fin 32768) :
    (val_main_v6 (F := F) p (ix2 j (0 : Fin 1))).toInt = ((p (ix1 j)).toNat : Int) := by
  have e : val_main_v6 (F := F) p (ix2 j (0 : Fin 1)) = p (ix1 j) := by
    rw [val_main_v6_apply, val_main_v5_apply, val_main_v2_apply, val_main_v1_apply, val_main_c_apply, wrap_word _ _ (hT _)]
    refine congrArg p ?_
    funext a
    obtain rfl : a = (0 : Fin 1) := Subsingleton.elim (α := Fin 1) _ _
    rfl
  have h := hT (ix1 j)
  rw [e, BitVec.toInt, if_pos (by omega)]

theorem zeros (y : S45056x2304.Idx) : val_main_v0 (F := F) y = zero := by
  rw [val_main_v0_apply, val_main_cst_apply]

/-- The reference computes the same function. -/
theorem value (p : S32768.Idx → BitVec 32) (x : S32768x2304.Idx → F .f32) (hT : ∀ j, (p j).toNat < 45056)
    (hD : Function.Injective fun j : S32768.Idx => (p j).toNat) : val_main_v7 (F := F) p x = out p x := by
  funext y
  obtain ⟨R, q, rfl⟩ : ∃ (R : Fin 45056) (q : Fin 2304), y = ix2 R q := ⟨y 0, y 1, eq_ix2 y⟩
  have at_row : ∀ k : S32768x2304.Idx, dims.resultIdx? k (val_main_v6 (F := F) p) = some (ix2 R q) → (p (ix1 (k 0))).toNat = R.val ∧ k 1 = q := by
    intro k hk
    obtain ⟨j, q', rfl⟩ : ∃ (j : Fin 32768) (q' : Fin 2304), k = ix2 j q' := ⟨k 0, k 1, eq_ix2 k⟩
    have h := (lands _ j q' R q).mp hk
    rw [word p hT j] at h
    exact ⟨by exact_mod_cast h.1, h.2⟩
  unfold val_main_v7
  by_cases h : ∃ j : Fin 32768, (p (ix1 j)).toNat = R.val
  · obtain ⟨j, hj⟩ := h
    rw [out_hit p x hD (ix2 R q) j hj]
    refine Routing.scatter_set_hit dims _ _ _ _ _ (fun k hk => ?_) (ix2 j q) ((lands _ j q R q).mpr ⟨by rw [word p hT j, hj], rfl⟩)
    obtain ⟨h0, h1⟩ := at_row k hk
    refine congrArg x ((eq_ix2 k).trans (congrArg₂ ix2 (ix1_inj (hD (h0.trans hj.symm))) h1))
  · rw [out_miss p x (ix2 R q) fun j hj => h ⟨j, hj⟩]
    exact (Routing.scatter_set_miss dims _ _ _ _ fun k hk => h ⟨_, (at_row k hk).1⟩).trans (zeros _)

end Ref

end Cert.Dispatching

end
-- ==== Proof.Dispatching.Claims.lean ====
/- The claims of the dispatching call: the frames of its programs, and that kernel and reference agree, over the extended
   reals and bit for bit. -/
module

public import proofs.«01_k».proof.Proof.Ffn.Same
public import proofs.«01_k».proof.Proof.Dispatching.Value
public import proofs.«01_k».proof.Proof.Gen.Dispatch
public import proofs.«01_k».proof.Proof.Gen.DispatchReferenceIdeal
public import proofs.«01_k».proof.Proof.Gen.DispatchReference

@[expose] public section

noncomputable section

namespace Cert.Dispatching

open Idealize.ShloMosaic Idealize.SL.Sem

section Same
variable {F : FTy → Type} [FloatOps F]

/-- The two readings of the kernel run the same body. -/
theorem bodies_eq : (Cert.Dispatch.defs₀ (F := F)) = (Cert.DispatchIdeal.defs₀ (F := F)) := by
  unfold Cert.Dispatch.defs₀ Cert.DispatchIdeal.defs₀
  refine congrArg Defs.onTc ?_
  funext l a
  match l, a with
  | ⟨0, _⟩, (t, s) => rfl

theorem defs_eq : (Cert.Dispatch.defs (F := F)) = (Cert.DispatchIdeal.defs (F := F)) :=
  congrArg (Pipeline.defs (Cert.Dispatch.pcfgs (F := F))) bodies_eq

/-- The two readings of the kernel run the same host program. -/
theorem main_eq : (Cert.Dispatch.main (F := F)) = (Cert.DispatchIdeal.main (F := F)) := by
  delta Cert.Dispatch.main Cert.DispatchIdeal.main
  with_unfolding_all rfl

/-- So do the two readings of the reference. -/
theorem ref_defs_eq : (Cert.DispatchReference.defs (F := F)) = (Cert.DispatchReferenceIdeal.defs (F := F)) := by
  delta Cert.DispatchReference.defs Cert.DispatchReferenceIdeal.defs
  with_unfolding_all rfl

theorem ref_main_eq : (Cert.DispatchReference.main (F := F)) = (Cert.DispatchReferenceIdeal.main (F := F)) := by
  delta Cert.DispatchReference.main Cert.DispatchReferenceIdeal.main
  with_unfolding_all rfl

end Same

theorem frame_kernel : Cert.quiescent_Dispatch := fun m ρ h =>
  Cert.Ffn.run_eq defs_eq main_eq (frame (F := Bits) m ρ (inside_of m (h 0)))

theorem frame_kernel_apart : Cert.quiescent_Dispatch_pre_apart := fun m ρ h =>
  Cert.Ffn.run_eq defs_eq main_eq (frame (F := Bits) m ρ (apart_of m (h 0)).lt)

theorem frame_ideal : Cert.quiescent_DispatchIdeal := fun m ρ h => frame m ρ (inside_of m (h 0))

theorem frame_ideal_apart : Cert.quiescent_DispatchIdeal_pre_apart := fun m ρ h => frame m ρ (apart_of m (h 0)).lt

theorem frame_reference : Cert.quiescent_DispatchReferenceIdeal := fun m ρ _ =>
  (θ_run Cert.DispatchReferenceIdeal.defs _ _).mono (fun r h => ⟨fun c => (h c).2, sem_eq_zero_of_no_sems (by decide) r.2⟩)
    (Cert.DispatchReferenceIdeal.Value.run m ρ)

theorem frame_reference_bits : Cert.quiescent_DispatchReference := fun m ρ _ =>
  Cert.Ffn.run_eq ref_defs_eq ref_main_eq
    ((θ_run Cert.DispatchReferenceIdeal.defs _ _).mono (fun r h => ⟨fun c => (h c).2, sem_eq_zero_of_no_sems (by decide) r.2⟩)
      (Cert.DispatchReferenceIdeal.Value.run (F := Bits) m ρ))

section Values
variable {F : FTy → Type} [FloatOps F]
variable (m : (ℓ : Loc Cert.DispatchIdeal.nD Cert.DispatchIdeal.τ Cert.DispatchIdeal.sig) → Buf (Elt F) ℓ) (g : Dev Cert.DispatchIdeal.nD → PrngReg)
  (m' : (ℓ : Loc Cert.DispatchReferenceIdeal.nD Cert.DispatchReferenceIdeal.τ Cert.DispatchReferenceIdeal.sig) → Buf (Elt F) ℓ) (g' : Dev Cert.DispatchReferenceIdeal.nD → PrngReg)

/-- The kernel leaves the sorted rows in its result, over any values. -/
theorem kernel_value (hA : Apart m) :
    θ_run (Cert.DispatchIdeal.defs (F := F)) (onTc (τ := Cert.DispatchIdeal.τ) (Cert.DispatchIdeal.main (F := F))) ⟨m, fun _ => 0, g⟩ (fun r => ∀ c : Dev Cert.DispatchIdeal.nD,
      r.2.mem ((c.tc : Thread Cert.DispatchIdeal.nD Cert.DispatchIdeal.τ).loc Cert.DispatchIdeal.main_v1) = out (places m) (xOf m)
      ∧ r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)) := by
  refine (θ_run Cert.DispatchIdeal.defs _ _).mono (fun r hr c => ?_) (run_quiescent m g hA)
  obtain rfl : c = 0 := Subsingleton.elim c 0
  exact ⟨(result_of_post m hr.1 0).trans (array_value m hA), args_of_post m hr.1 0⟩

/-- So does the reference. -/
theorem reference_value (hA : Apart m)
    (e0 : m' (((0 : Dev Cert.DispatchReferenceIdeal.nD).tc : Thread Cert.DispatchReferenceIdeal.nD Cert.DispatchReferenceIdeal.τ).loc Cert.DispatchReferenceIdeal.main_arg0) = (places m : Cert.DispatchIdeal.S32768.Idx → BitVec 32))
    (e1 : m' (((0 : Dev Cert.DispatchReferenceIdeal.nD).tc : Thread Cert.DispatchReferenceIdeal.nD Cert.DispatchReferenceIdeal.τ).loc Cert.DispatchReferenceIdeal.main_arg1) = xOf m) :
    θ_run (Cert.DispatchReferenceIdeal.defs (F := F)) (onTc (τ := Cert.DispatchReferenceIdeal.τ) (Cert.DispatchReferenceIdeal.main (F := F))) ⟨m', fun _ => 0, g'⟩ (fun r => ∀ c : Dev Cert.DispatchReferenceIdeal.nD,
      r.2.mem ((c.tc : Thread Cert.DispatchReferenceIdeal.nD Cert.DispatchReferenceIdeal.τ).loc Cert.DispatchReferenceIdeal.main_v7) = out (places m) (xOf m)
      ∧ r.2.mem ((c.tc : Thread Cert.DispatchReferenceIdeal.nD Cert.DispatchReferenceIdeal.τ).loc Cert.DispatchReferenceIdeal.main_arg0) = m' ((c.tc : Thread Cert.DispatchReferenceIdeal.nD Cert.DispatchReferenceIdeal.τ).loc Cert.DispatchReferenceIdeal.main_arg0)
      ∧ r.2.mem ((c.tc : Thread Cert.DispatchReferenceIdeal.nD Cert.DispatchReferenceIdeal.τ).loc Cert.DispatchReferenceIdeal.main_arg1) = m' ((c.tc : Thread Cert.DispatchReferenceIdeal.nD Cert.DispatchReferenceIdeal.τ).loc Cert.DispatchReferenceIdeal.main_arg1)) := by
  refine (θ_run Cert.DispatchReferenceIdeal.defs _ _).mono (fun r hr c => ⟨(hr c).1.trans ?_, (hr c).2⟩) (Cert.DispatchReferenceIdeal.Value.run m' g')
  obtain rfl : c = 0 := Subsingleton.elim c 0
  refine (Cert.DispatchReferenceIdeal.Read.val_main_v7_eq _ _).trans ?_
  have key : ∀ (p : Cert.DispatchIdeal.S32768.Idx → BitVec 32) (x : Cert.DispatchIdeal.S32768x2304.Idx → F .f32),
      p = places m → x = xOf m → Cert.DispatchReferenceIdeal.Read.val_main_v7 (F := F) p x = out (places m) (xOf m) := by
    intro p x h0 h1
    subst h0 h1
    exact Ref.value _ _ hA.lt hA.inj
  exact key _ _ e0 e1

end Values

/-- Kernel and reference compute the same function over the extended reals. -/
theorem algebraic : Cert.algebraic_DispatchIdeal_DispatchReferenceIdeal_pre_apart := by
  intro m g m' g' h hargs
  have hA : Apart m := apart_of m (h 0)
  obtain ⟨e0, e1⟩ := hargs 0
  exact ⟨fun _ => out (places m) (xOf m), kernel_value m g hA, reference_value m m' g' hA (e0.trans (places_eq m).symm) e1⟩

/-- Kernel and reference compute the same bits. -/
theorem bitexact : Cert.bitexact_Dispatch_DispatchReference_pre_apart := by
  intro m g m' g' h hargs
  have hA : Apart (F := Bits) m := apart_of (F := Bits) m (h 0)
  obtain ⟨e0, e1⟩ := hargs 0
  exact ⟨fun _ => out (places (F := Bits) m) (xOf (F := Bits) m), Cert.Ffn.run_eq defs_eq main_eq (kernel_value (F := Bits) m g hA),
    Cert.Ffn.run_eq ref_defs_eq ref_main_eq (reference_value (F := Bits) m m' g' hA (e0.trans (places_eq (F := Bits) m).symm) e1)⟩

end Cert.Dispatching

end
-- ==== Proof.lean ====
/- The certificate of six calls of the layer: the experts' feed-forward, the input projection, the merge of the branches, the
   output projection, the collecting of the experts' results and the dispatching of the token rows. See NOTES.md. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_routed
public import proofs.«01_k».proof.Proof.Gen.Pre_routed_weighted
public import proofs.«01_k».proof.Proof.Gen.ReferenceIdeal.Read
public import proofs.«01_k».proof.Proof.Gen.InProjection
public import proofs.«01_k».proof.Proof.Gen.InProjectionIdeal
public import proofs.«01_k».proof.Proof.Gen.InProjectionIdeal.Value
public import proofs.«01_k».proof.Proof.Gen.InProjectionReferenceIdeal
public import proofs.«01_k».proof.Proof.Gen.InProjectionReferenceIdeal.Run
public import proofs.«01_k».proof.Proof.Gen.InProjectionReferenceIdeal.Read
public import proofs.«01_k».proof.Proof.Gen.Merge
public import proofs.«01_k».proof.Proof.Gen.MergeIdeal
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.OutProjection
public import proofs.«01_k».proof.Proof.Gen.OutProjectionIdeal
public import proofs.«01_k».proof.Proof.Gen.OutProjectionIdeal.Value
public import proofs.«01_k».proof.Proof.Gen.OutProjectionReferenceIdeal
public import proofs.«01_k».proof.Proof.Gen.OutProjectionReferenceIdeal.Run
public import proofs.«01_k».proof.Proof.Gen.OutProjectionReferenceIdeal.Read
public import proofs.«01_k».proof.Proof.Gen.Collect
public import proofs.«01_k».proof.Proof.Gen.Collect.Launch
public import proofs.«01_k».proof.Proof.Gen.CollectIdeal
public import proofs.«01_k».proof.Proof.Gen.CollectIdeal.Launch
public import proofs.«01_k».proof.Proof.Gen.CollectIdeal.Skeleton
public import proofs.«01_k».proof.Proof.Gen.CollectReferenceIdeal
public import proofs.«01_k».proof.Proof.Gen.CollectReferenceIdeal.Run
public import proofs.«01_k».proof.Proof.Gen.CollectReferenceIdeal.Read
public import proofs.«01_k».proof.Proof.Gen.Pre_placed
public import proofs.«01_k».proof.Proof.Gen.Dispatch
public import proofs.«01_k».proof.Proof.Gen.Dispatch.Launch
public import proofs.«01_k».proof.Proof.Gen.DispatchIdeal
public import proofs.«01_k».proof.Proof.Gen.DispatchIdeal.Launch
public import proofs.«01_k».proof.Proof.Gen.DispatchIdeal.Skeleton
public import proofs.«01_k».proof.Proof.Gen.DispatchReferenceIdeal
public import proofs.«01_k».proof.Proof.Gen.DispatchReferenceIdeal.Run
public import proofs.«01_k».proof.Proof.Gen.DispatchReferenceIdeal.Read
public import proofs.«01_k».proof.Proof.Gen.Pre_apart
public import proofs.«01_k».proof.Proof.Gen.Pre_inside
public import proofs.«01_k».proof.Proof.Gen.CollectReference
public import proofs.«01_k».proof.Proof.Gen.DispatchReference
public import proofs.«01_k».proof.Proof.Ffn.Same
public import proofs.«01_k».proof.Proof.Ffn.Reference
public import proofs.«01_k».proof.Proof.Ffn.Result
public import proofs.«01_k».proof.Proof.InProj.Claims
public import proofs.«01_k».proof.Proof.Merging.Claims
public import proofs.«01_k».proof.Proof.OutProj.Claims
public import proofs.«01_k».proof.Proof.Collecting.Claims
public import proofs.«01_k».proof.Proof.Dispatching.Claims

@[expose] public section

noncomputable section

namespace Cert.Proof

open Idealize.ShloMosaic Idealize.SL.Sem

theorem frame_kernel : Cert.quiescent_Kernel := Cert.Ffn.frame_kernel

theorem frame_ideal : Cert.quiescent_KernelIdeal := fun m ρ h =>
  Cert.Ffn.frame m ρ (Cert.Ffn.ok_of_lt m (Cert.Ffn.ok_of_routed (h 0)))

theorem frame_ideal_weighted : Cert.quiescent_KernelIdeal_pre_routed_weighted := fun m ρ h =>
  Cert.Ffn.frame m ρ (Cert.Ffn.ok_of_lt m (Cert.Ffn.ok_of_weighted (h 0).1))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The kernel run over the extended reals leaves the layer's weighted expert outputs in its result. -/
theorem kernel_value (m : (ℓ : Loc Cert.KernelIdeal.nD Cert.KernelIdeal.τ Cert.KernelIdeal.sig) → Buf (Elt Ideal) ℓ) (g : Dev Cert.KernelIdeal.nD → PrngReg)
    (h : Cert.Pre_KernelIdeal_routed_weighted m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v8) = (Cert.Ffn.layerOut m : Cert.Ffn.Sout.Idx → EReal)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) := by
  have hte := Cert.Ffn.ok_of_weighted (h 0).1
  have hO := Cert.Ffn.ok_of_lt m hte
  refine (θ_run Cert.KernelIdeal.defs _ _).mono (fun r hr c => ?_) (Cert.Ffn.run_quiescent m g hO)
  obtain rfl : c = 0 := Subsingleton.elim c 0
  exact ⟨((hr.1 0).1 4).trans (Cert.Ffn.array_value m hO hte (Cert.Ffn.weightA_ok (h 0).2.1) (Cert.Ffn.weightB_ok (h 0).2.2)), Cert.Ffn.args_of_post m hO hr.1 0⟩

/-- Kernel and reference compute the same function over the extended reals. -/
theorem algebraic : Cert.algebraic_KernelIdeal_ReferenceIdeal_pre_routed_weighted := by
  intro m g m' g' h hargs
  refine ⟨fun _ => (Cert.Ffn.layerOut m : Cert.Ffn.Sout.Idx → EReal), kernel_value m g h,
    (θ_run Cert.ReferenceIdeal.defs _ _).mono (fun r hr c => ⟨(hr c).1.trans ?_, (hr c).2⟩) (Cert.ReferenceIdeal.Value.run m' g')⟩
  obtain rfl : c = 0 := Subsingleton.elim c 0
  obtain ⟨e0, e1, e2, e3, e4, e5⟩ := hargs 0
  refine (Cert.ReferenceIdeal.Read.val_main_v262_eq (StableHlo.launchContents m' 0)).trans ?_
  have key : ∀ (x0 : Cert.Ffn.Spairs.Idx → BitVec 32) (x1 : Cert.Ffn.Stiles.Idx → BitVec 32) (x2 : Cert.Ffn.Stokens.Idx → EReal) (x3 x4 : Cert.Ffn.Sin.Idx → EReal) (x5 : Cert.Ffn.Sdown.Idx → EReal),
      x0 = Cert.Ffn.teOf m → x1 = Cert.Ffn.tvOf m → x2 = Cert.Ffn.xsOf m → x3 = Cert.Ffn.w1Of m → x4 = Cert.Ffn.w3Of m → x5 = Cert.Ffn.w2Of m →
      Cert.ReferenceIdeal.Read.val_main_v262 (F := Ideal) x0 x1 x2 x3 x4 x5
        = Cert.ReferenceIdeal.Read.val_main_v262 (F := Ideal) (Cert.Ffn.teOf m) (Cert.Ffn.tvOf m) (Cert.Ffn.xsOf m) (Cert.Ffn.w1Of m) (Cert.Ffn.w3Of m) (Cert.Ffn.w2Of m) := by
    intro x0 x1 x2 x3 x4 x5 h0 h1 h2 h3 h4 h5
    rw [h0, h1, h2, h3, h4, h5]
  refine (key _ _ _ _ _ _ e0 e1 e2 e3 e4 e5).trans ?_
  exact Cert.Ffn.Ref.result_apply _ _ _ _ _ _ (Cert.Ffn.ok_of_weighted (h 0).1) (fun R => (Cert.Ffn.weightA_ok (h 0).2.1 R).1) (fun R => (Cert.Ffn.weightB_ok (h 0).2.2 R).1)

theorem claim : Cert.Claim := ⟨Cert.Kernel.Gen.facts, Cert.KernelIdeal.Gen.facts, Cert.ReferenceIdeal.Gen.facts, Cert.InProjection.Gen.facts, Cert.InProjectionIdeal.Gen.facts, Cert.InProjectionReferenceIdeal.Gen.facts,
  Cert.Merge.Gen.facts, Cert.MergeIdeal.Gen.facts, Cert.MergeReferenceIdeal.Gen.facts, Cert.OutProjection.Gen.facts, Cert.OutProjectionIdeal.Gen.facts, Cert.OutProjectionReferenceIdeal.Gen.facts,
  Cert.Collect.Gen.facts, Cert.CollectIdeal.Gen.facts, Cert.CollectReferenceIdeal.Gen.facts, Cert.CollectReference.Gen.facts,
  Cert.Dispatch.Gen.facts, Cert.DispatchIdeal.Gen.facts, Cert.DispatchReferenceIdeal.Gen.facts, Cert.DispatchReference.Gen.facts,
  Cert.Pre_routed.Gen.facts, Cert.Pre_routed_weighted.Gen.facts, Cert.Pre_placed.Gen.facts, Cert.Pre_inside.Gen.facts, Cert.Pre_apart.Gen.facts,
  frame_kernel, frame_ideal, frame_ideal_weighted, frame_reference, fun m ρ _ => frame_reference m ρ trivial,
  Cert.InProj.frame_kernel, Cert.InProj.frame_ideal, Cert.InProj.frame_reference,
  Cert.Merging.frame_kernel, Cert.Merging.frame_ideal, Cert.Merging.frame_reference,
  Cert.OutProj.frame_kernel, Cert.OutProj.frame_ideal, Cert.OutProj.frame_reference,
  Cert.Collecting.frame_kernel, Cert.Collecting.frame_ideal, Cert.Collecting.frame_reference, fun m ρ _ => Cert.Collecting.frame_reference m ρ trivial, Cert.Collecting.frame_reference_bits, fun m ρ _ => Cert.Collecting.frame_reference_bits m ρ trivial,
  Cert.Dispatching.frame_kernel, Cert.Dispatching.frame_kernel_apart, Cert.Dispatching.frame_ideal, Cert.Dispatching.frame_ideal_apart,
  Cert.Dispatching.frame_reference, fun m ρ _ => Cert.Dispatching.frame_reference m ρ trivial, Cert.Dispatching.frame_reference_bits, fun m ρ _ => Cert.Dispatching.frame_reference_bits m ρ trivial,
  trivial, algebraic, trivial, Cert.InProj.algebraic, trivial, Cert.Merging.algebraic, trivial, Cert.OutProj.algebraic, trivial, Cert.Collecting.algebraic, Cert.Collecting.bitexact,
  trivial, Cert.Dispatching.algebraic, Cert.Dispatching.bitexact⟩

end Cert.Proof

end
